-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 8192]⟩ ⟨2, ![4096, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8192 : Shape := ⟨2, ![4096, 8192]⟩
abbrev S4096x4096 : Shape := ⟨2, ![4096, 4096]⟩
abbrev S1024x8192 : Shape := ⟨2, ![1024, 8192]⟩
abbrev S2x256x8192 : Shape := ⟨3, ![2, 256, 8192]⟩
abbrev S2x1024x256 : Shape := ⟨3, ![2, 1024, 256]⟩
abbrev S_ : Shape := ⟨0, ![]⟩
abbrev S2 : Shape := ⟨1, ![2]⟩
abbrev S16 : Shape := ⟨1, ![16]⟩
abbrev S1 : Shape := ⟨1, ![1]⟩
abbrev S1x256x8192 : Shape := ⟨3, ![1, 256, 8192]⟩
abbrev S256x8192 : Shape := ⟨2, ![256, 8192]⟩
abbrev S1x1024x256 : Shape := ⟨3, ![1, 1024, 256]⟩
abbrev S1024x256 : Shape := ⟨2, ![1024, 256]⟩
abbrev S1024x128 : Shape := ⟨2, ![1024, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x4096, .f32⟩
  | .local _ .vmem, ⟨0, _⟩ => ⟨S1024x8192, .f32⟩
  | .local _ .vmem, ⟨1, _⟩ => ⟨S2x256x8192, .f32⟩
  | .local _ .vmem, ⟨2, _⟩ => ⟨S2x1024x256, .f32⟩
  | .local _ .vmem, ⟨3, _⟩ => ⟨S2x1024x256, .f32⟩
  | _, _ => ⟨S4096x8192, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => true
  | ⟨1, _⟩ => false
  | _ => false

abbrev dmaSemScoped : Fin 165 → Bool
  | ⟨i, _⟩ => dmaSemScopedAt i

abbrev sig : RefSig :=
  (ofTc nBuf bufTy 2 165 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_14 : BitVec 32 := 4#32
  let v24 : BitVec 32 := Scalar.muli v19 c4_i32_14
  let v25 : BitVec 32 := Scalar.addi c0_i32 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v26 : BitVec 32 := Scalar.muli v5 c2_i32_15
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v28 : BitVec 32 := Scalar.muli v8 c1_i32_16
  let v29 : BitVec 32 := Scalar.addi v27 v28
  v29.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v30 : BitVec 32 := Scalar.muli v2 c4_i32_18
  let v31 : BitVec 32 := Scalar.addi c0_i32_19 v30
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_20 : BitVec 32 := 2#32
  let v32 : BitVec 32 := Scalar.muli v17 c2_i32_20
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v34 : BitVec 32 := Scalar.muli v8 c1_i32_21
  let v35 : BitVec 32 := Scalar.addi v33 v34
  v35.toNat
def k0_dev3 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v36 : BitVec 32 := Scalar.muli v2 c4_i32_23
  let v37 : BitVec 32 := Scalar.addi c0_i32_24 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v38 : BitVec 32 := Scalar.muli v5 c2_i32_25
  let v39 : BitVec 32 := Scalar.addi v37 v38
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_26 : BitVec 32 := 1#32
  let v40 : BitVec 32 := Scalar.muli v18 c1_i32_26
  let v41 : BitVec 32 := Scalar.addi v39 v40
  v41.toNat
def k0_off1 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v20 : BitVec 32 := Scalar.muli v10 c1024_i32
  let c0_i32_27 : BitVec 32 := 0#32
  ![v20.toNat, 0]
@[reducible] def k0_t1_loop : Scf.Loop 32 :=
  let c0_i32_35 : BitVec 32 := 0#32
  let c16_i32 : BitVec 32 := 16#32
  let v49 : BitVec 32 := Scalar.addi c0_i32_35 c16_i32
  let c1_i32_36 : BitVec 32 := 1#32
  ⟨c0_i32_35, v49, c1_i32_36⟩
def k0_cond1 (k0_t1 : Fin k0_t1_loop.trips) : BitVec 1 :=
  let c0_i32_35 : BitVec 32 := 0#32
  let c1_i32_36 : BitVec 32 := 1#32
  let arg21 : BitVec 32 := Scf.iv c0_i32_35 c1_i32_36 k0_t1
  let c1_i32_278 : BitVec 32 := 1#32
  let v320 : BitVec 32 := Scalar.addi arg21 c1_i32_278
  let c16_i32_279 : BitVec 32 := 16#32
  let v321 : BitVec 1 := Scalar.cmpi .slt v320 c16_i32_279
  let v322 : BitVec 32 := Scalar.extui v321
  let c0_i32_280 : BitVec 32 := 0#32
  let v323 : BitVec 1 := Scalar.cmpi .ne v322 c0_i32_280
  v323

def k0_off2 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.addi arg21 c1_i32_312
  let c2_i32_315 : BitVec 32 := 2#32
  let v375 : BitVec 32 := Scalar.remsi v372 c2_i32_315
  ![v375.toNat]
def k0_off3 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.addi arg21 c1_i32_312
  let c2_i32_314 : BitVec 32 := 2#32
  let v374 : BitVec 32 := Scalar.remsi v372 c2_i32_314
  let c0_i32_316 : BitVec 32 := 0#32
  let c0_i32_317 : BitVec 32 := 0#32
  ![v374.toNat, 0, 0]
def k0_off4 (k0_t1 : Fin k0_t1_loop.trips) : Fin 2 → Nat :=
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.addi arg21 c1_i32_312
  let c256_i32_313 : BitVec 32 := 256#32
  let v373 : BitVec 32 := Scalar.muli v372 c256_i32_313
  let c0_i32_318 : BitVec 32 := 0#32
  ![v373.toNat, 0]
def k0_cond2 (k0_t1 : Fin k0_t1_loop.trips) : BitVec 1 :=
  let c0_i32_35 : BitVec 32 := 0#32
  let c1_i32_36 : BitVec 32 := 1#32
  let arg21 : BitVec 32 := Scf.iv c0_i32_35 c1_i32_36 k0_t1
  let c2_i32_281 : BitVec 32 := 2#32
  let v324 : BitVec 1 := Scalar.cmpi .sge arg21 c2_i32_281
  let v325 : BitVec 32 := Scalar.extui v324
  let c0_i32_282 : BitVec 32 := 0#32
  let v326 : BitVec 1 := Scalar.cmpi .ne v325 c0_i32_282
  v326

def k0_off5 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  ![v372.toNat]
def k0_off6 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  let c2_i32_313 : BitVec 32 := 2#32
  let v373 : BitVec 32 := Scalar.remsi v372 c2_i32_313
  let c0_i32_316 : BitVec 32 := 0#32
  let c0_i32_317 : BitVec 32 := 0#32
  ![v373.toNat, 0, 0]
def k0_off7 (d0 : Dev nD) (k0_t1 : Fin k0_t1_loop.trips) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v20 : BitVec 32 := Scalar.muli v10 c1024_i32
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  let c256_i32_314 : BitVec 32 := 256#32
  let v374 : BitVec 32 := Scalar.muli v372 c256_i32_314
  ![v20.toNat, v374.toNat]
def k0_off8 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  let c2_i32_325 : BitVec 32 := 2#32
  let v389 : BitVec 32 := Scalar.remsi v372 c2_i32_325
  ![v389.toNat]
def k0_off9 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c2_i32_284 : BitVec 32 := 2#32
  let v329 : BitVec 32 := Scalar.remsi arg21 c2_i32_284
  ![v329.toNat]
def k0_off10 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c2_i32_283 : BitVec 32 := 2#32
  let v328 : BitVec 32 := Scalar.remsi arg21 c2_i32_283
  let c0_i32_285 : BitVec 32 := 0#32
  let c0_i32_286 : BitVec 32 := 0#32
  ![v328.toNat, 0, 0]
def k0_off11 (k0_t1 : Fin k0_t1_loop.trips) : Fin 2 → Nat :=
  let c0_i32_35 : BitVec 32 := 0#32
  let c1_i32_36 : BitVec 32 := 1#32
  let arg21 : BitVec 32 := Scf.iv c0_i32_35 c1_i32_36 k0_t1
  let c256_i32 : BitVec 32 := 256#32
  let v327 : BitVec 32 := Scalar.muli arg21 c256_i32
  let c0_i32_287 : BitVec 32 := 0#32
  ![v327.toNat, 0]
def k0_off12 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c2_i32_277 : BitVec 32 := 2#32
  let v319 : BitVec 32 := Scalar.remsi arg21 c2_i32_277
  let v336 : Index := Scalar.indexCast v319
  let c0_290 : Index := 0#32
  let c0_291 : Index := 0#32
  ![v336.toNat, 0, 0]
def k0_off13 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c2_i32_277 : BitVec 32 := 2#32
  let v319 : BitVec 32 := Scalar.remsi arg21 c2_i32_277
  let v340 : Index := Scalar.indexCast v319
  let c0_292 : Index := 0#32
  let c0_293 : Index := 0#32
  ![v340.toNat, 0, 0]
def k0_off14 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  ![arg21.toNat]
def k0_off15 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c2_i32_297 : BitVec 32 := 2#32
  let v348 : BitVec 32 := Scalar.remsi arg21 c2_i32_297
  let c0_i32_302 : BitVec 32 := 0#32
  let c0_i32_303 : BitVec 32 := 0#32
  ![v348.toNat, 0, 0]
def k0_dev4 (d0 : Dev nD) : Nat :=
  let c0_i32_299 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_298 : BitVec 32 := 4#32
  let v349 : BitVec 32 := Scalar.muli v2 c4_i32_298
  let v350 : BitVec 32 := Scalar.addi c0_i32_299 v349
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_300 : BitVec 32 := 2#32
  let v351 : BitVec 32 := Scalar.muli v17 c2_i32_300
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_301 : BitVec 32 := 1#32
  let v353 : BitVec 32 := Scalar.muli v8 c1_i32_301
  let v354 : BitVec 32 := Scalar.addi v352 v353
  v354.toNat
def k0_cond4 (k0_t1 : Fin k0_t1_loop.trips) : BitVec 1 :=
  let c0_i32_35 : BitVec 32 := 0#32
  let c1_i32_36 : BitVec 32 := 1#32
  let arg21 : BitVec 32 := Scf.iv c0_i32_35 c1_i32_36 k0_t1
  let c1_i32_306 : BitVec 32 := 1#32
  let v363 : BitVec 1 := Scalar.cmpi .sge arg21 c1_i32_306
  let v364 : BitVec 32 := Scalar.extui v363
  let c0_i32_307 : BitVec 32 := 0#32
  let v365 : BitVec 1 := Scalar.cmpi .ne v364 c0_i32_307
  v365

def k0_off16 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.subi arg21 c1_i32_312
  ![v372.toNat]
def k0_off17 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.subi arg21 c1_i32_312
  let c2_i32_314 : BitVec 32 := 2#32
  let v374 : BitVec 32 := Scalar.remsi v372 c2_i32_314
  let c0_i32_317 : BitVec 32 := 0#32
  let c0_i32_318 : BitVec 32 := 0#32
  ![v374.toNat, 0, 0]
def k0_off18 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.subi arg21 c1_i32_312
  let c2_i32_313 : BitVec 32 := 2#32
  let v373 : BitVec 32 := Scalar.remsi v372 c2_i32_313
  let v396 : Index := Scalar.indexCast v373
  let c0_331 : Index := 0#32
  let c0_332 : Index := 0#32
  ![v396.toNat, 0, 0]
def k0_dev5 (d0 : Dev nD) : Nat :=
  let c0_i32_339 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_338 : BitVec 32 := 4#32
  let v407 : BitVec 32 := Scalar.muli v2 c4_i32_338
  let v408 : BitVec 32 := Scalar.addi c0_i32_339 v407
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_340 : BitVec 32 := 2#32
  let v409 : BitVec 32 := Scalar.muli v17 c2_i32_340
  let v410 : BitVec 32 := Scalar.addi v408 v409
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_341 : BitVec 32 := 1#32
  let v411 : BitVec 32 := Scalar.muli v8 c1_i32_341
  let v412 : BitVec 32 := Scalar.addi v410 v411
  v412.toNat
def k0_off19 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.subi arg21 c1_i32_312
  let c2_i32_344 : BitVec 32 := 2#32
  let v415 : BitVec 32 := Scalar.remsi v372 c2_i32_344
  ![v415.toNat]
def k0_off20 (d0 : Dev nD) (k0_t1 : Fin k0_t1_loop.trips) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v20 : BitVec 32 := Scalar.muli v10 c1024_i32
  let c0_i32_35 : BitVec 32 := 0#32
  let c1_i32_36 : BitVec 32 := 1#32
  let arg21 : BitVec 32 := Scf.iv c0_i32_35 c1_i32_36 k0_t1
  let c1_i32_312 : BitVec 32 := 1#32
  let v372 : BitVec 32 := Scalar.subi arg21 c1_i32_312
  let c256_i32_343 : BitVec 32 := 256#32
  let v414 : BitVec 32 := Scalar.muli v372 c256_i32_343
  ![v20.toNat, v414.toNat]
def k0_dev6 (d0 : Dev nD) : Nat :=
  let c0_i32_350 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_349 : BitVec 32 := 4#32
  let v423 : BitVec 32 := Scalar.muli v2 c4_i32_349
  let v424 : BitVec 32 := Scalar.addi c0_i32_350 v423
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_351 : BitVec 32 := 2#32
  let v425 : BitVec 32 := Scalar.muli v5 c2_i32_351
  let v426 : BitVec 32 := Scalar.addi v424 v425
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_352 : BitVec 32 := 1#32
  let v427 : BitVec 32 := Scalar.muli v18 c1_i32_352
  let v428 : BitVec 32 := Scalar.addi v426 v427
  v428.toNat
def k0_dev7 (d0 : Dev nD) : Nat :=
  let c0_i32_358 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_357 : BitVec 32 := 4#32
  let v438 : BitVec 32 := Scalar.muli v19 c4_i32_357
  let v439 : BitVec 32 := Scalar.addi c0_i32_358 v438
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v440 : BitVec 32 := Scalar.muli v5 c2_i32_359
  let v441 : BitVec 32 := Scalar.addi v439 v440
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_360 : BitVec 32 := 1#32
  let v442 : BitVec 32 := Scalar.muli v8 c1_i32_360
  let v443 : BitVec 32 := Scalar.addi v441 v442
  v443.toNat
def k0_cond5 (k0_t1 : Fin k0_t1_loop.trips) : BitVec 1 :=
  let c0_i32_35 : BitVec 32 := 0#32
  let c1_i32_36 : BitVec 32 := 1#32
  let arg21 : BitVec 32 := Scf.iv c0_i32_35 c1_i32_36 k0_t1
  let c2_i32_308 : BitVec 32 := 2#32
  let v366 : BitVec 1 := Scalar.cmpi .sge arg21 c2_i32_308
  let v367 : BitVec 32 := Scalar.extui v366
  let c0_i32_309 : BitVec 32 := 0#32
  let v368 : BitVec 1 := Scalar.cmpi .ne v367 c0_i32_309
  v368

def k0_off21 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  ![v372.toNat]
def k0_off22 (d0 : Dev nD) (k0_t1 : Fin k0_t1_loop.trips) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v20 : BitVec 32 := Scalar.muli v10 c1024_i32
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  let c256_i32_314 : BitVec 32 := 256#32
  let v374 : BitVec 32 := Scalar.muli v372 c256_i32_314
  ![v20.toNat, v374.toNat]
def k0_off23 (k0_t1 : Fin k0_t1_loop.trips) : Fin 3 → Nat :=
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  let c2_i32_313 : BitVec 32 := 2#32
  let v373 : BitVec 32 := Scalar.remsi v372 c2_i32_313
  let c0_i32_319 : BitVec 32 := 0#32
  let c0_i32_320 : BitVec 32 := 0#32
  ![v373.toNat, 0, 0]
def k0_off24 (d0 : Dev nD) (k0_t1 : Fin k0_t1_loop.trips) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c2_i32_4 v2
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c1024_i32_11 : BitVec 32 := 1024#32
  let v21 : BitVec 32 := Scalar.muli v13 c1024_i32_11
  let c0_i32_35 : BitVec 32 := 0#32
  let c1_i32_36 : BitVec 32 := 1#32
  let arg21 : BitVec 32 := Scf.iv c0_i32_35 c1_i32_36 k0_t1
  let c2_i32_312 : BitVec 32 := 2#32
  let v372 : BitVec 32 := Scalar.subi arg21 c2_i32_312
  let c256_i32_322 : BitVec 32 := 256#32
  let v387 : BitVec 32 := Scalar.muli v372 c256_i32_322
  ![v21.toNat, v387.toNat]
def k0_dev8 (d0 : Dev nD) : Nat :=
  let c0_i32_324 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_323 : BitVec 32 := 4#32
  let v388 : BitVec 32 := Scalar.muli v19 c4_i32_323
  let v389 : BitVec 32 := Scalar.addi c0_i32_324 v388
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v390 : BitVec 32 := Scalar.muli v5 c2_i32_325
  let v391 : BitVec 32 := Scalar.addi v389 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v392 : BitVec 32 := Scalar.muli v8 c1_i32_326
  let v393 : BitVec 32 := Scalar.addi v391 v392
  v393.toNat
def k0_off25 (d0 : Dev nD) (k0_t1 : Fin k0_t1_loop.trips) : Fin 2 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_12 : BitVec 32 := 1024#32
  let v22 : BitVec 32 := Scalar.muli v16 c1024_i32_12
  let c0_i32_35 : BitVec 32 := 0#32
  let c1_i32_36 : BitVec 32 := 1#32
  let arg21 : BitVec 32 := Scf.iv c0_i32_35 c1_i32_36 k0_t1
  let c2_i32_327 : BitVec 32 := 2#32
  let v400 : BitVec 32 := Scalar.subi arg21 c2_i32_327
  let c256_i32_337 : BitVec 32 := 256#32
  let v416 : BitVec 32 := Scalar.muli v400 c256_i32_337
  let c128_i32_338 : BitVec 32 := 128#32
  let v417 : BitVec 32 := Scalar.addi v416 c128_i32_338
  ![v22.toNat, v417.toNat]
def k0_dev9 (d0 : Dev nD) : Nat :=
  let c0_i32_340 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_339 : BitVec 32 := 4#32
  let v418 : BitVec 32 := Scalar.muli v2 c4_i32_339
  let v419 : BitVec 32 := Scalar.addi c0_i32_340 v418
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_341 : BitVec 32 := 2#32
  let v420 : BitVec 32 := Scalar.muli v5 c2_i32_341
  let v421 : BitVec 32 := Scalar.addi v419 v420
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_342 : BitVec 32 := 1#32
  let v422 : BitVec 32 := Scalar.muli v18 c1_i32_342
  let v423 : BitVec 32 := Scalar.addi v421 v422
  v423.toNat
def k0_cond6 (k0_t1 : Fin k0_t1_loop.trips) : BitVec 1 :=
  let c0_i32_35 : BitVec 32 := 0#32
  let c1_i32_36 : BitVec 32 := 1#32
  let arg21 : BitVec 32 := Scf.iv c0_i32_35 c1_i32_36 k0_t1
  let c3_i32_310 : BitVec 32 := 3#32
  let v369 : BitVec 1 := Scalar.cmpi .sge arg21 c3_i32_310
  let v370 : BitVec 32 := Scalar.extui v369
  let c0_i32_311 : BitVec 32 := 0#32
  let v371 : BitVec 1 := Scalar.cmpi .ne v370 c0_i32_311
  v371

def k0_off26 (k0_t1 : Fin k0_t1_loop.trips) : Fin 1 → Nat :=
  let c0_i32_35 : BitVec 32 := 0#32
  let c1_i32_36 : BitVec 32 := 1#32
  let arg21 : BitVec 32 := Scf.iv c0_i32_35 c1_i32_36 k0_t1
  let c3_i32_312 : BitVec 32 := 3#32
  let v372 : BitVec 32 := Scalar.subi arg21 c3_i32_312
  ![v372.toNat]
def k0_off27 (d0 : Dev nD) (k0_t1 : Fin k0_t1_loop.trips) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c2_i32_4 v2
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c1024_i32_11 : BitVec 32 := 1024#32
  let v21 : BitVec 32 := Scalar.muli v13 c1024_i32_11
  let c0_i32_35 : BitVec 32 := 0#32
  let c1_i32_36 : BitVec 32 := 1#32
  let arg21 : BitVec 32 := Scf.iv c0_i32_35 c1_i32_36 k0_t1
  let c3_i32_312 : BitVec 32 := 3#32
  let v372 : BitVec 32 := Scalar.subi arg21 c3_i32_312
  let c256_i32_314 : BitVec 32 := 256#32
  let v374 : BitVec 32 := Scalar.muli v372 c256_i32_314
  ![v21.toNat, v374.toNat]
def k0_off28 (d0 : Dev nD) (k0_t1 : Fin k0_t1_loop.trips) : Fin 2 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_12 : BitVec 32 := 1024#32
  let v22 : BitVec 32 := Scalar.muli v16 c1024_i32_12
  let c0_i32_35 : BitVec 32 := 0#32
  let c1_i32_36 : BitVec 32 := 1#32
  let arg21 : BitVec 32 := Scf.iv c0_i32_35 c1_i32_36 k0_t1
  let c3_i32_312 : BitVec 32 := 3#32
  let v372 : BitVec 32 := Scalar.subi arg21 c3_i32_312
  let c256_i32_320 : BitVec 32 := 256#32
  let v387 : BitVec 32 := Scalar.muli v372 c256_i32_320
  let c128_i32_321 : BitVec 32 := 128#32
  let v388 : BitVec 32 := Scalar.addi v387 c128_i32_321
  ![v22.toNat, v388.toNat]
def k0_dev10 (d0 : Dev nD) : Nat :=
  let c0_i32_67 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_66 : BitVec 32 := 4#32
  let v76 : BitVec 32 := Scalar.muli v2 c4_i32_66
  let v77 : BitVec 32 := Scalar.addi c0_i32_67 v76
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_68 : BitVec 32 := 2#32
  let v78 : BitVec 32 := Scalar.muli v17 c2_i32_68
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v80 : BitVec 32 := Scalar.muli v8 c1_i32_69
  let v81 : BitVec 32 := Scalar.addi v79 v80
  v81.toNat
def k0_off29 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v20 : BitVec 32 := Scalar.muli v10 c1024_i32
  let c3840_i32 : BitVec 32 := 3840#32
  ![v20.toNat, 3840]
def k0_dev11 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v87 : BitVec 32 := Scalar.muli v2 c4_i32_77
  let v88 : BitVec 32 := Scalar.addi c0_i32_78 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v89 : BitVec 32 := Scalar.muli v5 c2_i32_79
  let v90 : BitVec 32 := Scalar.addi v88 v89
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_80 : BitVec 32 := 1#32
  let v91 : BitVec 32 := Scalar.muli v18 c1_i32_80
  let v92 : BitVec 32 := Scalar.addi v90 v91
  v92.toNat
def k0_dev12 (d0 : Dev nD) : Nat :=
  let c0_i32_88 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_87 : BitVec 32 := 4#32
  let v100 : BitVec 32 := Scalar.muli v19 c4_i32_87
  let v101 : BitVec 32 := Scalar.addi c0_i32_88 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v102 : BitVec 32 := Scalar.muli v5 c2_i32_89
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_90 : BitVec 32 := 1#32
  let v104 : BitVec 32 := Scalar.muli v8 c1_i32_90
  let v105 : BitVec 32 := Scalar.addi v103 v104
  v105.toNat
def k0_off30 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c1024_i32 : BitVec 32 := 1024#32
  let v20 : BitVec 32 := Scalar.muli v10 c1024_i32
  let c3584_i32 : BitVec 32 := 3584#32
  ![v20.toNat, 3584]
def k0_off31 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c2_i32_4 v2
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c1024_i32_11 : BitVec 32 := 1024#32
  let v21 : BitVec 32 := Scalar.muli v13 c1024_i32_11
  let c3584_i32_108 : BitVec 32 := 3584#32
  ![v21.toNat, 3584]
def k0_dev13 (d0 : Dev nD) : Nat :=
  let c0_i32_105 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_104 : BitVec 32 := 4#32
  let v124 : BitVec 32 := Scalar.muli v19 c4_i32_104
  let v125 : BitVec 32 := Scalar.addi c0_i32_105 v124
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v126 : BitVec 32 := Scalar.muli v5 c2_i32_106
  let v127 : BitVec 32 := Scalar.addi v125 v126
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_107 : BitVec 32 := 1#32
  let v128 : BitVec 32 := Scalar.muli v8 c1_i32_107
  let v129 : BitVec 32 := Scalar.addi v127 v128
  v129.toNat
def k0_off32 (d0 : Dev nD) : Fin 2 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_12 : BitVec 32 := 1024#32
  let v22 : BitVec 32 := Scalar.muli v16 c1024_i32_12
  let c3712_i32 : BitVec 32 := 3712#32
  ![v22.toNat, 3712]
def k0_dev14 (d0 : Dev nD) : Nat :=
  let c0_i32_123 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_122 : BitVec 32 := 4#32
  let v147 : BitVec 32 := Scalar.muli v2 c4_i32_122
  let v148 : BitVec 32 := Scalar.addi c0_i32_123 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_124 : BitVec 32 := 2#32
  let v149 : BitVec 32 := Scalar.muli v5 c2_i32_124
  let v150 : BitVec 32 := Scalar.addi v148 v149
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_125 : BitVec 32 := 1#32
  let v151 : BitVec 32 := Scalar.muli v18 c1_i32_125
  let v152 : BitVec 32 := Scalar.addi v150 v151
  v152.toNat
def k0_off33 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c2_i32_4 v2
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c1024_i32_11 : BitVec 32 := 1024#32
  let v21 : BitVec 32 := Scalar.muli v13 c1024_i32_11
  let c3840_i32_143 : BitVec 32 := 3840#32
  ![v21.toNat, 3840]
def k0_dev15 (d0 : Dev nD) : Nat :=
  let c0_i32_140 : BitVec 32 := 0#32
  let c1_i32_10 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.subi c1_i32_10 v2
  let c4_i32_139 : BitVec 32 := 4#32
  let v170 : BitVec 32 := Scalar.muli v19 c4_i32_139
  let v171 : BitVec 32 := Scalar.addi c0_i32_140 v170
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v172 : BitVec 32 := Scalar.muli v5 c2_i32_141
  let v173 : BitVec 32 := Scalar.addi v171 v172
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v174 : BitVec 32 := Scalar.muli v8 c1_i32_142
  let v175 : BitVec 32 := Scalar.addi v173 v174
  v175.toNat
def k0_off34 (d0 : Dev nD) : Fin 2 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_12 : BitVec 32 := 1024#32
  let v22 : BitVec 32 := Scalar.muli v16 c1024_i32_12
  let c3968_i32 : BitVec 32 := 3968#32
  ![v22.toNat, 3968]
def k0_dev16 (d0 : Dev nD) : Nat :=
  let c0_i32_158 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_157 : BitVec 32 := 4#32
  let v193 : BitVec 32 := Scalar.muli v2 c4_i32_157
  let v194 : BitVec 32 := Scalar.addi c0_i32_158 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_159 : BitVec 32 := 2#32
  let v195 : BitVec 32 := Scalar.muli v5 c2_i32_159
  let v196 : BitVec 32 := Scalar.addi v194 v195
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_9 v8
  let c1_i32_160 : BitVec 32 := 1#32
  let v197 : BitVec 32 := Scalar.muli v18 c1_i32_160
  let v198 : BitVec 32 := Scalar.addi v196 v197
  v198.toNat
def k0_off35 (d0 : Dev nD) : Fin 2 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c2_i32_4 v2
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_5 v8
  let v13 : BitVec 32 := Scalar.addi v11 v12
  let c1024_i32_11 : BitVec 32 := 1024#32
  let v21 : BitVec 32 := Scalar.muli v13 c1024_i32_11
  let c3328_i32 : BitVec 32 := 3328#32
  ![v21.toNat, 3328]
def k0_off36 (d0 : Dev nD) : Fin 2 → Nat :=
  let c2_i32_7 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_6 v2
  let v15 : BitVec 32 := Scalar.muli c2_i32_7 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_12 : BitVec 32 := 1024#32
  let v22 : BitVec 32 := Scalar.muli v16 c1024_i32_12
  let c3456_i32 : BitVec 32 := 3456#32
  ![v22.toNat, 3456]
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x4096, .f32⟩
  | .hbm, ⟨3, _⟩ => ⟨S4096x4096, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Base.lean ====
/-
# The mesh, the offsets and the views

Device `d` of the 2 × 2 × 2 mesh is `d = 4x + 2y + z`. `xn`, `yn`, `zn` are its neighbours along the axes; the
output's four row blocks of 1024 rows are numbered `2x + z`: `bown` is the device's own block, `bz`, `bx` the blocks of
its `z` and `x` neighbours and `bd` the block of the diagonal one. The names below spell the kernel's views in one
closed form each: a slot of a two-slot buffer (`pcV`, `yrV`, `wvV`), rows of an operand (`dyV`, `waV`), and a
1024 × 256 (`outV`) or 1024 × 128 (`outH`) window of the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Rounds
public import Idealize.ShloMosaic.Lib.Release
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Neighbours and row blocks -/

/-- The neighbour across the `x` axis. -/
noncomputable def xn (d : Dev nD) : Dev nD := ⟨2 * ((d.val / 2) % 2) + (d.val % 2) + 4 - 4 * (d.val / 4), by have h : d.val < 8 := d.isLt; show _ < 8; omega⟩
/-- The neighbour across the `y` axis. -/
noncomputable def yn (d : Dev nD) : Dev nD := ⟨4 * (d.val / 4) + (d.val % 2) + 2 - 2 * ((d.val / 2) % 2), by have h : d.val < 8 := d.isLt; show _ < 8; omega⟩
/-- The neighbour across the `z` axis. -/
noncomputable def zn (d : Dev nD) : Dev nD := ⟨4 * (d.val / 4) + 2 * ((d.val / 2) % 2) + 1 - (d.val % 2), by have h : d.val < 8 := d.isLt; show _ < 8; omega⟩

theorem xn_xn (d : Dev nD) : xn (xn d) = d := by revert d; decide
theorem yn_yn (d : Dev nD) : yn (yn d) = d := by revert d; decide
theorem zn_zn (d : Dev nD) : zn (zn d) = d := by revert d; decide

/-- The neighbours, each as a permutation of the devices. -/
noncomputable def xE : Dev nD ≃ Dev nD := ⟨xn, xn, xn_xn, xn_xn⟩
noncomputable def yE : Dev nD ≃ Dev nD := ⟨yn, yn, yn_yn, yn_yn⟩
noncomputable def zE : Dev nD ≃ Dev nD := ⟨zn, zn, zn_zn, zn_zn⟩

/-- The device's place on the `y` axis. -/
noncomputable def yy (d : Dev nD) : ℕ := d.val / 2 % 2
/-- The device's own row block. -/
noncomputable def bown (d : Dev nD) : Fin 4 := ⟨2 * (d.val / 4) + d.val % 2, by have h : d.val < 8 := d.isLt; show _ < 4; omega⟩
/-- The row block of its `z` neighbour, of its `x` neighbour, and of the one across both. -/
noncomputable def bz (d : Dev nD) : Fin 4 := bown (zn d)
noncomputable def bx (d : Dev nD) : Fin 4 := bown (xn d)
noncomputable def bd (d : Dev nD) : Fin 4 := bown (zn (xn d))
/-- The device at place `y` that owns row block `b`. -/
noncomputable def devOf (y : ℕ) (b : Fin 4) : Dev nD := ⟨4 * (b.val / 2) + 2 * (y % 2) + b.val % 2, by have h : b.val < 4 := b.isLt; show _ < 8; omega⟩

theorem devOf_bown (d : Dev nD) : devOf (yy d) (bown d) = d := by revert d; decide
theorem devOf_bz (d : Dev nD) : devOf (yy d) (bz d) = zn d := by revert d; decide
theorem yy_xn (d : Dev nD) : yy (xn d) = yy d := by revert d; decide
theorem yy_zn (d : Dev nD) : yy (zn d) = yy d := by revert d; decide
theorem bz_zn (d : Dev nD) : bz (zn d) = bown d := by revert d; decide
theorem bx_xn (d : Dev nD) : bx (xn d) = bown d := by revert d; decide
theorem bd_xn (d : Dev nD) : bd (xn d) = bz d := by revert d; decide
theorem bd_zn (d : Dev nD) : bd (zn d) = bx d := by revert d; decide
theorem bz_xn (d : Dev nD) : bz (xn d) = bd d := by revert d; decide
theorem bx_zn (d : Dev nD) : bx (zn d) = bd d := by revert d; decide
theorem bown_inj4 (d : Dev nD) : Function.Bijective (![bown d, bz d, bx d, bd d] : Fin 4 → Fin 4) := by revert d; decide

/-! ## The semaphores -/

/-- Entry `j` of the kernel's `a`-th array of sixteen DMA semaphores (the arrays in the order of the operands: the two
    of the exchange along `y`, of the two whole-window copies along `z` and `x`, and of the two forwarded half windows). -/
noncomputable def dsem (a j : ℕ) : DmaSem sig := Fin.ofNat 165 (5 + 16 * a + j)
/-- Semaphore `p` of the pair of the weight copies, and of the pair of the stores. -/
noncomputable def wsem (p : ℕ) : DmaSem sig := Fin.ofNat 165 (1 + p % 2)
noncomputable def ssem (p : ℕ) : DmaSem sig := Fin.ofNat 165 (3 + p % 2)
/-- The semaphore of the copy of the gradient rows. -/
noncomputable abbrev dysem : DmaSem sig := (cc0_scratch4 : DmaSems sig S_).sem
/-- The regular semaphores: of the freed receive slots, and of the entry barrier. -/
noncomputable abbrev crsem : Sem sig := (cc0_scratch17 : Sems sig S_).sem
noncomputable abbrev basem : Sem sig := barrier0

theorem dsem_val {a j : ℕ} (ha : a < 10) (hj : j < 16) : (dsem a j).val = 5 + 16 * a + j := by
  show (5 + 16 * a + j) % 165 = _
  exact Nat.mod_eq_of_lt (by omega)
theorem wsem_val (p : ℕ) : (wsem p).val = 1 + p % 2 := by
  show (1 + p % 2) % 165 = _
  exact Nat.mod_eq_of_lt (by omega)
theorem ssem_val (p : ℕ) : (ssem p).val = 3 + p % 2 := by
  show (3 + p % 2) % 165 = _
  exact Nat.mod_eq_of_lt (by omega)
theorem dysem_val : (dysem : DmaSem sig).val = 0 := rfl

/-- The row-major position of the one entry a unit slice of a rank-one array keeps. -/
theorem S16_at : ∀ (k : Fin 16) (inb : ∀ a, (![k.val] : Fin 1 → ℕ) a + S1.size a ≤ S16.size a),
    ((S16.rowMajor ((Rect.unit (s := S16) ![k.val] S1.size inb).emb (Shape.reshapeEquiv (squeezes_S1_S_).numel_eq fun i => i.elim0)) : Fin _) : ℕ) = k.val := by
  decide +kernel
theorem S2_at : ∀ (k : Fin 2) (inb : ∀ a, (![k.val] : Fin 1 → ℕ) a + S1.size a ≤ S2.size a),
    ((S2.rowMajor ((Rect.unit (s := S2) ![k.val] S1.size inb).emb (Shape.reshapeEquiv (squeezes_S1_S_).numel_eq fun i => i.elim0)) : Fin _) : ℕ) = k.val := by
  decide +kernel

/-- One entry of an array of sixteen consecutive semaphores. -/
theorem sem_of_consecutive (base : ℕ) (hb : base + S16.numel ≤ 165) (off : Fin 1 → ℕ) (k : ℕ) (hoff : off = ![k]) (inb) :
    (((SemArray.consecutive base S16 hb).slice (Rect.unit (s := S16) off S1.size inb)).squeeze S_ squeezes_S1_S_).sem = Fin.ofNat 165 (base + k) := by
  subst hoff
  have hk : k < 16 := by have := inb 0; simp at this; omega
  have : S16.numel = 16 := by decide
  apply Fin.ext
  show base + _ = (base + k) % 165
  rw [Nat.mod_eq_of_lt (by omega)]
  congr 1
  exact S16_at ⟨k, hk⟩ inb

theorem sem2_of_consecutive (base : ℕ) (hb : base + S2.numel ≤ 165) (off : Fin 1 → ℕ) (k : ℕ) (hoff : off = ![k]) (inb) :
    (((SemArray.consecutive base S2 hb).slice (Rect.unit (s := S2) off S1.size inb)).squeeze S_ squeezes_S1_S_).sem = Fin.ofNat 165 (base + k) := by
  subst hoff
  have hk : k < 2 := by have := inb 0; simp at this; omega
  have : S2.numel = 2 := by decide
  apply Fin.ext
  show base + _ = (base + k) % 165
  rw [Nat.mod_eq_of_lt (by omega)]
  congr 1
  exact S2_at ⟨k, hk⟩ inb

/-! ## The views -/

noncomputable abbrev dyM : Memref sig .tc .hbm S4096x8192 .f32 := Memref.whole main_arg0
noncomputable abbrev waM : Memref sig .tc .hbm S4096x8192 .f32 := Memref.whole main_arg1
noncomputable abbrev outM : Memref sig .tc .hbm S4096x4096 .f32 := Memref.whole main_v1
noncomputable abbrev dvM : Memref sig .tc .vmem S1024x8192 .f32 := Memref.whole cc0_scratch0
noncomputable abbrev wvM : Memref sig .tc .vmem S2x256x8192 .f32 := Memref.whole cc0_scratch1
noncomputable abbrev pcM : Memref sig .tc .vmem S2x1024x256 .f32 := Memref.whole cc0_scratch2
noncomputable abbrev yrM : Memref sig .tc .vmem S2x1024x256 .f32 := Memref.whole cc0_scratch3

theorem inb3 (s : ℕ) : ∀ a, (![s % 2, 0, 0] : Fin 3 → ℕ) a + S1x1024x256.size a ≤ S2x1024x256.size a := by
  intro a; fin_cases a
  · show s % 2 + 1 ≤ 2; omega
  · show 0 + 1024 ≤ 1024; omega
  · show 0 + 256 ≤ 256; omega
theorem inbW (s : ℕ) : ∀ a, (![s % 2, 0, 0] : Fin 3 → ℕ) a + S1x256x8192.size a ≤ S2x256x8192.size a := by
  intro a; fin_cases a
  · show s % 2 + 1 ≤ 2; omega
  · show 0 + 256 ≤ 256; omega
  · show 0 + 8192 ≤ 8192; omega
theorem inbDy (b : Fin 4) : ∀ a, (![1024 * b.val, 0] : Fin 2 → ℕ) a + S1024x8192.size a ≤ S4096x8192.size a := by
  intro a; fin_cases a
  · show 1024 * b.val + 1024 ≤ 4096; omega
  · show 0 + 8192 ≤ 8192; omega
theorem inbWa (j : ℕ) : ∀ a, (![256 * (j % 16), 0] : Fin 2 → ℕ) a + S256x8192.size a ≤ S4096x8192.size a := by
  intro a; fin_cases a
  · show 256 * (j % 16) + 256 ≤ 4096; omega
  · show 0 + 8192 ≤ 8192; omega
theorem inbO (b : Fin 4) (j : ℕ) : ∀ a, (![1024 * b.val, 256 * (j % 16)] : Fin 2 → ℕ) a + S1024x256.size a ≤ S4096x4096.size a := by
  intro a; fin_cases a
  · show 1024 * b.val + 1024 ≤ 4096; omega
  · show 256 * (j % 16) + 256 ≤ 4096; omega
theorem inbH (b : Fin 4) (j : ℕ) (h : Fin 2) : ∀ a, (![1024 * b.val, 256 * (j % 16) + 128 * h.val] : Fin 2 → ℕ) a + S1024x128.size a ≤ S4096x4096.size a := by
  intro a; fin_cases a
  · show 1024 * b.val + 1024 ≤ 4096; omega
  · show 256 * (j % 16) + 128 * h.val + 128 ≤ 4096; omega

/-- A slot of the partial products, of the received partial products, and of the weight rows. -/
noncomputable abbrev pcV (s : ℕ) : Memref sig .tc .vmem S1024x256 .f32 :=
  (pcM.slice (Rect.unit (s := S2x1024x256) ![s % 2, 0, 0] S1x1024x256.size (inb3 s)) (fun _ => rfl)).squeeze S1024x256 squeezes_S1x1024x256_S1024x256
noncomputable abbrev yrV (s : ℕ) : Memref sig .tc .vmem S1024x256 .f32 :=
  (yrM.slice (Rect.unit (s := S2x1024x256) ![s % 2, 0, 0] S1x1024x256.size (inb3 s)) (fun _ => rfl)).squeeze S1024x256 squeezes_S1x1024x256_S1024x256
noncomputable abbrev wvV (s : ℕ) : Memref sig .tc .vmem S256x8192 .f32 :=
  (wvM.slice (Rect.unit (s := S2x256x8192) ![s % 2, 0, 0] S1x256x8192.size (inbW s)) (fun _ => rfl)).squeeze S256x8192 squeezes_S1x256x8192_S256x8192
/-- The gradient rows of a block, and the weight rows of a chunk. -/
noncomputable abbrev dyV (b : Fin 4) : Memref sig .tc .hbm S1024x8192 .f32 :=
  dyM.slice (Rect.unit (s := S4096x8192) ![1024 * b.val, 0] S1024x8192.size (inbDy b)) (fun _ => rfl)
noncomputable abbrev waV (j : ℕ) : Memref sig .tc .hbm S256x8192 .f32 :=
  waM.slice (Rect.unit (s := S4096x8192) ![256 * (j % 16), 0] S256x8192.size (inbWa j)) (fun _ => rfl)
/-- A 1024 × 256 window of the result: row block `b`, chunk `j`; and its left or right half. -/
noncomputable abbrev outV (b : Fin 4) (j : ℕ) : Memref sig .tc .hbm S1024x256 .f32 :=
  outM.slice (Rect.unit (s := S4096x4096) ![1024 * b.val, 256 * (j % 16)] S1024x256.size (inbO b j)) (fun _ => rfl)
noncomputable abbrev outH (b : Fin 4) (j : ℕ) (h : Fin 2) : Memref sig .tc .hbm S1024x128 .f32 :=
  outM.slice (Rect.unit (s := S4096x4096) ![1024 * b.val, 256 * (j % 16) + 128 * h.val] S1024x128.size (inbH b j h)) (fun _ => rfl)

/-! ## What each transfer credits -/

noncomputable abbrev NY : ℕ := (pcV 0).view.dmaCredit
noncomputable abbrev NH : ℕ := (outH 0 0 0).view.dmaCredit
noncomputable abbrev NW : ℕ := (wvV 0).view.dmaCredit
noncomputable abbrev ND : ℕ := (dvM : Memref sig .tc .vmem S1024x8192 .f32).view.dmaCredit

example (s : ℕ) : (pcV s).view.dmaCredit = NY := rfl
example (s : ℕ) : (yrV s).view.dmaCredit = NY := rfl
example (b j) : (outV b j).view.dmaCredit = NY := rfl
example (b j h) : (outH b j h).view.dmaCredit = NH := rfl
example (s) : (wvV s).view.dmaCredit = NW := rfl
theorem NY_pos : 0 < NY := View.dmaCredit_pos _ (by decide)
theorem NH_pos : 0 < NH := View.dmaCredit_pos _ (by decide)
theorem NW_pos : 0 < NW := View.dmaCredit_pos _ (by decide)
theorem ND_pos : 0 < ND := View.dmaCredit_pos _ (by decide)

end Cert.KernelIdeal.Hand

end
-- ==== Proof.Spec.lean ====
/-
# What each buffer holds, and what each semaphore hands over

Contents are functions of the launch memory `m`: `dyR` the device's gradient rows, `waR` a chunk of its weight rows,
`mm` their product (the device's partial product of the chunk), `red` the sum with the partial product of the `y`
neighbour, `outBuf` the whole result. Every semaphore of the kernel is a cell of one schedule `Rd` (rounds, duties,
amounts, payloads): a transfer's landing and a signal pay a duty, whose payload the waiting device takes.
-/
module

public import proofs.«01_k».proof.Proof.Base

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Ghost state -/

abbrev UH : Type := URounds (GSem nD τ sig) ℕ × USlots (Dev nD × Fin 2)
abbrev UU : Type := UR sig nD τ × UH

local notation "𝕄" => MT nD τ sig ℕ (Elt F) ℕ UU ℕ

/-- The launch library's part, the cells' part and the receive slots' part. -/
noncomputable abbrev EP : Emb (UR sig nD τ) 𝕄 := embL
noncomputable abbrev ER : Emb (URounds (GSem nD τ sig) ℕ) 𝕄 := (Emb.inl : Emb _ UH).trans embR
noncomputable abbrev ES : Emb (USlots (Dev nD × Fin 2)) 𝕄 := (Emb.inr : Emb _ UH).trans embR

example : (ER : Emb (URounds (GSem nD τ sig) ℕ) 𝕄).LandsIn (upEmb : UEmb _ 𝕄) := inferInstance
example : (ES : Emb (USlots (Dev nD × Fin 2)) 𝕄).LandsIn (upEmb : UEmb _ 𝕄) := inferInstance

variable (m : (ℓ : Loc nD τ sig) → Buf (Elt F) ℓ)

/-! ## Contents -/

/-- The device's gradient rows and its weight rows of chunk `j`. -/
noncomputable def dyR (d : Dev nD) : FVec F S1024x8192 .f32 := (dyV (bown d)).view.read (Elt F) (m ((d : Thread nD τ).loc main_arg0))
noncomputable def waR (d : Dev nD) (j : ℕ) : FVec F S256x8192 .f32 := (waV j).view.read (Elt F) (m ((d : Thread nD τ).loc main_arg1))
/-- The device's partial product of chunk `j`, and its sum with the neighbour's. -/
noncomputable def mm (d : Dev nD) (j : ℕ) : FVec F S1024x256 .f32 :=
  matmul dot_S1024x8192_S256x8192_S1024x256_1_1_0_0_n_n none (dyR m d) (waR m d j) (constant S1024x256 .f32 0x00000000#32)
noncomputable def red (d : Dev nD) (j : ℕ) : FVec F S1024x256 .f32 := addf (mm m d j) (mm m (yn d) j)
/-- Position `(r, c)` of a 1024 × 256 window, each coordinate taken modulo its extent. -/
noncomputable def ixW (r c : ℕ) : S1024x256.Idx := fun a =>
  ⟨(![r % 1024, c % 256] : Fin 2 → ℕ) a, by
    fin_cases a
    · exact Nat.mod_lt _ (by decide : 0 < 1024)
    · exact Nat.mod_lt _ (by decide : 0 < 256)⟩
/-- The result, as the devices at place `y` compute it: row `r`, column `k` is the entry of the device owning row block
    `r / 1024`, chunk `k / 256`. -/
noncomputable def outBuf (y : ℕ) : (main_v1 : Ref sig .tc).ty.Contents (Elt F) := fun (i : S4096x4096.Idx) =>
  red m (devOf y ⟨(i 0).val / 1024 % 4, Nat.mod_lt _ (by decide)⟩) ((i 1).val / 256) (ixW (i 0).val (i 1).val)

/-! ## Resources -/

/-- A slot of the partial products of device `d` at share `q` holding `X`; at any contents. -/
noncomputable def pcP (q : PosShare TreeShare) (d : Dev nD) (j : ℕ) (X : FVec F S1024x256 .f32) : sProp 𝕄 :=
  iprop((pcV j).view.loc (d : Thread nD τ) ↦[(pcV j).view.set]{q} (pcV j).view.write (Elt F) (m ((pcV j).view.loc (d : Thread nD τ))) X Finset.univ)
noncomputable def pcAny (d : Dev nD) (j : ℕ) : sProp 𝕄 :=
  iprop(∃ f, (pcV j).view.loc (d : Thread nD τ) ↦[(pcV j).view.set]{fullShare} f)
/-- The same for a receive slot. -/
noncomputable def yrP (d : Dev nD) (j : ℕ) (X : FVec F S1024x256 .f32) : sProp 𝕄 :=
  iprop((yrV j).view.loc (d : Thread nD τ) ↦[(yrV j).view.set]{fullShare} (yrV j).view.write (Elt F) (m ((yrV j).view.loc (d : Thread nD τ))) X Finset.univ)
noncomputable def yrAny (d : Dev nD) (j : ℕ) : sProp 𝕄 := slot ((yrV j).view.loc (d : Thread nD τ)) (yrV j).view.set
/-- A weight slot. -/
noncomputable def wvP (d : Dev nD) (j : ℕ) (X : FVec F S256x8192 .f32) : sProp 𝕄 :=
  iprop((wvV j).view.loc (d : Thread nD τ) ↦[(wvV j).view.set]{fullShare} (wvV j).view.write (Elt F) (m ((wvV j).view.loc (d : Thread nD τ))) X Finset.univ)
noncomputable def wvAny (d : Dev nD) (j : ℕ) : sProp 𝕄 :=
  iprop(∃ f, (wvV j).view.loc (d : Thread nD τ) ↦[(wvV j).view.set]{fullShare} f)
/-- The device's gradient rows in the operand, in the scratch copy; a chunk of its weight rows. -/
noncomputable def dyArg (d : Dev nD) : sProp 𝕄 :=
  iprop((dyV (bown d)).view.loc (d : Thread nD τ) ↦[(dyV (bown d)).view.set]{fullShare} m ((d : Thread nD τ).loc main_arg0))
noncomputable def dvP (d : Dev nD) : sProp 𝕄 := iprop((d : Thread nD τ).loc cc0_scratch0 ↦{fullShare} dyR m d)
noncomputable def wArg (d : Dev nD) (j : ℕ) : sProp 𝕄 :=
  iprop((waV j).view.loc (d : Thread nD τ) ↦[(waV j).view.set]{fullShare} m ((d : Thread nD τ).loc main_arg1))
/-- A window of the result holding its entries of the result; at any contents. -/
noncomputable def outP (d : Dev nD) (b : Fin 4) (j : ℕ) : sProp 𝕄 :=
  iprop((d : Thread nD τ).loc main_v1 ↦[(outV b j).view.set]{fullShare} outBuf m (yy d))
noncomputable def outAny (d : Dev nD) (b : Fin 4) (j : ℕ) : sProp 𝕄 :=
  iprop(∃ f, (d : Thread nD τ).loc main_v1 ↦[(outV b j).view.set]{fullShare} f)
noncomputable def outHP (d : Dev nD) (b : Fin 4) (j : ℕ) (h : Fin 2) : sProp 𝕄 :=
  iprop((d : Thread nD τ).loc main_v1 ↦[(outH b j h).view.set]{fullShare} outBuf m (yy d))
noncomputable def outHAny (d : Dev nD) (b : Fin 4) (j : ℕ) (h : Fin 2) : sProp 𝕄 :=
  iprop(∃ f, (d : Thread nD τ).loc main_v1 ↦[(outH b j h).view.set]{fullShare} f)

/-- The three shares of a reduced slot: one for the store, one for each whole-window copy. -/
noncomputable abbrev qS : PosShare TreeShare := fullShare.left
noncomputable abbrev qZ : PosShare TreeShare := fullShare.right.left
noncomputable abbrev qX : PosShare TreeShare := fullShare.right.right

instance (q d j X) : BI.Storable (upEmb : UEmb _ 𝕄) (pcP m q d j X) := by unfold pcP; infer_instance
instance (d j) : BI.Storable (upEmb : UEmb _ 𝕄) (pcAny (F := F) d j) := by unfold pcAny; infer_instance
instance (d j X) : BI.Storable (upEmb : UEmb _ 𝕄) (yrP m d j X) := by unfold yrP; infer_instance
instance (d j) : BI.Storable (upEmb : UEmb _ 𝕄) (yrAny (F := F) d j) := by unfold yrAny; infer_instance
instance (d j X) : BI.Storable (upEmb : UEmb _ 𝕄) (wvP m d j X) := by unfold wvP; infer_instance
instance (d) : BI.Storable (upEmb : UEmb _ 𝕄) (dyArg m d) := by unfold dyArg; infer_instance
instance (d) : BI.Storable (upEmb : UEmb _ 𝕄) (dvP m d) := by unfold dvP; infer_instance
instance (d j) : BI.Storable (upEmb : UEmb _ 𝕄) (wArg m d j) := by unfold wArg; infer_instance
instance (d b j) : BI.Storable (upEmb : UEmb _ 𝕄) (outP m d b j) := by unfold outP; infer_instance
instance (d b j) : BI.Storable (upEmb : UEmb _ 𝕄) (outAny (F := F) d b j) := by unfold outAny; infer_instance
instance (d b j h) : BI.Storable (upEmb : UEmb _ 𝕄) (outHP m d b j h) := by unfold outHP; infer_instance
instance (d b j h) : BI.Storable (upEmb : UEmb _ 𝕄) (outHAny (F := F) d b j h) := by unfold outHAny; infer_instance

/-! ## Payloads -/

/-- The key of a receive slot: its device and parity. -/
noncomputable def key (d : Dev nD) (j : ℕ) : Dev nD × Fin 2 := (d, ⟨j % 2, Nat.mod_lt _ (by decide)⟩)

/-- What the landing on entry `j` of array `a` hands device `d`. -/
noncomputable def arrPay (d : Dev nD) (a j : ℕ) : sProp 𝕄 :=
  if a = 0 then pcP m fullShare d j (mm m d j)
  else if a = 1 then yrP m d j (mm m (yn d) j)
  else if a = 2 then pcP m qZ d j (red m d j)
  else if a = 3 then outP m d (bz d) j
  else if a = 4 then pcP m qX d j (red m d j)
  else if a = 5 then outP m d (bx d) j
  else if a = 6 then outHP m d (bz d) j 0
  else if a = 7 then outHP m d (bd d) j 0
  else if a = 8 then outHP m d (bx d) j 1
  else outHP m d (bd d) j 1
/-- The copies within the device: gradient rows, weight chunk `j`, store of chunk `j`. -/
noncomputable def dyPay (d : Dev nD) : sProp 𝕄 := iprop(dyArg m d ∗ dvP m d)
noncomputable def wPay (d : Dev nD) (j : ℕ) : sProp 𝕄 := iprop(wArg m d j ∗ wvP m d j (waR m d j))
noncomputable def stPay (d : Dev nD) (j : ℕ) : sProp 𝕄 := iprop(pcP m qS d j (red m d j) ∗ outP m d (bown d) j)
/-- What the `x`, `y` and `z` neighbours' entry signals hand device `d`: the windows of the neighbour's result it will
    fill, and that the neighbour's receive slots are free. -/
noncomputable def barPay (d : Dev nD) (k : ℕ) : sProp 𝕄 :=
  if k = 0 then iprop(bigSep (Finset.range 16) (fun j => outAny (xn d) (bown d) j) ∗ bigSep (Finset.range 16) (fun j => outHAny (xn d) (bz d) j 0))
  else if k = 1 then iprop(released ES (key (yn d) 0) 1 ∗ released ES (key (yn d) 1) 1)
  else iprop(bigSep (Finset.range 16) (fun j => outAny (zn d) (bown d) j) ∗ bigSep (Finset.range 16) (fun j => outHAny (zn d) (bx d) j 1))
/-- What the `y` neighbour's `k`-th credit says: how often it has freed each of its receive slots. -/
noncomputable def crPay (d : Dev nD) (k : ℕ) : sProp 𝕄 :=
  iprop(released ES (key (yn d) k) (k / 2 + 2) ∗ released ES (key (yn d) (k + 1)) ((k + 1) / 2 + 1))

noncomputable def dmaPay (d : Dev nD) (n r : ℕ) : sProp 𝕄 :=
  if n = 0 then dyPay m d else if n < 3 then wPay m d (2 * r + (n - 1)) else if n < 5 then stPay m d (2 * r + (n - 3))
  else arrPay m d ((n - 5) / 16) ((n - 5) % 16)
noncomputable def pay (d : Dev nD) (sm : SemLoc sig) (r k : ℕ) : sProp 𝕄 :=
  match sm with
  | .dma q => dmaPay m d q.val r
  | .reg q => if q = basem then barPay d k else crPay d k

noncomputable def dut (sm : SemLoc sig) (r : ℕ) : Finset ℕ :=
  match sm with
  | .dma q => if 1 ≤ q.val ∧ q.val < 5 then (if r < 8 then {0} else ∅) else if r = 0 then {0} else ∅
  | .reg q => if r = 0 then (if q = basem then Finset.range 3 else Finset.range 16) else ∅
noncomputable def amt (sm : SemLoc sig) : ℕ :=
  match sm with
  | .dma q => if q.val = 0 then ND else if q.val < 3 then NW else if q.val < 5 then NY else if (q.val - 5) / 16 < 6 then NY else NH
  | .reg _ => 1

theorem amt_pos (sm : SemLoc sig) : 0 < amt sm := by
  cases sm with
  | reg q => exact Nat.one_pos
  | dma q =>
    show 0 < (if q.val = 0 then ND else if q.val < 3 then NW else if q.val < 5 then NY else if (q.val - 5) / 16 < 6 then NY else NH)
    split_ifs
    · exact ND_pos
    · exact NW_pos
    · exact NY_pos
    · exact NY_pos
    · exact NH_pos

/-- The schedule of every semaphore of the kernel. -/
noncomputable def Rd : Rounds.Schedule (GSem nD τ sig) ℕ 𝕄 where
  duties g r := if g.1.2 = .tc then dut g.2 r else ∅
  unitless _ := False
  amount g _ _ := amt g.2
  payload g r k := pay m g.1.1 g.2 r k
  amount_pos g _ _ _ := amt_pos g.2

instance (d a j) : BI.Storable (upEmb : UEmb _ 𝕄) (arrPay m d a j) := by unfold arrPay; (repeat' split) <;> infer_instance
instance (d k) : BI.Storable (upEmb : UEmb _ 𝕄) (barPay (F := F) d k) := by unfold barPay; (repeat' split) <;> infer_instance
instance (d k) : BI.Storable (upEmb : UEmb _ 𝕄) (crPay (F := F) d k) := by unfold crPay; infer_instance
instance (d n r) : BI.Storable (upEmb : UEmb _ 𝕄) (dmaPay m d n r) := by
  unfold dmaPay dyPay wPay stPay; (repeat' split) <;> infer_instance
instance Rd_storable (g : GSem nD τ sig) (r k : ℕ) : BI.Storable (upEmb : UEmb _ 𝕄) ((Rd m).payload g r k) := by
  show BI.Storable _ (pay m g.1.1 g.2 r k)
  unfold pay; split
  · infer_instance
  · split <;> infer_instance

/-! ## The cells -/

noncomputable abbrev cD (d : Dev nD) (q : DmaSem sig) : GSem nD τ sig := ((d : Thread nD τ), .dma q)
noncomputable abbrev cA (d : Dev nD) (a j : ℕ) : GSem nD τ sig := cD d (dsem a j)
noncomputable abbrev cW (d : Dev nD) (j : ℕ) : GSem nD τ sig := cD d (wsem j)
noncomputable abbrev cS (d : Dev nD) (j : ℕ) : GSem nD τ sig := cD d (ssem j)
noncomputable abbrev cC (d : Dev nD) : GSem nD τ sig := ((d : Thread nD τ), .reg crsem)
noncomputable abbrev cB (d : Dev nD) : GSem nD τ sig := ((d : Thread nD τ), .reg basem)

theorem cr_ne_ba : (crsem : Sem sig) ≠ basem := by decide
theorem ba_ne_cr : (basem : Sem sig) ≠ crsem := by decide

theorem dut_A {a j : ℕ} (ha : a < 10) (hj : j < 16) (d : Dev nD) : (Rd m).duties (cA d a j) 0 = {0} := by
  show dut (.dma (dsem a j)) 0 = _
  unfold dut; dsimp only; rw [dsem_val ha hj, if_neg (by omega), if_pos rfl]
theorem dut_dy (d : Dev nD) : (Rd m).duties (cD d dysem) 0 = {0} := by
  show dut (.dma dysem) 0 = _
  unfold dut; dsimp only; rw [dysem_val, if_neg (by omega), if_pos rfl]
theorem dut_W {j : ℕ} (hj : j < 16) (d : Dev nD) : (Rd m).duties (cW d j) (j / 2) = {0} := by
  show dut (.dma (wsem j)) _ = _
  unfold dut; dsimp only; rw [wsem_val, if_pos (by omega), if_pos (by omega)]
theorem dut_S {j : ℕ} (hj : j < 16) (d : Dev nD) : (Rd m).duties (cS d j) (j / 2) = {0} := by
  show dut (.dma (ssem j)) _ = _
  unfold dut; dsimp only; rw [ssem_val, if_pos (by omega), if_pos (by omega)]
theorem dut_B (d : Dev nD) : (Rd m).duties (cB d) 0 = Finset.range 3 := by
  show dut (.reg basem) 0 = _
  unfold dut; dsimp only; rw [if_pos rfl, if_pos rfl]
theorem dut_C (d : Dev nD) : (Rd m).duties (cC d) 0 = Finset.range 16 := by
  show dut (.reg crsem) 0 = _
  unfold dut; dsimp only; rw [if_pos rfl, if_neg cr_ne_ba]
/-- No round past the first (the eighth of the cells of several rounds). -/
theorem dut_later (g : GSem nD τ sig) (r : ℕ) (hr : 8 ≤ r) : (Rd m).duties g r = ∅ := by
  show (if g.1.2 = .tc then dut g.2 r else ∅) = ∅
  split
  · unfold dut; split <;> (repeat' split) <;> first | rfl | omega
  · rfl
theorem dut_A_later {a j : ℕ} (ha : a < 10) (hj : j < 16) (d : Dev nD) (r : ℕ) (hr : 1 ≤ r) : (Rd m).duties (cA d a j) r = ∅ := by
  show dut (.dma (dsem a j)) r = _
  unfold dut; dsimp only; rw [dsem_val ha hj, if_neg (by omega), if_neg (by omega)]
theorem dut_dy_later (d : Dev nD) (r : ℕ) (hr : 1 ≤ r) : (Rd m).duties (cD d dysem) r = ∅ := by
  show dut (.dma dysem) r = _
  unfold dut; dsimp only; rw [dysem_val, if_neg (by omega), if_neg (by omega)]
theorem dut_reg_later (d : Dev nD) (q : Sem sig) (r : ℕ) (hr : 1 ≤ r) : (Rd m).duties ((d : Thread nD τ), .reg q) r = ∅ := by
  show dut (.reg q) r = _
  unfold dut; dsimp only; rw [if_neg (by omega)]

theorem amt_A {a j : ℕ} (ha : a < 6) (hj : j < 16) : amt (.dma (dsem a j)) = NY := by
  unfold amt; dsimp only; rw [dsem_val (by omega) hj, if_neg (by omega), if_neg (by omega), if_neg (by omega), if_pos (by omega)]
theorem amt_H {a j : ℕ} (h6 : 6 ≤ a) (ha : a < 10) (hj : j < 16) : amt (.dma (dsem a j)) = NH := by
  unfold amt; dsimp only; rw [dsem_val (by omega) hj, if_neg (by omega), if_neg (by omega), if_neg (by omega), if_neg (by omega)]
theorem amt_W (j : ℕ) : amt (.dma (wsem j)) = NW := by
  unfold amt; dsimp only; rw [wsem_val, if_neg (by omega), if_pos (by omega)]
theorem amt_S (j : ℕ) : amt (.dma (ssem j)) = NY := by
  unfold amt; dsimp only; rw [ssem_val, if_neg (by omega), if_neg (by omega), if_pos (by omega)]
theorem amt_dy : amt (.dma dysem) = ND := by
  unfold amt; dsimp only; rw [dysem_val, if_pos rfl]

theorem expect_one (g : GSem nD τ sig) (r : ℕ) (h : (Rd m).duties g r = {0}) : (Rd m).expect g r = amt g.2 := by
  unfold Schedule.expect Schedule.amountOf; rw [h, Finset.sum_singleton]; rfl
theorem expect_B (d : Dev nD) : (Rd m).expect (cB d) 0 = 3 := by
  unfold Schedule.expect Schedule.amountOf; rw [dut_B]; rfl
theorem expect_C (d : Dev nD) : (Rd m).expect (cC d) 0 = 16 := by
  unfold Schedule.expect Schedule.amountOf; rw [dut_C]; rfl

theorem pay_A {a j : ℕ} (ha : a < 10) (hj : j < 16) (d : Dev nD) (r k : ℕ) : (Rd m).payload (cA d a j) r k = arrPay m d a j := by
  show dmaPay m d (dsem a j).val r = _
  unfold dmaPay; rw [dsem_val ha hj, if_neg (by omega), if_neg (by omega), if_neg (by omega)]
  congr 1 <;> omega
theorem pay_dy (d : Dev nD) (r k : ℕ) : (Rd m).payload (cD d dysem) r k = dyPay m d := by
  show dmaPay m d (dysem : DmaSem sig).val r = _
  unfold dmaPay; rw [dysem_val, if_pos rfl]
theorem pay_W (d : Dev nD) (j k : ℕ) : (Rd m).payload (cW d j) (j / 2) k = wPay m d j := by
  show dmaPay m d (wsem j).val _ = _
  unfold dmaPay; rw [wsem_val, if_neg (by omega), if_pos (by omega)]
  congr 1; omega
theorem pay_S (d : Dev nD) (j k : ℕ) : (Rd m).payload (cS d j) (j / 2) k = stPay m d j := by
  show dmaPay m d (ssem j).val _ = _
  unfold dmaPay; rw [ssem_val, if_neg (by omega), if_neg (by omega), if_pos (by omega)]
  congr 1; omega
theorem pay_B (d : Dev nD) (r k : ℕ) : (Rd m).payload (cB d) r k = barPay d k := by
  show (if basem = basem then barPay d k else crPay d k) = _
  rw [if_pos rfl]
theorem pay_C (d : Dev nD) (r k : ℕ) : (Rd m).payload (cC d) r k = crPay d k := by
  show (if crsem = basem then barPay d k else crPay d k) = _
  rw [if_neg cr_ne_ba]

/-- The payloads of a round of one duty. -/
theorem rest_one (g : GSem nD τ sig) (r : ℕ) (h : (Rd m).duties g r = {0}) :
    bigSep ((Rd m).duties g r \ ∅) (fun k => (Rd m).payload g r k) = (Rd m).payload g r 0 := by
  rw [Finset.sdiff_empty, h, bigSep_singleton]

end Cert.KernelIdeal.Hand

end
-- ==== Proof.Views.lean ====
/-
# Reading and writing through the kernel's views

A transfer's or a store's destination holds what was written, so it is one of the resources of `Spec` again; a load
reads what a resource names; a window of the result is its two halves, and the windows tile the result.
-/
module

public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)

/-! ## Any view -/

section AnyView
variable {κ : Kind} {sp : Space} {s : Shape} {e : EltTy} {Val : EltTy → Type} (v : View sig κ sp s e)

/-- What a view reads as `X` is, on the view's elements, what writing `X` through it leaves. -/
theorem eq_write_of_read (f g : v.ty.Contents Val) (X : s.Idx → Val e) (h : v.read Val g = X) :
    ∀ i ∈ v.set, g i = v.write Val f X Finset.univ i := by
  intro i hi
  obtain ⟨x, -, rfl⟩ := Finset.mem_map.mp hi
  rw [View.write_emb_of_mem _ _ (Finset.mem_univ x), ← h, View.read_apply, cast_cast, cast_eq]
/-- Writing the same through a view leaves the same on its elements. -/
theorem write_eq_write (f g : v.ty.Contents Val) (X : s.Idx → Val e) :
    ∀ i ∈ v.set, v.write Val g X Finset.univ i = v.write Val f X Finset.univ i :=
  eq_write_of_read v f _ X (View.read_write_univ _ _)
/-- Writing what contents read as leaves those contents on the view's elements. -/
theorem write_read_eq (f g : v.ty.Contents Val) :
    ∀ i ∈ v.set, v.write Val f (v.read Val g) Finset.univ i = g i :=
  fun i hi => (eq_write_of_read v f g _ rfl i hi).symm
/-- The same with the value read stated on its own. -/
theorem write_eq_of_read (f g : v.ty.Contents Val) (X : s.Idx → Val e) (h : v.read Val g = X) :
    ∀ i ∈ v.set, v.write Val f X Finset.univ i = g i :=
  fun i hi => (eq_write_of_read v f g X h i hi).symm
end AnyView

/-! ## Slots -/

omit [FloatOps F] in
/-- A vector shape-cast there and back is itself. -/
theorem cast_back {α : Type} {s t : Shape} (X : t.Idx → α) (h : t.ShapeCasts s) (h' : s.ShapeCasts t) :
    shapeCast t (shapeCast s X h) h' = X := by
  funext j
  show X (Shape.reshapeEquiv _ (Shape.reshapeEquiv _ j)) = X j
  congr 1
  exact (Shape.reshapeEquiv h).apply_symm_apply j

/-- A load of a slot of the partial products reads what the slot holds. -/
theorem pc_load (j : ℕ) (off : Fin 3 → ℕ) (hoff : off = ![j % 2, 0, 0]) (inb) (X : FVec F S1024x256 .f32)
    (f : (pcM : Memref sig .tc .vmem S2x1024x256 .f32).view.ty.Contents (Elt F)) :
    shapeCast S1024x256 ((pcM : Memref sig .tc .vmem S2x1024x256 .f32).view.readAt (Elt F) (Rect.unit (s := S2x1024x256) off S1x1024x256.size inb).toLoadRect
      ((pcV j).view.write (Elt F) f X Finset.univ)) shapeCasts_S1x1024x256_S1024x256 = X := by
  subst hoff
  rw [← Memref.read_squeeze_slice pcM _ (fun _ => rfl) squeezes_S1x1024x256_S1024x256]
  exact View.read_write_univ (v := (pcV j).view) f X
theorem yr_load (j : ℕ) (off : Fin 3 → ℕ) (hoff : off = ![j % 2, 0, 0]) (inb) (X : FVec F S1024x256 .f32)
    (f : (yrM : Memref sig .tc .vmem S2x1024x256 .f32).view.ty.Contents (Elt F)) :
    shapeCast S1024x256 ((yrM : Memref sig .tc .vmem S2x1024x256 .f32).view.readAt (Elt F) (Rect.unit (s := S2x1024x256) off S1x1024x256.size inb).toLoadRect
      ((yrV j).view.write (Elt F) f X Finset.univ)) shapeCasts_S1x1024x256_S1024x256 = X := by
  subst hoff
  rw [← Memref.read_squeeze_slice yrM _ (fun _ => rfl) squeezes_S1x1024x256_S1024x256]
  exact View.read_write_univ (v := (yrV j).view) f X
theorem wv_load (j : ℕ) (off : Fin 3 → ℕ) (hoff : off = ![j % 2, 0, 0]) (inb) (X : FVec F S256x8192 .f32)
    (f : (wvM : Memref sig .tc .vmem S2x256x8192 .f32).view.ty.Contents (Elt F)) :
    shapeCast S256x8192 ((wvM : Memref sig .tc .vmem S2x256x8192 .f32).view.readAt (Elt F) (Rect.unit (s := S2x256x8192) off S1x256x8192.size inb).toLoadRect
      ((wvV j).view.write (Elt F) f X Finset.univ)) shapeCasts_S1x256x8192_S256x8192 = X := by
  subst hoff
  rw [← Memref.read_squeeze_slice wvM _ (fun _ => rfl) squeezes_S1x256x8192_S256x8192]
  exact View.read_write_univ (v := (wvV j).view) f X

/-- A store of a slot of the partial products leaves the slot holding what was stored. -/
theorem pc_store (j : ℕ) (off : Fin 3 → ℕ) (hoff : off = ![j % 2, 0, 0]) (inb) (X : FVec F S1024x256 .f32)
    (f g : (pcM : Memref sig .tc .vmem S2x1024x256 .f32).view.ty.Contents (Elt F)) :
    ∀ i ∈ (pcV j).view.set,
      ((pcM : Memref sig .tc .vmem S2x1024x256 .f32).access (Rect.unit (s := S2x1024x256) off S1x1024x256.size inb)).write (Elt F) g
        (shapeCast S1x1024x256 X shapeCasts_S1024x256_S1x1024x256) Finset.univ i = (pcV j).view.write (Elt F) f X Finset.univ i := by
  subst hoff
  refine eq_write_of_read (pcV j).view f _ X ?_
  rw [Memref.read_squeeze_slice pcM _ (fun _ => rfl) squeezes_S1x1024x256_S1024x256 shapeCasts_S1x1024x256_S1024x256, View.readAt_rect]
  rw [View.read_write_univ (v := (pcM : Memref sig .tc .vmem S2x1024x256 .f32).view.slice _)]
  exact cast_back X _ _

theorem pc_setOn (j : ℕ) (off : Fin 3 → ℕ) (hoff : off = ![j % 2, 0, 0]) (inb) :
    (((pcM : Memref sig .tc .vmem S2x1024x256 .f32).access (Rect.unit (s := S2x1024x256) off S1x1024x256.size inb)).setOn Finset.univ) = (pcV j).view.set := by
  subst hoff
  exact (View.set_reshape (v := (pcM : Memref sig .tc .vmem S2x1024x256 .f32).view.slice _) _).symm
theorem pc_setOn_load (j : ℕ) (off : Fin 3 → ℕ) (hoff : off = ![j % 2, 0, 0]) (inb) :
    ((pcM : Memref sig .tc .vmem S2x1024x256 .f32).view.setOn (Rect.unit (s := S2x1024x256) off S1x1024x256.size inb).toLoadRect.set) = (pcV j).view.set := by
  subst hoff
  refine Eq.trans ?_ (View.set_reshape (v := (pcM : Memref sig .tc .vmem S2x1024x256 .f32).view.slice _) _).symm
  exact (View.set_slice (v := (pcM : Memref sig .tc .vmem S2x1024x256 .f32).view) _).symm
theorem yr_setOn_load (j : ℕ) (off : Fin 3 → ℕ) (hoff : off = ![j % 2, 0, 0]) (inb) :
    ((yrM : Memref sig .tc .vmem S2x1024x256 .f32).view.setOn (Rect.unit (s := S2x1024x256) off S1x1024x256.size inb).toLoadRect.set) = (yrV j).view.set := by
  subst hoff
  refine Eq.trans ?_ (View.set_reshape (v := (yrM : Memref sig .tc .vmem S2x1024x256 .f32).view.slice _) _).symm
  exact (View.set_slice (v := (yrM : Memref sig .tc .vmem S2x1024x256 .f32).view) _).symm
theorem wv_setOn_load (j : ℕ) (off : Fin 3 → ℕ) (hoff : off = ![j % 2, 0, 0]) (inb) :
    ((wvM : Memref sig .tc .vmem S2x256x8192 .f32).view.setOn (Rect.unit (s := S2x256x8192) off S1x256x8192.size inb).toLoadRect.set) = (wvV j).view.set := by
  subst hoff
  refine Eq.trans ?_ (View.set_reshape (v := (wvM : Memref sig .tc .vmem S2x256x8192 .f32).view.slice _) _).symm
  exact (View.set_slice (v := (wvM : Memref sig .tc .vmem S2x256x8192 .f32).view) _).symm

/-! ## Windows of the result -/

theorem emb_outV (b : Fin 4) (j : ℕ) (x : S1024x256.Idx) (a : Fin 2) :
    (((outV b j).view.emb x : S4096x4096.Idx) a : ℕ) = (![1024 * b.val, 256 * (j % 16)] : Fin 2 → ℕ) a + 1 * (x a : ℕ) := rfl

/-- A window of the result reads as its owner's sum. -/
theorem read_outBuf (y : ℕ) (b : Fin 4) (j : ℕ) (hj : j < 16) :
    (outV b j).view.read (Elt F) (outBuf m y) = red m (devOf y b) j := by
  funext x
  show outBuf m y ((outV b j).view.emb x) = _
  have h0 : (((outV b j).view.emb x : S4096x4096.Idx) 0 : ℕ) = 1024 * b.val + 1 * (x 0 : ℕ) := rfl
  have h1 : (((outV b j).view.emb x : S4096x4096.Idx) 1 : ℕ) = 256 * (j % 16) + 1 * (x 1 : ℕ) := rfl
  have hx0 : (x 0 : ℕ) < 1024 := (x 0).isLt
  have hx1 : (x 1 : ℕ) < 256 := (x 1).isLt
  unfold outBuf
  have e0 : (((outV b j).view.emb x : S4096x4096.Idx) 0 : ℕ) / 1024 % 4 = b.val := by rw [h0]; omega
  have e1 : (((outV b j).view.emb x : S4096x4096.Idx) 1 : ℕ) / 256 = j := by rw [h1]; omega
  have e2 : ixW (((outV b j).view.emb x : S4096x4096.Idx) 0 : ℕ) (((outV b j).view.emb x : S4096x4096.Idx) 1 : ℕ) = x := by
    funext a
    fin_cases a
    · apply Fin.ext; show _ % 1024 = (x 0 : ℕ); rw [h0]; omega
    · apply Fin.ext; show _ % 256 = (x 1 : ℕ); rw [h1]; omega
  show red m (devOf y ⟨(((outV b j).view.emb x : S4096x4096.Idx) 0 : ℕ) / 1024 % 4, _⟩) ((((outV b j).view.emb x : S4096x4096.Idx) 1 : ℕ) / 256) (ixW _ _) = _
  rw [e1, e2]
  have e3 : (⟨(((outV b j).view.emb x : S4096x4096.Idx) 0 : ℕ) / 1024 % 4, Nat.mod_lt _ (by decide)⟩ : Fin 4) = b := Fin.ext e0
  rw [e3]

theorem mem_outV (b : Fin 4) (j : ℕ) (i : S4096x4096.Idx) : i ∈ (outV b j).view.set ↔
    (1024 * b.val ≤ (i 0 : ℕ) ∧ (i 0 : ℕ) < 1024 * b.val + 1024) ∧ (256 * (j % 16) ≤ (i 1 : ℕ) ∧ (i 1 : ℕ) < 256 * (j % 16) + 256) := by
  rw [View.set_slice_whole, Rect.mem_set_unit]
  constructor
  · intro h; exact ⟨h (0 : Fin 2), h (1 : Fin 2)⟩
  · rintro ⟨h0, h1⟩ (a : Fin 2)
    fin_cases a
    · exact h0
    · exact h1
theorem mem_outH (b : Fin 4) (j : ℕ) (h : Fin 2) (i : S4096x4096.Idx) : i ∈ (outH b j h).view.set ↔
    (1024 * b.val ≤ (i 0 : ℕ) ∧ (i 0 : ℕ) < 1024 * b.val + 1024)
      ∧ (256 * (j % 16) + 128 * h.val ≤ (i 1 : ℕ) ∧ (i 1 : ℕ) < 256 * (j % 16) + 128 * h.val + 128) := by
  rw [View.set_slice_whole, Rect.mem_set_unit]
  constructor
  · intro h; exact ⟨h (0 : Fin 2), h (1 : Fin 2)⟩
  · rintro ⟨h0, h1⟩ (a : Fin 2)
    fin_cases a
    · exact h0
    · exact h1
theorem outV_set (b : Fin 4) (j : ℕ) : (outV b j).view.set = (outH b j 0).view.set ∪ (outH b j 1).view.set := by
  ext i
  rw [Finset.mem_union]
  erw [mem_outV, mem_outH, mem_outH]
  show _ ↔ ((1024 * b.val ≤ ((i : S4096x4096.Idx) 0 : ℕ) ∧ ((i : S4096x4096.Idx) 0 : ℕ) < 1024 * b.val + 1024) ∧ (256 * (j % 16) + 128 * 0 ≤ ((i : S4096x4096.Idx) 1 : ℕ) ∧ ((i : S4096x4096.Idx) 1 : ℕ) < 256 * (j % 16) + 128 * 0 + 128))
      ∨ ((1024 * b.val ≤ ((i : S4096x4096.Idx) 0 : ℕ) ∧ ((i : S4096x4096.Idx) 0 : ℕ) < 1024 * b.val + 1024) ∧ (256 * (j % 16) + 128 * 1 ≤ ((i : S4096x4096.Idx) 1 : ℕ) ∧ ((i : S4096x4096.Idx) 1 : ℕ) < 256 * (j % 16) + 128 * 1 + 128))
  omega
theorem outH_disj (b : Fin 4) (j : ℕ) : Disjoint (outH b j 0).view.set (outH b j 1).view.set := by
  rw [View.set_slice_whole, View.set_slice_whole]
  refine Rect.unit_disjoint (1 : Fin 2) (Or.inl ?_)
  show 256 * (j % 16) + 128 * 0 + 128 ≤ 256 * (j % 16) + 128 * 1
  omega
theorem outV_disj (b b' : Fin 4) (j j' : ℕ) (hj : j < 16) (hj' : j' < 16) (h : b ≠ b' ∨ j ≠ j') :
    Disjoint (outV b j).view.set (outV b' j').view.set := by
  rw [View.set_slice_whole, View.set_slice_whole]
  rcases h with h | h
  · have hb : b.val ≠ b'.val := fun e => h (Fin.ext e)
    refine Rect.unit_disjoint (0 : Fin 2) ?_
    show 1024 * b.val + 1024 ≤ 1024 * b'.val ∨ 1024 * b'.val + 1024 ≤ 1024 * b.val
    omega
  · refine Rect.unit_disjoint (1 : Fin 2) ?_
    show 256 * (j % 16) + 256 ≤ 256 * (j' % 16) ∨ 256 * (j' % 16) + 256 ≤ 256 * (j % 16)
    omega
theorem outV_cover : (Finset.univ ×ˢ Finset.range 16).biUnion (fun p : Fin 4 × ℕ => (outV p.1 p.2).view.set) = (Finset.univ : Finset S4096x4096.Idx) := by
  ext i
  have h0 : (i 0 : ℕ) < 4096 := (i 0).isLt
  have h1 : (i 1 : ℕ) < 4096 := (i 1).isLt
  refine ⟨fun _ => Finset.mem_univ _, fun _ => Finset.mem_biUnion.mpr ⟨(⟨(i 0 : ℕ) / 1024, by omega⟩, (i 1 : ℕ) / 256), ?_, ?_⟩⟩
  · rw [Finset.mem_product, Finset.mem_range]; exact ⟨Finset.mem_univ _, by dsimp only; omega⟩
  · refine (mem_outV _ _ i).mpr ?_
    show (1024 * ((i 0 : ℕ) / 1024) ≤ (i 0 : ℕ) ∧ (i 0 : ℕ) < 1024 * ((i 0 : ℕ) / 1024) + 1024)
      ∧ (256 * ((i 1 : ℕ) / 256 % 16) ≤ (i 1 : ℕ) ∧ (i 1 : ℕ) < 256 * ((i 1 : ℕ) / 256 % 16) + 256)
    omega

/-- A window is its two halves. -/
theorem outP_halves (d : Dev nD) (b : Fin 4) (j : ℕ) :
    (outP m d b j : sProp 𝕄) ⊣⊢ iprop(outHP m d b j 0 ∗ outHP m d b j 1) := by
  unfold outP outHP
  rw [outV_set]
  exact pointsTo_union (outH_disj b j)
theorem outAny_halves (d : Dev nD) (b : Fin 4) (j : ℕ) :
    (outAny d b j : sProp 𝕄) ⊢ iprop(outHAny d b j 0 ∗ outHAny d b j 1) := by
  unfold outAny outHAny
  rw [outV_set]
  iintro ⟨%f, H⟩
  ihave H2 := (pointsTo_union (outH_disj b j)).1 $$ H
  icases H2 with ⟨H0, H1⟩
  isplitl [H0]; · iexists f; iexact H0
  iexists f; iexact H1

/-! ## Shares of a slot -/

/-- A slot in its three shares. -/
theorem pc_shares (d : Dev nD) (j : ℕ) (X : FVec F S1024x256 .f32) :
    (pcP m fullShare d j X : sProp 𝕄) ⊣⊢ iprop(pcP m qS d j X ∗ pcP m qZ d j X ∗ pcP m qX d j X) := by
  unfold pcP
  constructor
  · iintro H
    ihave H2 := (pointsTo_share (PosShare.mem_left_op_right fullShare)).1 $$ H
    icases H2 with ⟨H0, H1⟩
    ihave H3 := (pointsTo_share (PosShare.mem_left_op_right fullShare.right)).1 $$ H1
    icases H3 with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
theorem pcP_any (d : Dev nD) (j : ℕ) (X : FVec F S1024x256 .f32) : (pcP m fullShare d j X : sProp 𝕄) ⊢ pcAny d j := by
  unfold pcP pcAny; iintro H; iexists _; iexact H
theorem yrP_any (d : Dev nD) (j : ℕ) (X : FVec F S1024x256 .f32) : (yrP m d j X : sProp 𝕄) ⊢ yrAny d j := by
  unfold yrP yrAny slot; iintro H; iexists _; iexact H
theorem wvP_any (d : Dev nD) (j : ℕ) (X : FVec F S256x8192 .f32) : (wvP m d j X : sProp 𝕄) ⊢ wvAny d j := by
  unfold wvP wvAny; iintro H; iexists _; iexact H

end Cert.KernelIdeal.Hand

end
-- ==== Proof.Owes.lean ====
/-
# What a device owes, the levels, and the rules of one wait and one send

`ow d n j` is what device `d` still owes the other devices on behalf of chunk `j` at stage `n`. A device waits at a
semaphore only while everything it owes lies at a higher level (`Below`).
-/
module

public import proofs.«01_k».proof.Proof.Views

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)

abbrev 𝒱₀ : Variants := Variants.none
/-- The program's weakest precondition on device `d`. -/
noncomputable abbrev WP {α : Type} (d : Dev nD) (p : Prog (TpuEff nD τ sig (Elt F) Λ₀ .tc) α) (Q : α → sProp 𝕄) : sProp 𝕄 :=
  wp frame (wpE (defs₀ (F := F)) 𝒱₀ (d : Thread nD τ) none) Set.univ p Q

/-! ## Levels -/

noncomputable def arrLv (a k : ℕ) : ℕ :=
  if a = 1 then 10 * k + 5 else if a = 3 ∨ a = 5 then 10 * k + 16 else if a = 7 then 10 * k + 27 else if a = 9 then 10 * k + 28 else 0
noncomputable def L (g : GSem nD τ sig) : Finset ℕ := if g.1.2 = .tc then Finset.range 16 else ∅
noncomputable def lv (g : GSem nD τ sig) (i : ℕ) : ℕ :=
  match g.2 with
  | .dma q => if q.val < 5 then 0 else arrLv ((q.val - 5) / 16) ((q.val - 5) % 16)
  | .reg q => if q = basem then 1 else 10 * i + 16

theorem lv_A {a j : ℕ} (ha : a < 10) (hj : j < 16) (d : Dev nD) (i : ℕ) : lv (cA d a j) i = arrLv a j := by
  show (if (dsem a j).val < 5 then 0 else arrLv (((dsem a j).val - 5) / 16) (((dsem a j).val - 5) % 16)) = _
  rw [dsem_val ha hj, if_neg (by omega)]
  congr 1 <;> omega
theorem lv_low (d : Dev nD) (q : DmaSem sig) (h : q.val < 5) (i : ℕ) : lv (cD d q) i = 0 := by
  show (if q.val < 5 then 0 else _) = _
  rw [if_pos h]
theorem lv_C (d : Dev nD) (i : ℕ) : lv (cC d) i = 10 * i + 16 := by
  show (if crsem = basem then 1 else 10 * i + 16) = 10 * i + 16
  rw [if_neg cr_ne_ba]
theorem lv_B (d : Dev nD) (i : ℕ) : lv (cB d) i = 1 := by
  show (if basem = basem then 1 else 10 * i + 16) = 1
  rw [if_pos rfl]
theorem L_tc (d : Dev nD) (sm : SemLoc sig) : L ((d : Thread nD τ), sm) = Finset.range 16 := if_pos rfl
theorem L_of_ne (g : GSem nD τ sig) (h : g.1.2 ≠ .tc) : L g = ∅ := if_neg h

/-- Everything in `O` lies above level `ℓ`. -/
def Below (O : CellTallies nD τ sig ℕ) (ℓ : ℕ) : Prop := ∀ g i, 0 < O g i → i ∈ L g ∧ ℓ < lv g i

theorem Below.zero (ℓ : ℕ) : Below 0 ℓ := fun g i h => absurd h (Nat.lt_irrefl 0)
theorem Below.add {O O' : CellTallies nD τ sig ℕ} {ℓ : ℕ} (h : Below O ℓ) (h' : Below O' ℓ) : Below (O + O') ℓ := by
  intro g i hg
  rw [Pi.add_apply, Finsupp.add_apply] at hg
  rcases Nat.eq_zero_or_pos (O g i) with h0 | h0
  · exact h' g i (by omega)
  · exact h g i h0
theorem Below.tally {d : Dev nD} {sm : SemLoc sig} {i N ℓ : ℕ} (hi : i < 16) (h : ℓ < lv ((d : Thread nD τ), sm) i) :
    Below (tallyAt ((d : Thread nD τ), sm) i N) ℓ := by
  intro g u hg
  rw [tallyAt_apply] at hg
  by_cases h' : g = ((d : Thread nD τ), sm) ∧ u = i
  · rw [h'.1, h'.2, L_tc]; exact ⟨Finset.mem_range.mpr hi, h⟩
  · rw [if_neg h'] at hg; exact absurd hg (Nat.lt_irrefl 0)
theorem Below.sum {S : Finset ℕ} {f : ℕ → CellTallies nD τ sig ℕ} {ℓ : ℕ} (h : ∀ j ∈ S, Below (f j) ℓ) : Below (∑ j ∈ S, f j) ℓ := by
  induction S using Finset.induction_on with
  | empty => rw [Finset.sum_empty]; exact Below.zero ℓ
  | insert j S hj ih =>
    rw [Finset.sum_insert hj]
    exact (h j (Finset.mem_insert_self _ _)).add (ih fun k hk => h k (Finset.mem_insert_of_mem hk))

theorem mayWait (d : Dev nD) (sm : SemLoc sig) (i : ℕ) (hi : i < 16) (O : CellTallies nD τ sig ℕ)
    (h : Below O (lv ((d : Thread nD τ), sm) i)) : (levAts L lv : sProp 𝕄) ⊢ MayWait (d : Thread nD τ) sm i O :=
  Pipeline.mayWait_of_levAts (by rw [L_tc]; exact Finset.mem_range.mpr hi) h

/-! ## What a device owes for a chunk -/

noncomputable def ow (d : Dev nD) (n j : ℕ) : CellTallies nD τ sig ℕ :=
  (if n < 1 then tallyAt (cA (yn d) 1 j) 0 NY else 0) + (if n < 5 then tallyAt (cC (yn d)) (min j 14) 1 else 0)
    + (if n < 7 then tallyAt (cA (zn d) 3 j) 0 NY else 0) + (if n < 8 then tallyAt (cA (xn d) 5 j) 0 NY else 0)
    + (if n < 10 then tallyAt (cA (xn d) 7 j) 0 NH else 0) + (if n < 12 then tallyAt (cA (zn d) 9 j) 0 NH else 0)

/-- Chunk `j` at stage `n` owes nothing at level `ℓ` or lower. -/
def okw (n j ℓ : ℕ) : Prop :=
  (n < 1 → ℓ < 10 * j + 5) ∧ (n < 5 → ℓ < 10 * min j 14 + 16) ∧ (n < 8 → ℓ < 10 * j + 16)
    ∧ (n < 10 → ℓ < 10 * j + 27) ∧ (n < 12 → ℓ < 10 * j + 28)

theorem below_ow (d : Dev nD) (n j ℓ : ℕ) (hj : j < 16) (h : okw n j ℓ) : Below (ow d n j) ℓ := by
  obtain ⟨h1, h5, h8, h10, h12⟩ := h
  unfold ow
  have hA (e : Dev nD) (a N : ℕ) (ha : a < 10) (hl : ℓ < arrLv a j) : Below (tallyAt (cA e a j) 0 N) ℓ :=
    Below.tally (by omega) (by rw [lv_A ha hj]; exact hl)
  refine (((((Below.add ?_ ?_).add ?_).add ?_).add ?_).add ?_)
  · split
    · exact hA _ 1 _ (by omega) (by unfold arrLv; rw [if_pos rfl]; exact h1 (by assumption))
    · exact Below.zero ℓ
  · split
    · exact Below.tally (by omega) (by rw [lv_C]; exact h5 (by assumption))
    · exact Below.zero ℓ
  · split
    · exact hA _ 3 _ (by omega) (by unfold arrLv; rw [if_neg (by omega), if_pos (by omega)]; exact h8 (by omega))
    · exact Below.zero ℓ
  · split
    · exact hA _ 5 _ (by omega) (by unfold arrLv; rw [if_neg (by omega), if_pos (by omega)]; exact h8 (by omega))
    · exact Below.zero ℓ
  · split
    · exact hA _ 7 _ (by omega) (by unfold arrLv; rw [if_neg (by omega), if_neg (by omega), if_pos rfl]; exact h10 (by assumption))
    · exact Below.zero ℓ
  · split
    · exact hA _ 9 _ (by omega) (by unfold arrLv; rw [if_neg (by omega), if_neg (by omega), if_neg (by omega), if_pos rfl]; exact h12 (by assumption))
    · exact Below.zero ℓ

/-- The device owes exactly `O`. -/
noncomputable def Ow (d : Dev nD) (O : CellTallies nD τ sig ℕ) : sProp 𝕄 := iprop(∃ W, owes (d : Thread nD τ) O W)

/-! ## The records every device may use -/

/-- The invariants of all cells and of all receive slots, that every cell's first round is open, and the levels. -/
noncomputable def recs (K : GSem nD τ sig → ℕ) (Ks : Dev nD × Fin 2 → ℕ) : sProp 𝕄 :=
  iprop(bigSep Finset.univ (fun p : Dev nD × SemLoc sig => iprop(cellInv ER (Rd m) (K ((p.1 : Thread nD τ), p.2)) ((p.1 : Thread nD τ), p.2) ∗ reached ER ((p.1 : Thread nD τ), p.2) 0))
    ∗ bigSep Finset.univ (fun k : Dev nD × Fin 2 => slotInv ES (Ks k) k (yrAny k.1 k.2.val)) ∗ levAts L lv)

instance recs_persistent (K Ks) : BI.Persistent (recs m K Ks) := by unfold recs; infer_instance

variable (K : GSem nD τ sig → ℕ) (Ks : Dev nD × Fin 2 → ℕ)

theorem recs_cell (d : Dev nD) (sm : SemLoc sig) :
    recs m K Ks ⊢ iprop(cellInv ER (Rd m) (K ((d : Thread nD τ), sm)) ((d : Thread nD τ), sm) ∗ reached ER ((d : Thread nD τ), sm) 0) := by
  have h : (bigSep Finset.univ (fun p : Dev nD × SemLoc sig => iprop(cellInv ER (Rd m) (K ((p.1 : Thread nD τ), p.2)) ((p.1 : Thread nD τ), p.2) ∗ reached ER ((p.1 : Thread nD τ), p.2) 0)))
      ⊢ iprop(cellInv ER (Rd m) (K ((d : Thread nD τ), sm)) ((d : Thread nD τ), sm) ∗ reached ER ((d : Thread nD τ), sm) 0) := bigSep_elim (Finset.mem_univ (d, sm))
  unfold recs
  iintro ⟨H, -, -⟩
  iapply h
  iexact H
theorem recs_slot (d : Dev nD) (j : ℕ) : recs m K Ks ⊢ slotInv ES (Ks (key d j)) (key d j) (yrAny d j) := by
  have e : (yrAny d j : sProp 𝕄) = yrAny (key d j).1 (key d j).2.val := by
    show yrAny d j = yrAny d (j % 2)
    have : yrV j = yrV (j % 2) := by
      unfold yrV
      congr 3
      simp only [Nat.mod_mod]
    unfold yrAny
    rw [this]
  rw [e]
  have h : (bigSep Finset.univ (fun k : Dev nD × Fin 2 => slotInv ES (Ks k) k (yrAny k.1 k.2.val)))
      ⊢ (slotInv ES (Ks (key d j)) (key d j) (yrAny (key d j).1 (key d j).2.val) : sProp 𝕄) := bigSep_elim (Finset.mem_univ (key d j))
  unfold recs
  iintro ⟨-, H, -⟩
  iapply h
  iexact H
theorem recs_lev : recs m K Ks ⊢ (levAts L lv : sProp 𝕄) := by
  unfold recs; iintro ⟨-, -, H⟩; iexact H

end Cert.KernelIdeal.Hand

end
-- ==== Proof.Stage.lean ====
/-
# The stages of a chunk

A device takes a chunk through sixteen stages: 0 untouched, 1 partial product sent along `y`, 2 that send done, 3 the
neighbour's partial product received, 4 the two added, 5 the receive slot freed and the credit sent, 6 the sum's store
started, 7 sent along `z`, 8 sent along `x`, 9 the `z` neighbour's sum received, 10 its left half forwarded along `x`,
11 the `x` neighbour's sum received, 12 its right half forwarded along `z`, 13–16 the forwarded halves received and the
forwarding done. `Stg d n j` is what device `d` holds of chunk `j` at stage `n`. The slot of a chunk is freed on its
own (`Gd`): 1 all three of its readers started, 2–4 each of them done.
-/
module

public import proofs.«01_k».proof.Proof.Owes

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)

/-! ## Pieces -/

/-- The owner of entry `j` of array `a` has not waited; the credits of its landing; it has waited. -/
noncomputable abbrev at0 (d : Dev nD) (a j : ℕ) : sProp 𝕄 := atPos ER (cA d a j) 0 ∅ 0
noncomputable abbrev crN (d : Dev nD) (a j N : ℕ) : sProp 𝕄 := cred (tallyAt (cA d a j) 0 N)
noncomputable abbrev done (d : Dev nD) (a j : ℕ) : sProp 𝕄 := semVal (cA d a j) 0
/-- The right to land on entry `j` of array `a`, once. -/
noncomputable abbrev tokA (d : Dev nD) (a j : ℕ) : sProp 𝕄 := dutyTok ER (cA d a j) 0 0

/-! ## A chunk -/

noncomputable def Stg (d : Dev nD) (n j : ℕ) : sProp 𝕄 :=
  iprop((if n < 1 then iprop(at0 d 0 j ∗ tokA d 0 j ∗ tokA (yn d) 1 j ∗ writeTok ES (key (yn d) j) (j / 2 + 1)) else if n < 2 then iprop(at0 d 0 j ∗ crN d 0 j NY) else done d 0 j)
    ∗ (if n < 3 then iprop(at0 d 1 j ∗ crN d 1 j NY) else done d 1 j)
    ∗ (if n < 5 then dutyTok ER (cC (yn d)) 0 j else emp)
    ∗ (if n < 2 then emp else if n < 3 then pcP m fullShare d j (mm m d j) else if n < 4 then iprop(pcP m fullShare d j (mm m d j) ∗ yrP m d j (mm m (yn d) j))
        else if n < 5 then iprop(pcP m fullShare d j (red m d j) ∗ yrAny d j) else if n < 6 then pcP m fullShare d j (red m d j)
        else if n < 7 then iprop(pcP m qZ d j (red m d j) ∗ pcP m qX d j (red m d j)) else if n < 8 then pcP m qX d j (red m d j) else emp)
    ∗ (if n < 6 then iprop(dutyTok ER (cS d j) (j / 2) 0 ∗ outAny d (bown d) j) else if n < 8 then cred (tallyAt (cS d j) 0 NY) else emp)
    ∗ (if n < 7 then iprop(tokA d 2 j ∗ tokA (zn d) 3 j ∗ outAny (zn d) (bown d) j) else if n < 8 then crN d 2 j NY else emp)
    ∗ (if n < 8 then iprop(tokA d 4 j ∗ tokA (xn d) 5 j ∗ outAny (xn d) (bown d) j) else emp)
    ∗ (if n < 9 then iprop(at0 d 3 j ∗ crN d 3 j NY) else done d 3 j)
    ∗ (if n < 10 then iprop(at0 d 6 j ∗ tokA d 6 j ∗ tokA (xn d) 7 j ∗ outHAny (xn d) (bz d) j 0) else if n < 15 then iprop(at0 d 6 j ∗ crN d 6 j NH) else done d 6 j)
    ∗ (if n < 9 then emp else if n < 10 then outP m d (bz d) j else if n < 15 then outHP m d (bz d) j 1 else outP m d (bz d) j)
    ∗ (if n < 11 then iprop(at0 d 5 j ∗ crN d 5 j NY) else done d 5 j)
    ∗ (if n < 12 then iprop(at0 d 8 j ∗ tokA d 8 j ∗ tokA (zn d) 9 j ∗ outHAny (zn d) (bx d) j 1) else if n < 16 then iprop(at0 d 8 j ∗ crN d 8 j NH) else done d 8 j)
    ∗ (if n < 11 then emp else if n < 12 then outP m d (bx d) j else if n < 16 then outHP m d (bx d) j 0 else outP m d (bx d) j)
    ∗ (if n < 13 then iprop(at0 d 7 j ∗ crN d 7 j NH) else iprop(done d 7 j ∗ outHP m d (bd d) j 0))
    ∗ (if n < 14 then iprop(at0 d 9 j ∗ crN d 9 j NH) else iprop(done d 9 j ∗ outHP m d (bd d) j 1)))

/-- The readers of chunk `j`'s slot, after `γ` of the events above. -/
noncomputable def Gd (d : Dev nD) (γ j : ℕ) : sProp 𝕄 :=
  iprop((if γ < 2 then at0 d 2 j else done d 2 j)
    ∗ (if γ < 3 then at0 d 4 j else done d 4 j)
    ∗ (if γ < 1 then emp else if γ < 2 then iprop(crN d 2 j NY ∗ crN d 4 j NY ∗ cred (tallyAt (cS d j) 0 NY))
        else if γ < 3 then iprop(pcP m qZ d j (red m d j) ∗ crN d 4 j NY ∗ cred (tallyAt (cS d j) 0 NY))
        else if γ < 4 then iprop(pcP m qZ d j (red m d j) ∗ pcP m qX d j (red m d j) ∗ cred (tallyAt (cS d j) 0 NY)) else outP m d (bown d) j))

/-- What the device owes for the chunks of `S`, chunk `j` at stage `σ j`. -/
noncomputable def owS (d : Dev nD) (σ : ℕ → ℕ) (S : Finset ℕ) : CellTallies nD τ sig ℕ := ∑ i ∈ S, ow d (σ i) i
/-- All sixteen chunks, chunk `j` at stage `σ j`, and what the device owes; all slots' readers. -/
noncomputable def St (d : Dev nD) (σ : ℕ → ℕ) : sProp 𝕄 :=
  iprop(bigSep (Finset.range 16) (fun j => Stg m d (σ j) j) ∗ Ow d (owS d σ (Finset.range 16)))
noncomputable def Gs (d : Dev nD) (γ : ℕ → ℕ) : sProp 𝕄 := bigSep (Finset.range 16) (fun j => Gd m d (γ j) j)

theorem St_congr (d : Dev nD) (σ σ' : ℕ → ℕ) (h : ∀ j, j < 16 → σ j = σ' j) : St m d σ = St m d σ' := by
  unfold St owS
  rw [bigSep_congr (fun j hj => by rw [h j (Finset.mem_range.mp hj)]), Finset.sum_congr rfl (fun j hj => by rw [h j (Finset.mem_range.mp hj)])]
theorem Gs_congr (d : Dev nD) (γ γ' : ℕ → ℕ) (h : ∀ j, j < 16 → γ j = γ' j) : Gs m d γ = Gs m d γ' := by
  unfold Gs
  rw [bigSep_congr (fun j hj => by rw [h j (Finset.mem_range.mp hj)])]

theorem erase_congr {σ : ℕ → ℕ} {j n : ℕ} {i : ℕ} (hi : i ∈ (Finset.range 16).erase j) : Function.update σ j n i = σ i :=
  Function.update_of_ne (Finset.ne_of_mem_erase hi) _ _

/-- A step of one chunk is a step of all of them. -/
theorem St_step (d : Dev nD) (σ : ℕ → ℕ) (j n n' : ℕ) (hj : j < 16) (hσ : σ j = n) {σ' : ℕ → ℕ} (hσ' : ∀ i, i < 16 → Function.update σ j n' i = σ' i) {X Y A B : sProp 𝕄}
    (H : iprop(X ∗ Stg m d n j ∗ Ow d (ow d n j + owS d σ ((Finset.range 16).erase j)))
      ⊢ iprop(((Y ∗ Stg m d n' j ∗ Ow d (ow d n' j + owS d σ ((Finset.range 16).erase j))) -∗ A) -∗ B)) :
    iprop(X ∗ St m d σ) ⊢ iprop(((Y ∗ St m d σ') -∗ A) -∗ B) := by
  rw [← St_congr m d _ _ hσ']
  have hm : j ∈ Finset.range 16 := Finset.mem_range.mpr hj
  have e1 : bigSep (Finset.range 16) (fun i => Stg m d (σ i) i) = iprop(Stg m d n j ∗ bigSep ((Finset.range 16).erase j) (fun i => Stg m d (σ i) i)) := by
    rw [bigSep_erase hm, hσ]; rfl
  have e2 : bigSep (Finset.range 16) (fun i => Stg m d (Function.update σ j n' i) i) = iprop(Stg m d n' j ∗ bigSep ((Finset.range 16).erase j) (fun i => Stg m d (σ i) i)) := by
    rw [bigSep_erase hm, Function.update_self]
    congr 1
    exact bigSep_congr (fun i hi => by rw [erase_congr hi])
  have o1 : owS d σ (Finset.range 16) = ow d n j + owS d σ ((Finset.range 16).erase j) := by
    unfold owS; rw [← Finset.add_sum_erase _ _ hm, hσ]
  have o2 : owS d (Function.update σ j n') (Finset.range 16) = ow d n' j + owS d σ ((Finset.range 16).erase j) := by
    unfold owS; rw [← Finset.add_sum_erase _ _ hm, Function.update_self]
    congr 1
    exact Finset.sum_congr rfl (fun i hi => by rw [erase_congr hi])
  unfold St
  rw [e1, e2, o1, o2]
  iintro ⟨HX, ⟨HS, HR⟩, HO⟩ Hk
  iapply H $$ [HX HS HO]
  · isplitl [HX]; · iexact HX
    isplitl [HS]; · iexact HS
    iexact HO
  iintro ⟨HY, HS, HO⟩
  iapply Hk
  isplitl [HY]; · iexact HY
  isplitl [HS HR]
  · isplitl [HS]; · iexact HS
    iexact HR
  iexact HO

theorem Gs_step (d : Dev nD) (γ : ℕ → ℕ) (j n n' : ℕ) (hj : j < 16) (hγ : γ j = n) {γ' : ℕ → ℕ} (hγ' : ∀ i, i < 16 → Function.update γ j n' i = γ' i) {X Y A B : sProp 𝕄}
    (H : iprop(X ∗ Gd m d n j) ⊢ iprop(((Y ∗ Gd m d n' j) -∗ A) -∗ B)) :
    iprop(X ∗ Gs m d γ) ⊢ iprop(((Y ∗ Gs m d γ') -∗ A) -∗ B) := by
  rw [← Gs_congr m d _ _ hγ']
  have hm : j ∈ Finset.range 16 := Finset.mem_range.mpr hj
  have e1 : bigSep (Finset.range 16) (fun i => Gd m d (γ i) i) = iprop(Gd m d n j ∗ bigSep ((Finset.range 16).erase j) (fun i => Gd m d (γ i) i)) := by
    rw [bigSep_erase hm, hγ]; rfl
  have e2 : bigSep (Finset.range 16) (fun i => Gd m d (Function.update γ j n' i) i) = iprop(Gd m d n' j ∗ bigSep ((Finset.range 16).erase j) (fun i => Gd m d (γ i) i)) := by
    rw [bigSep_erase hm, Function.update_self]
    congr 1
    exact bigSep_congr (fun i hi => by rw [erase_congr hi])
  unfold Gs
  rw [e1, e2]
  iintro ⟨HX, HS, HR⟩ Hk
  iapply H $$ [HX HS]
  · isplitl [HX]; · iexact HX
    iexact HS
  iintro ⟨HY, HS⟩
  iapply Hk
  isplitl [HY]; · iexact HY
  isplitl [HS]; · iexact HS
  iexact HR

/-- Nothing the device owes lies at level `ℓ` or lower. -/
def ok (σ : ℕ → ℕ) (ℓ : ℕ) : Prop := ∀ i, i < 16 → okw (σ i) i ℓ
theorem below_owS (d : Dev nD) (σ : ℕ → ℕ) (ℓ : ℕ) (S : Finset ℕ) (hS : S ⊆ Finset.range 16) (h : ok σ ℓ) : Below (owS d σ S) ℓ :=
  Below.sum fun i hi => below_ow d _ i ℓ (Finset.mem_range.mp (hS hi)) (h i (Finset.mem_range.mp (hS hi)))
theorem below_rest (d : Dev nD) (σ : ℕ → ℕ) (ℓ j n : ℕ) (hj : j < 16) (hσ : σ j = n) (h : ok σ ℓ) :
    Below (ow d n j + owS d σ ((Finset.range 16).erase j)) ℓ := by
  refine (below_ow d n j ℓ hj ?_).add (below_owS d σ ℓ _ (Finset.erase_subset _ _) h)
  rw [← hσ]; exact h j hj

/-! ## One wait, one send -/

variable (K : GSem nD τ sig → ℕ) (Ks : Dev nD × Fin 2 → ℕ)

/-- A wait for the one landing of a round of one of the device's DMA semaphores. -/
theorem wait_dma {α : Type} {Q : α → sProp 𝕄} (d : Dev nD) (q : DmaSem sig) (r : ℕ) {sem : DmaSem sig} (hsem : sem = q)
    (hd : (Rd m).duties (cD d q) r = {0}) {N : ℕ} (hN : amt (.dma q) = N)
    {sp sp' : Space} {s s' : Shape} {e e' : EltTy} {src : Memref sig (d : Thread nD τ).2.kind sp' s' e'} {dst : Memref sig .tc sp s e}
    (hc : dst.view.dmaCredit = N)
    {hsrc : src.view.WordExact} {hdst : dst.view.WordExact} {O : CellTallies nD τ sig ℕ} (hO : Below O (lv (cD d q) 0))
    {k : PUnit → Prog (TpuEff nD τ sig (Elt F) Λ₀ .tc) α} :
    iprop(recs m K Ks ∗ atPos ER (cD d q) r ∅ 0 ∗ cred (tallyAt (cD d q) 0 N) ∗ Ow d O)
      ⊢ iprop(((atPos ER (cD d q) (r + 1) ∅ 0 ∗ reached ER (cD d q) (r + 1) ∗ (Rd m).payload (cD d q) r 0 ∗ Ow d O) -∗ WP d (k ⟨⟩) Q)
          -∗ WP d (.op (.waitDma2 sem src dst hsrc hdst) k) Q) := by
  subst hsem
  iintro ⟨#HR, Hat, Hc, HO⟩ Hk
  unfold Ow
  icases HO with ⟨%W, HO⟩
  iapply (Rounds.wp_wait_rest_token 𝒱₀ ER (Rd m) (d : Thread nD τ) none (κ := K (cD d sem))
      (wpE_waitDma2_eq 𝒱₀ (d : Thread nD τ) none Set.univ) (Set.mem_univ _) 0 (O := O) (W := W) (R := r) (m := 0) (T := ∅)
      (by rw [expect_one m _ r hd, Nat.zero_add]; exact hc.trans hN.symm)) $$ [Hat Hc HO]
  · isplitr
    · ihave H := (recs_cell m K Ks d (.dma sem)) $$ HR
      icases H with ⟨H, -⟩; iexact H
    isplitl [Hc]; · rw [hc]; iexact Hc
    isplitl [HO]; · iexact HO
    isplitr
    · iapply (mayWait d (.dma sem) 0 (by omega) O hO)
      iapply (recs_lev m K Ks); iexact HR
    iexact Hat
  iintro ⟨HO, Hat, Hr, Hp⟩
  iapply Hk
  isplitl [Hat]; · iexact Hat
  isplitl [Hr]; · iexact Hr
  isplitl [Hp]
  · ihave Hp := (Entails.of_eq (rest_one m _ r hd)) $$ Hp
    iexact Hp
  iexists _; iexact HO

/-- The same for an entry of an array of one round: it is spent. -/
theorem wait_A {α : Type} {Q : α → sProp 𝕄} (d : Dev nD) (a j : ℕ) (ha : a < 10) (hj : j < 16) {sem : DmaSem sig} (hsem : sem = dsem a j)
    {N : ℕ} (hN : amt (.dma (dsem a j)) = N)
    {sp sp' : Space} {s s' : Shape} {e e' : EltTy} {src : Memref sig (d : Thread nD τ).2.kind sp' s' e'} {dst : Memref sig .tc sp s e}
    (hc : dst.view.dmaCredit = N)
    {hsrc : src.view.WordExact} {hdst : dst.view.WordExact} {O : CellTallies nD τ sig ℕ} (hO : Below O (arrLv a j))
    {k : PUnit → Prog (TpuEff nD τ sig (Elt F) Λ₀ .tc) α} :
    iprop(recs m K Ks ∗ at0 d a j ∗ crN d a j N ∗ Ow d O)
      ⊢ iprop(((done d a j ∗ arrPay m d a j ∗ Ow d O) -∗ WP d (k ⟨⟩) Q)
          -∗ WP d (.op (.waitDma2 sem src dst hsrc hdst) k) Q) := by
  iintro ⟨#HR, Hat, Hc, HO⟩ Hk
  iapply (wait_dma m K Ks d (dsem a j) 0 hsem (dut_A m ha hj d) hN hc (O := O) (by rw [lv_A ha hj]; exact hO)) $$ [Hat Hc HO]
  · isplitr; · iexact HR
    isplitl [Hat]; · iexact Hat
    isplitl [Hc]; · iexact Hc
    iexact HO
  iintro ⟨Hat, -, Hp, HO⟩
  imod (Rounds.cell_close ER (Rd m) (Set.mem_univ (K (cA d a j))) (fun h => h) (R := 0 + 1) (dut_A_later m ha hj d)) $$ [Hat] with Hz
  · isplitr
    · ihave H := (recs_cell m K Ks d (.dma (dsem a j))) $$ HR
      icases H with ⟨H, -⟩; iexact H
    iexact Hat
  iapply Hk
  isplitl [Hz]; · iexact Hz
  isplitl [Hp]
  · ihave Hp := (Entails.of_eq (pay_A m ha hj d 0 0)) $$ Hp
    iexact Hp
  iexact HO

/-- A remote copy: its landing here pays entry `j` of array `a`, its landing there entry `j` of array `a + 1`. -/
theorem send_A {α : Type} {Q : α → sProp 𝕄} (d n : Dev nD) (a j : ℕ) (ha : a + 1 < 10) (hj : j < 16) {n' : Dev nD} (hn : n' = n)
    {semS semR : DmaSem sig} (hS : semS = dsem a j) (hR : semR = dsem (a + 1) j) {N : ℕ}
    (hN₁ : amt (.dma (dsem a j)) = N) (hN₂ : amt (.dma (dsem (a + 1) j)) = N)
    {sp sp' : Space} {s : Shape} {e : EltTy} {src : Memref sig .tc sp s e} {dst : Memref sig .tc sp' s e}
    (hc : dst.view.dmaCredit = N) {hsc : dst.view.ref.isScScratch = false}
    {hsrc : src.view.WordExact} {hdst : dst.view.WordExact} {hsem : DmaTarget.Typed sp (.dma semR) (.remote (Dev.tc n' : Thread nD τ) dst (.dma semS) hsc)}
    {q : PosShare TreeShare} {fs : Buf (Elt F) (src.view.loc (d : Thread nD τ))} {fd : Buf (Elt F) (dst.view.loc (n : Thread nD τ))}
    {O₀ : CellTallies nD τ sig ℕ} (O : CellTallies nD τ sig ℕ) (hO : O₀ = O + tallyAt (cA n (a + 1) j) 0 N)
    (hpay₁ : (src.view.loc (d : Thread nD τ) ↦[src.view.set]{q} fs) ⊢ (arrPay m d a j : sProp 𝕄))
    (hpay₂ : (dst.view.loc (n : Thread nD τ) ↦[dst.view.set]{fullShare} (dst.view.write (Elt F) fd (src.view.read (Elt F) fs) Finset.univ))
      ⊢ (arrPay m n (a + 1) j : sProp 𝕄))
    {k : PUnit → Prog (TpuEff nD τ sig (Elt F) Λ₀ .tc) α} :
    iprop(recs m K Ks ∗ (src.view.loc (d : Thread nD τ) ↦[src.view.set]{q} fs) ∗ (dst.view.loc (n : Thread nD τ) ↦[dst.view.set]{fullShare} fd)
        ∗ Ow d O₀ ∗ tokA d a j ∗ tokA n (a + 1) j)
      ⊢ iprop(((crN d a j N ∗ Ow d O) -∗ WP d (k ⟨⟩) Q)
          -∗ WP d (.op (.enqueueDma src (.remote (Dev.tc n' : Thread nD τ) dst (.dma semS) hsc) (.dma semR) hsrc hdst hsem) k) Q) := by
  subst hn; subst hS; subst hR
  iintro ⟨#HR, Hs, Hd, HO, Ht1, Ht2⟩ Hk
  unfold Ow
  icases HO with ⟨%W, HO⟩
  ihave H1 := (recs_cell m K Ks d (.dma (dsem a j))) $$ HR
  icases H1 with ⟨#HI1, #HR1⟩
  ihave H2 := (recs_cell m K Ks n' (.dma (dsem (a + 1) j))) $$ HR
  icases H2 with ⟨#HI2, #HR2⟩
  iapply (Rounds.wp_send_pointsTo 𝒱₀ ER (Rd m) (d : Thread nD τ) none (c' := (n' : Thread nD τ)) (κ₁ := K (cA d a j)) (κ₂ := K (cA n' (a + 1) j))
    (r₁ := 0) (r₂ := 0) (d₁ := 0) (d₂ := 0) (fd := fd)
    (by rw [dut_A m (by omega) hj]; exact Finset.mem_singleton_self _) (by rw [dut_A m ha hj]; exact Finset.mem_singleton_self _)
    0 0 N (show dst.view.amount (.dma (dsem (a+1) j)) = N from hc) (show (Rd m).amount (cA d a j) 0 0 = N from hN₁) (show (Rd m).amount (cA n' (a + 1) j) 0 0 = N from hN₂) O hO (W := W)
    (by rw [pay_A m (by omega) hj]; exact hpay₁) (by rw [pay_A m ha hj]; exact hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists _; iexact HO

/-- A copy within the device paying round `r` of one of its DMA semaphores. -/
theorem copy_dma {α : Type} {Q : α → sProp 𝕄} (d : Dev nD) (q : DmaSem sig) (r : ℕ) {sem : DmaSem sig} (hsem : sem = q)
    (hd : (Rd m).duties (cD d q) r = {0}) {N : ℕ} (hN : amt (.dma q) = N)
    {sp sp' : Space} {s : Shape} {e : EltTy} {src : Memref sig (d : Thread nD τ).2.kind sp s e} {dst : Memref sig (d : Thread nD τ).2.kind sp' s e}
    (hc : dst.view.dmaCredit = N)
    {hsrc : src.view.WordExact} {hdst : dst.view.WordExact} {hty : DmaTarget.Typed (nD := nD) sp (.dma sem) (.here dst)}
    {sh : PosShare TreeShare} {fs : Buf (Elt F) (src.view.loc (d : Thread nD τ))} {fd : Buf (Elt F) (dst.view.loc (d : Thread nD τ))}
    (hpay : iprop((dst.view.loc (d : Thread nD τ) ↦[dst.view.set]{fullShare} (dst.view.write (Elt F) fd (src.view.read (Elt F) fs) Finset.univ))
      ∗ (src.view.loc (d : Thread nD τ) ↦[src.view.set]{sh} fs)) ⊢ (Rd m).payload (cD d q) r 0)
    {k : PUnit → Prog (TpuEff nD τ sig (Elt F) Λ₀ .tc) α} :
    iprop(recs m K Ks ∗ reached ER (cD d q) r ∗ (src.view.loc (d : Thread nD τ) ↦[src.view.set]{sh} fs) ∗ (dst.view.loc (d : Thread nD τ) ↦[dst.view.set]{fullShare} fd)
        ∗ dutyTok ER (cD d q) r 0)
      ⊢ iprop((cred (tallyAt (cD d q) 0 N) -∗ WP d (k ⟨⟩) Q)
          -∗ WP d (.op (.enqueueDma src (.here dst) (.dma sem) hsrc hdst hty) k) Q) := by
  subst hsem
  iintro ⟨#HR, #Hr, Hs, Hd, Ht⟩ Hk
  ihave H1 := (recs_cell m K Ks d (.dma sem)) $$ HR
  icases H1 with ⟨#HI1, -⟩
  iapply (Rounds.wp_copy_pointsTo 𝒱₀ ER (Rd m) (d : Thread nD τ) none (κ := K (cD d sem)) (r := r) (d := 0) (fd := fd)
    (by rw [hd]; exact Finset.mem_singleton_self _) 0 N (show dst.view.amount (.dma sem) = N from hc) hN hpay) $$ [Hs Hd Ht]
  · isplitr; · iexact HI1
    isplitl [Hs]; · iexact Hs
    isplitl [Hd]; · iexact Hd
    isplitl [Ht]; · iexact Ht
    iexact Hr
  iexact Hk

end Cert.KernelIdeal.Hand

end
-- ==== Proof.Ops.lean ====
/-
# The steps of a chunk

Each transfer, wait and signal of the kernel as a step from one stage of a chunk to the next.
-/
module

public import proofs.«01_k».proof.Proof.Stage

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## Waits -/

/-- A wait for the landing on entry `j` of array `a` that takes chunk `j` one stage on. -/
theorem St_wait {α : Type} {Q : α → sProp 𝕄} {d : Dev nD} {σ : ℕ → ℕ} (a j n N : ℕ) (ha : a < 10) (hj : j < 16) (hσ : σ j = n) {σ' : ℕ → ℕ} (hσ' : ∀ i, i < 16 → Function.update σ j (n + 1) i = σ' i)
    (hN : amt (.dma (dsem a j)) = N)
    (hst : Stg m d n j ⊢ iprop(at0 d a j ∗ crN d a j N ∗ ((done d a j ∗ arrPay m d a j) -∗ Stg m d (n + 1) j)))
    (how : ow d n j = ow d (n + 1) j) (hok : ok σ (arrLv a j))
    {sem : DmaSem sig} (hsem : sem = dsem a j)
    {sp sp' : Space} {s s' : Shape} {e e' : EltTy} {src : Memref sig (d : Thread nD τ).2.kind sp' s' e'} {dst : Memref sig .tc sp s e}
    (hc : dst.view.dmaCredit = N)
    {hsrc : src.view.WordExact} {hdst : dst.view.WordExact}
    {k : PUnit → Prog (TpuEff nD τ sig (Elt F) Λ₀ .tc) α} :
    iprop(recs m K Ks ∗ St m d σ)
      ⊢ iprop((St m d σ' -∗ WP d (k ⟨⟩) Q)
          -∗ WP d (.op (.waitDma2 sem src dst hsrc hdst) k) Q) := by
  have h := St_step m d σ j n (n + 1) hj hσ hσ' (X := recs m K Ks) (Y := iprop(emp)) (A := WP d (k ⟨⟩) Q)
    (B := WP d (.op (.waitDma2 sem src dst hsrc hdst) k) Q) (by
      rw [← how]
      iintro ⟨#HR, HS, HO⟩ Hk
      ihave HS := hst $$ HS
      icases HS with ⟨Hat, Hc, Hclose⟩
      iapply (wait_A m K Ks d a j ha hj hsem hN hc (below_rest d σ _ j n hj hσ hok)) $$ [Hat Hc HO]
      · isplitr; · iexact HR
        isplitl [Hat]; · iexact Hat
        isplitl [Hc]; · iexact Hc
        iexact HO
      iintro ⟨Hz, Hp, HO⟩
      iapply Hk
      isplitr; · iempintro
      isplitl [Hclose Hz Hp]
      · iapply Hclose
        isplitl [Hz]; · iexact Hz
        iexact Hp
      iexact HO)
  iintro H Hk
  iapply h $$ H
  iintro ⟨-, H⟩
  iapply Hk
  iexact H

/-- What each of those waits takes out of the chunk's stage, and the next stage it makes of the landing. -/
theorem stg_ysd (d : Dev nD) (j : ℕ) : Stg m d 1 j ⊢ iprop(at0 d 0 j ∗ crN d 0 j NY ∗ ((done d 0 j ∗ arrPay m d 0 j) -∗ Stg m d 2 j)) := by
  simp only [Stg, arrPay, Nat.reduceLT, Nat.reduceEqDiff, ↓reduceIte]
  iintro ⟨⟨H1, H1'⟩, H2, H3, -, H5, H6, H7, H8, H9, H10, H11, H12, H13, H14, H15⟩
  isplitl [H1]; · iexact H1
  isplitl [H1']; · iexact H1'
  iintro ⟨H1, H4⟩
  iframe
theorem stg_yrc (d : Dev nD) (j : ℕ) : Stg m d 2 j ⊢ iprop(at0 d 1 j ∗ crN d 1 j NY ∗ ((done d 1 j ∗ arrPay m d 1 j) -∗ Stg m d 3 j)) := by
  simp only [Stg, arrPay, Nat.reduceLT, Nat.reduceEqDiff, ↓reduceIte]
  iintro ⟨H1, ⟨H2, H2'⟩, H3, H4, H5, H6, H7, H8, H9, H10, H11, H12, H13, H14, H15⟩
  isplitl [H2]; · iexact H2
  isplitl [H2']; · iexact H2'
  iintro ⟨H2, H4'⟩
  iframe
theorem stg_z1rc (d : Dev nD) (j : ℕ) : Stg m d 8 j ⊢ iprop(at0 d 3 j ∗ crN d 3 j NY ∗ ((done d 3 j ∗ arrPay m d 3 j) -∗ Stg m d 9 j)) := by
  simp only [Stg, arrPay, Nat.reduceLT, Nat.reduceEqDiff, ↓reduceIte]
  iintro ⟨H1, H2, H3, H4, H5, H6, H7, ⟨H8, H8'⟩, H9, -, H11, H12, H13, H14, H15⟩
  isplitl [H8]; · iexact H8
  isplitl [H8']; · iexact H8'
  iintro ⟨H8, H10⟩
  iframe
theorem stg_x1rc (d : Dev nD) (j : ℕ) : Stg m d 10 j ⊢ iprop(at0 d 5 j ∗ crN d 5 j NY ∗ ((done d 5 j ∗ arrPay m d 5 j) -∗ Stg m d 11 j)) := by
  simp only [Stg, arrPay, Nat.reduceLT, Nat.reduceEqDiff, ↓reduceIte]
  iintro ⟨H1, H2, H3, H4, H5, H6, H7, H8, H9, H10, ⟨H11, H11'⟩, H12, -, H14, H15⟩
  isplitl [H11]; · iexact H11
  isplitl [H11']; · iexact H11'
  iintro ⟨H11, H13⟩
  iframe
theorem stg_x2rc (d : Dev nD) (j : ℕ) : Stg m d 12 j ⊢ iprop(at0 d 7 j ∗ crN d 7 j NH ∗ ((done d 7 j ∗ arrPay m d 7 j) -∗ Stg m d 13 j)) := by
  simp only [Stg, arrPay, Nat.reduceLT, Nat.reduceEqDiff, ↓reduceIte]
  iintro ⟨H1, H2, H3, H4, H5, H6, H7, H8, H9, H10, H11, H12, H13, ⟨H14, H14'⟩, H15⟩
  isplitl [H14]; · iexact H14
  isplitl [H14']; · iexact H14'
  iintro ⟨H14, H14'⟩
  iframe
theorem stg_z2rc (d : Dev nD) (j : ℕ) : Stg m d 13 j ⊢ iprop(at0 d 9 j ∗ crN d 9 j NH ∗ ((done d 9 j ∗ arrPay m d 9 j) -∗ Stg m d 14 j)) := by
  simp only [Stg, arrPay, Nat.reduceLT, Nat.reduceEqDiff, ↓reduceIte]
  iintro ⟨H1, H2, H3, H4, H5, H6, H7, H8, H9, H10, H11, H12, H13, H14, ⟨H15, H15'⟩⟩
  isplitl [H15]; · iexact H15
  isplitl [H15']; · iexact H15'
  iintro ⟨H15, H15'⟩
  iframe
theorem stg_x2sd (d : Dev nD) (j : ℕ) : Stg m d 14 j ⊢ iprop(at0 d 6 j ∗ crN d 6 j NH ∗ ((done d 6 j ∗ arrPay m d 6 j) -∗ Stg m d 15 j)) := by
  simp only [Stg, arrPay, Nat.reduceLT, Nat.reduceEqDiff, ↓reduceIte]
  iintro ⟨H1, H2, H3, H4, H5, H6, H7, H8, ⟨H9, H9'⟩, H10, H11, H12, H13, H14, H15⟩
  isplitl [H9]; · iexact H9
  isplitl [H9']; · iexact H9'
  iintro ⟨H9, H10'⟩
  ihave H10 := (outP_halves m d (bz d) j).2 $$ [H10 H10']
  · isplitl [H10'] <;> iassumption
  iframe
theorem stg_z2sd (d : Dev nD) (j : ℕ) : Stg m d 15 j ⊢ iprop(at0 d 8 j ∗ crN d 8 j NH ∗ ((done d 8 j ∗ arrPay m d 8 j) -∗ Stg m d 16 j)) := by
  simp only [Stg, arrPay, Nat.reduceLT, Nat.reduceEqDiff, ↓reduceIte]
  iintro ⟨H1, H2, H3, H4, H5, H6, H7, H8, H9, H10, H11, ⟨H12, H12'⟩, H13, H14, H15⟩
  isplitl [H12]; · iexact H12
  isplitl [H12']; · iexact H12'
  iintro ⟨H12, H13'⟩
  ihave H13 := (outP_halves m d (bx d) j).2 $$ [H13 H13']
  · isplitl [H13] <;> iassumption
  iframe

/-- Between those stages nothing is paid. -/
theorem ow_1 (d : Dev nD) (j : ℕ) : ow d 1 j = ow d 2 j := by simp only [ow, Nat.reduceLT, ↓reduceIte]
theorem ow_2 (d : Dev nD) (j : ℕ) : ow d 2 j = ow d 3 j := by simp only [ow, Nat.reduceLT, ↓reduceIte]
theorem ow_8 (d : Dev nD) (j : ℕ) : ow d 8 j = ow d 9 j := by simp only [ow, Nat.reduceLT, ↓reduceIte]
theorem ow_10 (d : Dev nD) (j : ℕ) : ow d 10 j = ow d 11 j := by simp only [ow, Nat.reduceLT, ↓reduceIte]
theorem ow_12 (d : Dev nD) (n j : ℕ) (h : 12 ≤ n) : ow d n j = 0 := by
  unfold ow
  rw [if_neg (by omega), if_neg (by omega), if_neg (by omega), if_neg (by omega), if_neg (by omega), if_neg (by omega)]
  simp only [add_zero]

/-! ## Landings -/

theorem land_yr (n : Dev nD) (j : ℕ) (X : FVec F S1024x256 .f32) (fs : (pcV j).view.ty.Contents (Elt F)) (fd : Buf (Elt F) ((yrV j).view.loc (n : Thread nD τ))) :
    ((yrV j).view.loc (n : Thread nD τ) ↦[(yrV j).view.set]{fullShare} ((yrV j).view.write (Elt F) fd ((pcV j).view.read (Elt F) ((pcV j).view.write (Elt F) fs X Finset.univ)) Finset.univ))
      ⊢ (yrP m n j X : sProp 𝕄) := by
  unfold yrP
  rw [View.read_write_univ]
  exact Entails.of_eq (pointsTo_congr (write_eq_write (yrV j).view _ _ _))
theorem land_out (n : Dev nD) (b : Fin 4) (j : ℕ) (hj : j < 16) (X : FVec F S1024x256 .f32) (hX : red m (devOf (yy n) b) j = X) (fs : (pcV j).view.ty.Contents (Elt F))
    (fd : Buf (Elt F) ((outV b j).view.loc (n : Thread nD τ))) :
    ((outV b j).view.loc (n : Thread nD τ) ↦[(outV b j).view.set]{fullShare} ((outV b j).view.write (Elt F) fd ((pcV j).view.read (Elt F) ((pcV j).view.write (Elt F) fs X Finset.univ)) Finset.univ))
      ⊢ (outP m n b j : sProp 𝕄) := by
  unfold outP
  rw [View.read_write_univ]
  exact Entails.of_eq (pointsTo_congr (write_eq_of_read (outV b j).view _ _ _ ((read_outBuf m (yy n) b j hj).trans hX)))
theorem land_half (n : Dev nD) (y : ℕ) (hy : yy n = y) (b : Fin 4) (j : ℕ) (h : Fin 2) (fd : Buf (Elt F) ((outH b j h).view.loc (n : Thread nD τ))) :
    ((outH b j h).view.loc (n : Thread nD τ) ↦[(outH b j h).view.set]{fullShare} ((outH b j h).view.write (Elt F) fd ((outH b j h).view.read (Elt F) (outBuf m y)) Finset.univ))
      ⊢ (outHP m n b j h : sProp 𝕄) := by
  unfold outHP
  subst hy
  exact Entails.of_eq (pointsTo_congr (write_read_eq (outH b j h).view _ _))

end Cert.KernelIdeal.Hand

end
-- ==== Proof.Sends.lean ====
/-
# The transfers of a chunk

The copies to a neighbour, the store within the device and the freeing of the receive slot.
-/
module

public import proofs.«01_k».proof.Proof.Ops

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

section Rotate
variable {α : Type} [AddCommMonoid α]
theorem rot6 (a b c d e f : α) : a + b + c + d + e + f = b + c + d + e + f + a := by ac_rfl
theorem rot5 (a b c d e : α) : a + b + c + d + e = b + c + d + e + a := by ac_rfl
theorem rot4 (a b c d : α) : a + b + c + d = b + c + d + a := by ac_rfl
theorem rot3 (a b c : α) : a + b + c = b + c + a := by ac_rfl
theorem rot2 (a b : α) : a + b = b + a := by ac_rfl
end Rotate

/-! ## Copies to a neighbour -/

/-- A copy to neighbour `nb` paying entry `j` of array `a` here and of array `a + 1` there, that takes chunk `j` one stage on. -/
theorem St_send {α : Type} {Q : α → sProp 𝕄} {d : Dev nD} {σ : ℕ → ℕ} (X Y : sProp 𝕄) (nb : Dev nD) (a j n N : ℕ) (ha : a + 1 < 10) (hj : j < 16) (hσ : σ j = n) {σ' : ℕ → ℕ} (hσ' : ∀ i, i < 16 → Function.update σ j (n + 1) i = σ' i)
    (hN₁ : amt (.dma (dsem a j)) = N) (hN₂ : amt (.dma (dsem (a + 1) j)) = N)
    {sp sp' : Space} {s : Shape} {e : EltTy} (src : Memref sig .tc sp s e) (dst : Memref sig .tc sp' s e)
    (q : PosShare TreeShare) (fs : Buf (Elt F) (src.view.loc (d : Thread nD τ)))
    (hst : iprop(recs m K Ks ∗ X ∗ Stg m d n j) ⊢ (|={Set.univ}=> ((src.view.loc (d : Thread nD τ) ↦[src.view.set]{q} fs)
      ∗ (∃ fd, dst.view.loc (nb : Thread nD τ) ↦[dst.view.set]{fullShare} fd) ∗ tokA d a j ∗ tokA nb (a + 1) j ∗ (crN d a j N -∗ (Y ∗ Stg m d (n + 1) j))) : sProp 𝕄))
    (how : ow d n j = ow d (n + 1) j + tallyAt (cA nb (a + 1) j) 0 N)
    (hpay₁ : (src.view.loc (d : Thread nD τ) ↦[src.view.set]{q} fs) ⊢ (arrPay m d a j : sProp 𝕄))
    (hpay₂ : ∀ fd, (dst.view.loc (nb : Thread nD τ) ↦[dst.view.set]{fullShare} (dst.view.write (Elt F) fd (src.view.read (Elt F) fs) Finset.univ))
      ⊢ (arrPay m nb (a + 1) j : sProp 𝕄))
    {src' : Memref sig .tc sp s e} (hs : src' = src) {dst' : Memref sig .tc sp' s e} (hd : dst' = dst)
    {n' : Dev nD} (hn : n' = nb) {semS semR : DmaSem sig} (hS : semS = dsem a j) (hR : semR = dsem (a + 1) j)
    (hc : dst.view.dmaCredit = N) {hsc : dst'.view.ref.isScScratch = false}
    {hsrc : src'.view.WordExact} {hdst : dst'.view.WordExact} {hsem : DmaTarget.Typed sp (.dma semR) (.remote (Dev.tc n' : Thread nD τ) dst' (.dma semS) hsc)}
    {k : PUnit → Prog (TpuEff nD τ sig (Elt F) Λ₀ .tc) α} :
    iprop((recs m K Ks ∗ X) ∗ St m d σ)
      ⊢ iprop(((Y ∗ St m d σ') -∗ WP d (k ⟨⟩) Q)
          -∗ WP d (.op (.enqueueDma src' (.remote (Dev.tc n' : Thread nD τ) dst' (.dma semS) hsc) (.dma semR) hsrc hdst hsem) k) Q) := by
  subst hs; subst hd
  refine St_step m d σ j n (n + 1) hj hσ hσ' ?_
  iintro ⟨⟨#HR, HX⟩, HS, HO⟩ Hk
  imod hst $$ [HX HS] with ⟨Hs, ⟨%fd, Hd⟩, Ht1, Ht2, Hclose⟩
  · isplitr; · iexact HR
    isplitl [HX]; · iexact HX
    iexact HS
  iapply (send_A m K Ks d nb a j ha hj hn hS hR hN₁ hN₂ (src := src') (q := q) (fs := fs) (fd := fd) hc (ow d (n + 1) j + owS d σ ((Finset.range 16).erase j)) ((congrArg (· + owS d σ ((Finset.range 16).erase j)) how).trans (add_right_comm _ _ _)) hpay₁ (hpay₂ fd)) $$ [Hs Hd HO Ht1 Ht2]
  · isplitr; · iexact HR
    isplitl [Hs]; · iexact Hs
    isplitl [Hd]; · iexact Hd
    isplitl [HO]; · iexact HO
    isplitl [Ht1]; · iexact Ht1
    iexact Ht2
  iintro ⟨Hc, HO⟩
  ihave H := Hclose $$ Hc
  icases H with ⟨HY, HS⟩
  iapply Hk
  isplitl [HY]; · iexact HY
  isplitl [HS]; · iexact HS
  iexact HO

/-- The partial product goes to the `y` neighbour's receive slot, which that neighbour has freed often enough. -/
theorem stg_ysend (d : Dev nD) (j : ℕ) :
    iprop(recs m K Ks ∗ (pcP m fullShare d j (mm m d j) ∗ released ES (key (yn d) j) (j / 2 + 1)) ∗ Stg m d 0 j)
      ⊢ (|={Set.univ}=> (((pcV j).view.loc (d : Thread nD τ) ↦[(pcV j).view.set]{fullShare} (pcV j).view.write (Elt F) (m ((pcV j).view.loc (d : Thread nD τ))) (mm m d j) Finset.univ)
      ∗ (∃ fd, (yrV j).view.loc (yn d : Thread nD τ) ↦[(yrV j).view.set]{fullShare} fd) ∗ tokA d 0 j ∗ tokA (yn d) 1 j ∗ (crN d 0 j NY -∗ (emp ∗ Stg m d 1 j))) : sProp 𝕄) := by
  iintro ⟨#HR, ⟨Hpc, #Hrel⟩, HS⟩
  simp only [Stg, Nat.reduceLT, ↓reduceIte]
  icases HS with ⟨⟨H1, Hta, Htb, Hw⟩, HS⟩
  imod (slot_take ES (Set.mem_univ (Ks (key (yn d) j))) (j / 2 + 1)) $$ [Hw] with Hyr
  · isplitr
    · iapply (recs_slot m K Ks (yn d) j); iexact HR
    isplitr; · iexact Hrel
    iexact Hw
  imodintro
  isplitl [Hpc]; · unfold pcP; iexact Hpc
  isplitl [Hyr]; · unfold yrAny slot; iexact Hyr
  isplitl [Hta]; · iexact Hta
  isplitl [Htb]; · iexact Htb
  iintro Hc
  isplitr; · iempintro
  isplitl [H1 Hc]
  · isplitl [H1]; · iexact H1
    iexact Hc
  iexact HS
theorem ow_0 (d : Dev nD) (j : ℕ) : ow d 0 j = ow d 1 j + tallyAt (cA (yn d) 1 j) 0 NY := by
  simp only [ow, Nat.reduceLT, ↓reduceIte]; simp only [zero_add]; exact rot6 ..

/-- The sum goes to the `z` neighbour's result. -/
theorem stg_z1send (d : Dev nD) (j : ℕ) :
    iprop(recs m K Ks ∗ emp ∗ Stg m d 6 j)
      ⊢ (|={Set.univ}=> (((pcV j).view.loc (d : Thread nD τ) ↦[(pcV j).view.set]{qZ} (pcV j).view.write (Elt F) (m ((pcV j).view.loc (d : Thread nD τ))) (red m d j) Finset.univ)
      ∗ (∃ fd, (outV (bown d) j).view.loc (zn d : Thread nD τ) ↦[(outV (bown d) j).view.set]{fullShare} fd) ∗ tokA d 2 j ∗ tokA (zn d) 3 j ∗ (crN d 2 j NY -∗ (emp ∗ Stg m d 7 j))) : sProp 𝕄) := by
  simp only [Stg, Nat.reduceLT, ↓reduceIte]
  iintro ⟨#HR, -, H1, H2, H3, ⟨H4, H4'⟩, H5, ⟨H6, H6', H6o⟩, H7, H8, H9, H10, H11, H12, H13, H14, H15⟩
  imodintro
  isplitl [H4]; · unfold pcP; iexact H4
  isplitl [H6o]; · unfold outAny; iexact H6o
  isplitl [H6]; · iexact H6
  isplitl [H6']; · iexact H6'
  iintro Hc
  isplitr; · iempintro
  iframe
theorem ow_6 (d : Dev nD) (j : ℕ) : ow d 6 j = ow d 7 j + tallyAt (cA (zn d) 3 j) 0 NY := by
  simp only [ow, Nat.reduceLT, ↓reduceIte]; simp only [zero_add]; exact rot4 ..

/-- The sum goes to the `x` neighbour's result; the three readers of the slot are now all under way. -/
theorem stg_x1send (d : Dev nD) (j : ℕ) :
    iprop(recs m K Ks ∗ emp ∗ Stg m d 7 j)
      ⊢ (|={Set.univ}=> (((pcV j).view.loc (d : Thread nD τ) ↦[(pcV j).view.set]{qX} (pcV j).view.write (Elt F) (m ((pcV j).view.loc (d : Thread nD τ))) (red m d j) Finset.univ)
      ∗ (∃ fd, (outV (bown d) j).view.loc (xn d : Thread nD τ) ↦[(outV (bown d) j).view.set]{fullShare} fd) ∗ tokA d 4 j ∗ tokA (xn d) 5 j
      ∗ (crN d 4 j NY -∗ ((crN d 2 j NY ∗ crN d 4 j NY ∗ cred (tallyAt (cS d j) 0 NY)) ∗ Stg m d 8 j))) : sProp 𝕄) := by
  simp only [Stg, Nat.reduceLT, ↓reduceIte]
  iintro ⟨#HR, -, H1, H2, H3, H4, H5, H6, ⟨H7, H7', H7o⟩, H8, H9, H10, H11, H12, H13, H14, H15⟩
  imodintro
  isplitl [H4]; · unfold pcP; iexact H4
  isplitl [H7o]; · unfold outAny; iexact H7o
  isplitl [H7]; · iexact H7
  isplitl [H7']; · iexact H7'
  iintro Hc
  isplitl [H6 Hc H5]
  · isplitl [H6]; · iexact H6
    isplitl [Hc]; · iexact Hc
    iexact H5
  iframe
theorem ow_7 (d : Dev nD) (j : ℕ) : ow d 7 j = ow d 8 j + tallyAt (cA (xn d) 5 j) 0 NY := by
  simp only [ow, Nat.reduceLT, ↓reduceIte]; simp only [zero_add]; exact rot3 ..

/-- The left half of the `z` neighbour's sum goes on to the `x` neighbour's result. -/
theorem stg_x2send (d : Dev nD) (j : ℕ) :
    iprop(recs m K Ks ∗ emp ∗ Stg m d 9 j)
      ⊢ (|={Set.univ}=> (((outH (bz d) j 0).view.loc (d : Thread nD τ) ↦[(outH (bz d) j 0).view.set]{fullShare} outBuf m (yy d))
      ∗ (∃ fd, (outH (bz d) j 0).view.loc (xn d : Thread nD τ) ↦[(outH (bz d) j 0).view.set]{fullShare} fd) ∗ tokA d 6 j ∗ tokA (xn d) 7 j ∗ (crN d 6 j NH -∗ (emp ∗ Stg m d 10 j))) : sProp 𝕄) := by
  simp only [Stg, Nat.reduceLT, ↓reduceIte]
  iintro ⟨#HR, -, H1, H2, H3, H4, H5, H6, H7, H8, ⟨H9, H9a, H9b, H9o⟩, H10, H11, H12, H13, H14, H15⟩
  ihave H10 := (outP_halves m d (bz d) j).1 $$ H10
  icases H10 with ⟨H10a, H10⟩
  imodintro
  isplitl [H10a]; · unfold outHP; iexact H10a
  isplitl [H9o]; · unfold outHAny; iexact H9o
  isplitl [H9a]; · iexact H9a
  isplitl [H9b]; · iexact H9b
  iintro Hc
  isplitr; · iempintro
  iframe
theorem ow_9 (d : Dev nD) (j : ℕ) : ow d 9 j = ow d 10 j + tallyAt (cA (xn d) 7 j) 0 NH := by
  simp only [ow, Nat.reduceLT, ↓reduceIte]; simp only [zero_add]; exact rot2 ..

/-- The right half of the `x` neighbour's sum goes on to the `z` neighbour's result. -/
theorem stg_z2send (d : Dev nD) (j : ℕ) :
    iprop(recs m K Ks ∗ emp ∗ Stg m d 11 j)
      ⊢ (|={Set.univ}=> (((outH (bx d) j 1).view.loc (d : Thread nD τ) ↦[(outH (bx d) j 1).view.set]{fullShare} outBuf m (yy d))
      ∗ (∃ fd, (outH (bx d) j 1).view.loc (zn d : Thread nD τ) ↦[(outH (bx d) j 1).view.set]{fullShare} fd) ∗ tokA d 8 j ∗ tokA (zn d) 9 j ∗ (crN d 8 j NH -∗ (emp ∗ Stg m d 12 j))) : sProp 𝕄) := by
  simp only [Stg, Nat.reduceLT, ↓reduceIte]
  iintro ⟨#HR, -, H1, H2, H3, H4, H5, H6, H7, H8, H9, H10, H11, ⟨H12, H12a, H12b, H12o⟩, H13, H14, H15⟩
  ihave H13 := (outP_halves m d (bx d) j).1 $$ H13
  icases H13 with ⟨H13, H13b⟩
  imodintro
  isplitl [H13b]; · unfold outHP; iexact H13b
  isplitl [H12o]; · unfold outHAny; iexact H12o
  isplitl [H12a]; · iexact H12a
  isplitl [H12b]; · iexact H12b
  iintro Hc
  isplitr; · iempintro
  iframe
theorem ow_11 (d : Dev nD) (j : ℕ) : ow d 11 j = ow d 12 j + tallyAt (cA (zn d) 9 j) 0 NH := by
  simp only [ow, Nat.reduceLT, ↓reduceIte]; simp only [zero_add]

end Cert.KernelIdeal.Hand

end
-- ==== Proof.Moves.lean ====
/-
# The other steps of a chunk

The store within the device, the addition, the freeing of the receive slot and its credit.
-/
module

public import proofs.«01_k».proof.Proof.Sends

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## Two semaphores taken in turn -/

/-- A pair of semaphores of which the landings `0, …, t − 1` have been waited for, landing `i` on semaphore `i % 2` in its
    round `i / 2`. -/
noncomputable def Pos (q : ℕ → DmaSem sig) (d : Dev nD) (t : ℕ) : sProp 𝕄 :=
  iprop((atPos ER (cD d (q 0)) ((t + 1) / 2) ∅ 0 ∗ reached ER (cD d (q 0)) ((t + 1) / 2)) ∗ (atPos ER (cD d (q 1)) (t / 2) ∅ 0 ∗ reached ER (cD d (q 1)) (t / 2)))

theorem wsem_mod (t : ℕ) : wsem t = wsem (t % 2) := by unfold wsem; rw [Nat.mod_mod]
theorem ssem_mod (t : ℕ) : ssem t = ssem (t % 2) := by unfold ssem; rw [Nat.mod_mod]

/-- The next landing's semaphore is at its round. -/
theorem Pos_step (q : ℕ → DmaSem sig) (hq : ∀ t, q t = q (t % 2)) (d : Dev nD) (t : ℕ) :
    Pos q d t ⊢ (iprop(atPos ER (cD d (q t)) (t / 2) ∅ 0 ∗ ((atPos ER (cD d (q t)) (t / 2 + 1) ∅ 0 ∗ reached ER (cD d (q t)) (t / 2 + 1)) -∗ Pos q d (t + 1))) : sProp 𝕄) := by
  unfold Pos
  rcases Nat.mod_two_eq_zero_or_one t with h | h
  · rw [hq t, h, show (t + 1) / 2 = t / 2 by omega, show (t + 1 + 1) / 2 = t / 2 + 1 by omega]
    iintro ⟨⟨HA, -⟩, HB⟩
    isplitl [HA]; · iexact HA
    iintro HA
    isplitl [HA]; · iexact HA
    iexact HB
  · rw [hq t, h, show (t + 1) / 2 = t / 2 + 1 by omega, show (t + 1 + 1) / 2 = t / 2 + 1 by omega]
    iintro ⟨HA, ⟨HB, -⟩⟩
    isplitl [HB]; · iexact HB
    iintro HB
    isplitl [HA]; · iexact HA
    iexact HB
/-- The next landing's round, and that of the one after it, are open. -/
theorem Pos_reached (q : ℕ → DmaSem sig) (hq : ∀ t, q t = q (t % 2)) (d : Dev nD) (t : ℕ) :
    Pos q d t ⊢ (iprop((reached ER (cD d (q t)) (t / 2) ∗ reached ER (cD d (q (t + 1))) ((t + 1) / 2)) ∗ Pos q d t) : sProp 𝕄) := by
  unfold Pos
  iintro ⟨⟨HA, #HRA⟩, ⟨HB, #HRB⟩⟩
  isplitr
  · rcases Nat.mod_two_eq_zero_or_one t with h | h
    · rw [hq t, hq (t + 1), h, show (t + 1) % 2 = 1 by omega, show (t + 1) / 2 = t / 2 by omega]
      isplitr; · iexact HRA
      iexact HRB
    · rw [hq t, hq (t + 1), h, show (t + 1) % 2 = 0 by omega]
      isplitr; · iexact HRB
      iexact HRA
  isplitl [HA]
  · isplitl [HA]; · iexact HA
    iexact HRA
  isplitl [HB]; · iexact HB
  iexact HRB

/-! ## The store -/

theorem ow_5 (d : Dev nD) (j : ℕ) : ow d 5 j = ow d 6 j := by simp only [ow, Nat.reduceLT, ↓reduceIte]
theorem St_store {α : Type} {Q : α → sProp 𝕄} {d : Dev nD} {σ : ℕ → ℕ} (j : ℕ) (hj : j < 16) (hσ : σ j = 5) {σ' : ℕ → ℕ} (hσ' : ∀ i, i < 16 → Function.update σ j 6 i = σ' i)
    {src' : Memref sig (d : Thread nD τ).2.kind .vmem S1024x256 .f32} (hs : src' = pcV j) {dst' : Memref sig (d : Thread nD τ).2.kind .hbm S1024x256 .f32} (hd : dst' = outV (bown d) j)
    {sem : DmaSem sig} (hsem : sem = ssem j)
    {hsrc : src'.view.WordExact} {hdst : dst'.view.WordExact} {hty : DmaTarget.Typed (nD := nD) .vmem (.dma sem) (.here dst')}
    {k : PUnit → Prog (TpuEff nD τ sig (Elt F) Λ₀ .tc) α} :
    iprop((recs m K Ks ∗ reached ER (cS d j) (j / 2)) ∗ St m d σ)
      ⊢ iprop(((emp ∗ St m d σ') -∗ WP d (k ⟨⟩) Q)
          -∗ WP d (.op (.enqueueDma src' (.here dst') (.dma sem) hsrc hdst hty) k) Q) := by
  subst hs; subst hd
  refine St_step m d σ j 5 6 hj hσ hσ' ?_
  rw [ow_5]
  simp only [Stg, Nat.reduceLT, ↓reduceIte]
  iintro ⟨⟨#HR, #Hr⟩, ⟨H1, H2, H3, H4, ⟨H5, H5o⟩, HS⟩, HO⟩ Hk
  ihave H4 := (pc_shares m d j (red m d j)).1 $$ H4
  icases H4 with ⟨H4s, H4⟩
  unfold outAny
  icases H5o with ⟨%fd, H5o⟩
  iapply (copy_dma m K Ks d (ssem j) (j / 2) hsem (dut_S m hj d) (amt_S j) (src := pcV j) (dst := outV (bown d) j) (fd := fd) (sh := qS)
    (fs := (pcV j).view.write (Elt F) (m ((pcV j).view.loc (d : Thread nD τ))) (red m d j) Finset.univ) rfl (by
      rw [pay_S]
      unfold stPay pcP
      iintro ⟨HA, HB⟩
      isplitl [HB]; · iexact HB
      iapply (land_out m d (bown d) j hj _ (by rw [devOf_bown]) _ fd)
      iexact HA)) $$ [H4s H5o H5]
  · isplitr; · iexact HR
    isplitr; · iexact Hr
    isplitl [H4s]; · unfold pcP; iexact H4s
    isplitl [H5o]; · iexact H5o
    iexact H5
  iintro Hc
  iapply Hk
  isplitr; · iempintro
  isplitl [H1 H2 H3 H4 Hc HS]
  · isplitl [H1]; · iexact H1
    isplitl [H2]; · iexact H2
    isplitl [H3]; · iexact H3
    isplitl [H4]; · iexact H4
    isplitl [Hc]; · iexact Hc
    iexact HS
  iexact HO

/-! ## The addition -/

theorem ow_3 (d : Dev nD) (j : ℕ) : ow d 3 j = ow d 4 j := by simp only [ow, Nat.reduceLT, ↓reduceIte]
/-- Load both slots, store their sum. -/
theorem St_add {α : Type} {Q : α → sProp 𝕄} {d : Dev nD} {σ : ℕ → ℕ} (j : ℕ) (hj : j < 16) (hσ : σ j = 3) {σ' : ℕ → ℕ} (hσ' : ∀ i, i < 16 → Function.update σ j 4 i = σ' i)
    {off : Fin 3 → ℕ} (hoff : off = ![j % 2, 0, 0]) {inb : ∀ a, off a + S1x1024x256.size a ≤ S2x1024x256.size a}
    {g : FVec F S1x1024x256 .f32 → FVec F S1x1024x256 .f32 → FVec F S1x1024x256 .f32}
    (hg : ∀ a b, g a b = shapeCast S1x1024x256 (addf (shapeCast S1024x256 a shapeCasts_S1x1024x256_S1024x256) (shapeCast S1024x256 b shapeCasts_S1x1024x256_S1024x256)) shapeCasts_S1024x256_S1x1024x256)
    {h1 h2 h3 h4 h5}
    {k : PUnit → Prog (TpuEff nD τ sig (Elt F) Λ₀ .tc) α} :
    St m d σ
      ⊢ iprop((St m d σ' -∗ WP d (k ⟨⟩) Q)
          -∗ WP d (.op (.load pcM (Rect.unit (s := S2x1024x256) off S1x1024x256.size inb).toLoadRect h1) fun (a : Vec F S1x1024x256 .f32) =>
              .op (.load yrM (Rect.unit (s := S2x1024x256) off S1x1024x256.size inb).toLoadRect h2) fun (b : Vec F S1x1024x256 .f32) =>
              .op (.load pcM (Rect.unit (s := S2x1024x256) off S1x1024x256.size inb).toLoadRect h3) fun _ =>
              .op (.store pcM (Rect.unit (s := S2x1024x256) off S1x1024x256.size inb) (g a b) Finset.univ h4 h5) k) Q) := by
  have h := St_step m d σ j 3 4 hj hσ hσ' (X := iprop(emp)) (Y := iprop(emp)) (A := WP d (k ⟨⟩) Q)
    (B := WP d (.op (.load pcM (Rect.unit (s := S2x1024x256) off S1x1024x256.size inb).toLoadRect h1) fun (a : Vec F S1x1024x256 .f32) =>
              .op (.load yrM (Rect.unit (s := S2x1024x256) off S1x1024x256.size inb).toLoadRect h2) fun (b : Vec F S1x1024x256 .f32) =>
              .op (.load pcM (Rect.unit (s := S2x1024x256) off S1x1024x256.size inb).toLoadRect h3) fun _ =>
              .op (.store pcM (Rect.unit (s := S2x1024x256) off S1x1024x256.size inb) (g a b) Finset.univ h4 h5) k) Q) (by
      rw [ow_3]
      simp only [Stg, Nat.reduceLT, ↓reduceIte]
      iintro ⟨-, ⟨H1, H2, H3, ⟨Hpc, Hyr⟩, HS⟩, HO⟩ Hk
      unfold pcP yrP
      iapply (wp_load 𝒱₀ (d : Thread nD τ) none Set.univ (m := pcM) (Finset.subset_of_eq (pc_setOn_load j off hoff inb))) $$ [Hpc]
      · iexact Hpc
      iintro Hpc
      iapply (wp_load 𝒱₀ (d : Thread nD τ) none Set.univ (m := yrM) (Finset.subset_of_eq (yr_setOn_load j off hoff inb))) $$ [Hyr]
      · iexact Hyr
      iintro Hyr
      iapply (wp_load 𝒱₀ (d : Thread nD τ) none Set.univ (m := pcM) (Finset.subset_of_eq (pc_setOn_load j off hoff inb))) $$ [Hpc]
      · iexact Hpc
      iintro Hpc
      iapply (wp_store 𝒱₀ (d : Thread nD τ) none Set.univ (m := pcM) (Finset.subset_of_eq (pc_setOn j off hoff inb))) $$ [Hpc]
      · iexact Hpc
      iintro Hpc
      iapply Hk
      isplitr; · iempintro
      isplitl [H1 H2 H3 Hpc Hyr HS]
      · isplitl [H1]; · iexact H1
        isplitl [H2]; · iexact H2
        isplitl [H3]; · iexact H3
        isplitl [Hpc Hyr]
        · isplitl [Hpc]
          · rw [hg, pc_load j off hoff inb, yr_load j off hoff inb]
            ihave Hpc := (Entails.of_eq (pointsTo_congr (pc_store j off hoff inb (addf (mm m d j) (mm m (yn d) j)) (m ((pcV j).view.loc (d : Thread nD τ))) _))) $$ Hpc
            unfold red
            iexact Hpc
          · iapply (yrP_any m d j (mm m (yn d) j))
            unfold yrP
            iexact Hyr
        iexact HS
      iexact HO)
  iintro H Hk
  iapply h $$ [H]
  · isplitr; · iempintro
    iexact H
  iintro ⟨-, H⟩
  iapply Hk
  iexact H

/-! ## The receive slots and the credits -/

/-- The reader of the receive slots after `t` chunks: how often each slot has been freed. -/
noncomputable def Rdr (d : Dev nD) (t : ℕ) : sProp 𝕄 :=
  iprop((readerAt ES (key d 0) ((t + 1) / 2 + 1) ∗ released ES (key d 0) ((t + 1) / 2 + 1)) ∗ (readerAt ES (key d 1) (t / 2 + 1) ∗ released ES (key d 1) (t / 2 + 1)))
theorem key_mod (d : Dev nD) (j : ℕ) : key d j = key d (j % 2) := by unfold key; simp only [Nat.mod_mod]
theorem Rdr_step (d : Dev nD) (j : ℕ) :
    Rdr d j ⊢ (iprop(readerAt ES (key d j) (j / 2 + 1) ∗ released ES (key d (j + 1)) ((j + 1) / 2 + 1)
      ∗ ((readerAt ES (key d j) (j / 2 + 1 + 1) ∗ released ES (key d j) (j / 2 + 1 + 1)) -∗ Rdr d (j + 1))) : sProp 𝕄) := by
  unfold Rdr
  rcases Nat.mod_two_eq_zero_or_one j with h | h
  · rw [key_mod d j, key_mod d (j + 1), h, show (j + 1) % 2 = 1 by omega, show (j + 1) / 2 = j / 2 by omega, show (j + 1 + 1) / 2 = j / 2 + 1 by omega]
    iintro ⟨⟨HA, -⟩, ⟨HB, #HRB⟩⟩
    isplitl [HA]; · iexact HA
    isplitr; · iexact HRB
    iintro HA
    isplitl [HA]; · iexact HA
    isplitl [HB]; · iexact HB
    iexact HRB
  · rw [key_mod d j, key_mod d (j + 1), h, show (j + 1) % 2 = 0 by omega, show (j + 1) / 2 = j / 2 + 1 by omega, show (j + 1 + 1) / 2 = j / 2 + 1 by omega]
    iintro ⟨⟨HA, #HRA⟩, ⟨HB, -⟩⟩
    isplitl [HB]; · iexact HB
    isplitr; · iexact HRA
    iintro HB
    isplitl [HA]
    · isplitl [HA]; · iexact HA
      iexact HRA
    iexact HB

theorem yr_two (d : Dev nD) (j : ℕ) : iprop(yrAny d j ∗ yrAny d j) ⊢ (False : sProp 𝕄) := by
  unfold yrAny
  exact slot_slot_false (View.set_nonempty (by decide))

theorem ow_4 (d : Dev nD) (j : ℕ) : ow d 4 j = ow d 5 j + tallyAt (cC (yn d)) (min j 14) 1 := by
  simp only [ow, Nat.reduceLT, ↓reduceIte, zero_add]; exact (rot5 ..)
theorem St_credit {α : Type} {Q : α → sProp 𝕄} {d : Dev nD} {σ : ℕ → ℕ} (j : ℕ) (hj : j < 16) (hσ : σ j = 4) {σ' : ℕ → ℕ} (hσ' : ∀ i, i < 16 → Function.update σ j 5 i = σ' i)
    {n' : Dev nD} (hn : n' = yn d) {w : ℕ} (hw : w = 1)
    {k : PUnit → Prog (TpuEff nD τ sig (Elt F) Λ₀ .tc) α} :
    iprop((recs m K Ks ∗ Rdr d j) ∗ St m d σ)
      ⊢ iprop(((Rdr d (j + 1) ∗ St m d σ') -∗ WP d (k ⟨⟩) Q)
          -∗ WP d (.op (.semSignal (n' : Thread nD τ) crsem w) k) Q) := by
  subst hn; subst hw
  refine St_step m d σ j 4 5 hj hσ hσ' ?_
  simp only [Stg, Nat.reduceLT, ↓reduceIte]
  iintro ⟨⟨#HR, HRd⟩, ⟨H1, H2, H3, ⟨H4, Hyr⟩, HS⟩, HO⟩ Hk
  ihave HRd := (Rdr_step d j) $$ HRd
  icases HRd with ⟨Hra, #Hother, Hclose⟩
  imod (slot_release ES (Set.mem_univ (Ks (key d j))) (yr_two d j) (j / 2 + 1)) $$ [Hra Hyr] with ⟨Hra, #Hrel⟩
  · isplitr; · iapply (recs_slot m K Ks d j); iexact HR
    isplitl [Hra]; · iexact Hra
    iexact Hyr
  unfold Ow
  icases HO with ⟨%W, HO⟩
  ihave H := (recs_cell m K Ks (yn d) (.reg crsem)) $$ HR
  icases H with ⟨#HI, #Hr⟩
  iapply (Rounds.wp_signal 𝒱₀ ER (Rd m) (d : Thread nD τ) none (dst := (yn d : Thread nD τ)) (κ := K (cC (yn d))) (r := 0) (d := j)
      (by rw [dut_C]; exact Finset.mem_range.mpr hj) rfl (min j 14) (ow d 5 j + owS d σ ((Finset.range 16).erase j))
      ((congrArg (· + owS d σ ((Finset.range 16).erase j)) (ow_4 d j)).trans (add_right_comm _ _ _))) $$ [HO H3]
  · isplitr; · iexact HI
    isplitl [HO]; · iexact HO
    isplitl [H3]; · iexact H3
    isplitr
    · rw [pay_C]
      unfold crPay
      rw [yn_yn]
      isplitr; · iexact Hrel
      iexact Hother
    iexact Hr
  iintro HO
  iapply Hk
  isplitl [Hclose Hra]
  · iapply Hclose
    isplitl [Hra]; · iexact Hra
    iexact Hrel
  isplitl [H1 H2 H4 HS]
  · isplitl [H1]; · iexact H1
    isplitl [H2]; · iexact H2
    isplitr; · iempintro
    isplitl [H4]; · iexact H4
    iexact HS
  iexists _; iexact HO

end Cert.KernelIdeal.Hand

end
-- ==== Proof.Guards.lean ====
/-
# Slots, weight rows and credits

The waits that free a slot of the partial products, the weight copies and the product, and the waits for credits.
-/
module

public import proofs.«01_k».proof.Proof.Moves

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## The readers of a slot -/

theorem ok_zero (σ : ℕ → ℕ) : ok σ 0 := fun i _ => by unfold okw; omega
theorem below_St (d : Dev nD) (σ : ℕ → ℕ) (ℓ : ℕ) (h : ok σ ℓ) : Below (owS d σ (Finset.range 16)) ℓ :=
  below_owS d σ ℓ _ (Finset.Subset.refl _) h

theorem Gs_z1sd {α : Type} {Q : α → sProp 𝕄} {d : Dev nD} {σ γ : ℕ → ℕ} (j : ℕ) (hj : j < 16) (hγ : γ j = 1) {γ' : ℕ → ℕ} (hγ' : ∀ i, i < 16 → Function.update γ j 2 i = γ' i)
    {sem : DmaSem sig} (hsem : sem = dsem 2 j)
    {sp sp' : Space} {s s' : Shape} {e e' : EltTy} {src : Memref sig (d : Thread nD τ).2.kind sp' s' e'} {dst : Memref sig .tc sp s e}
    (hc : dst.view.dmaCredit = NY) {hsrc : src.view.WordExact} {hdst : dst.view.WordExact}
    {k : PUnit → Prog (TpuEff nD τ sig (Elt F) Λ₀ .tc) α} :
    iprop((recs m K Ks ∗ St m d σ) ∗ Gs m d γ)
      ⊢ iprop(((St m d σ ∗ Gs m d γ') -∗ WP d (k ⟨⟩) Q)
          -∗ WP d (.op (.waitDma2 sem src dst hsrc hdst) k) Q) := by
  refine Gs_step m d γ j 1 2 hj hγ hγ' ?_
  simp only [Gd, Nat.reduceLT, ↓reduceIte]
  iintro ⟨⟨#HR, HS⟩, ⟨H1, H2, ⟨Hc, Hc'⟩⟩⟩ Hk
  unfold St
  icases HS with ⟨HS, HO⟩
  iapply (wait_A m K Ks d 2 j (by omega) hj hsem (amt_A (by omega) hj) hc (below_St d σ 0 (ok_zero σ))) $$ [H1 Hc HO]
  · isplitr; · iexact HR
    isplitl [H1]; · iexact H1
    isplitl [Hc]; · iexact Hc
    iexact HO
  simp only [arrPay, Nat.reduceEqDiff, ↓reduceIte]
  iintro ⟨Hz, Hp, HO⟩
  iapply Hk
  isplitl [HS HO]
  · isplitl [HS]; · iexact HS
    iexact HO
  iframe
theorem Gs_x1sd {α : Type} {Q : α → sProp 𝕄} {d : Dev nD} {σ γ : ℕ → ℕ} (j : ℕ) (hj : j < 16) (hγ : γ j = 2) {γ' : ℕ → ℕ} (hγ' : ∀ i, i < 16 → Function.update γ j 3 i = γ' i)
    {sem : DmaSem sig} (hsem : sem = dsem 4 j)
    {sp sp' : Space} {s s' : Shape} {e e' : EltTy} {src : Memref sig (d : Thread nD τ).2.kind sp' s' e'} {dst : Memref sig .tc sp s e}
    (hc : dst.view.dmaCredit = NY) {hsrc : src.view.WordExact} {hdst : dst.view.WordExact}
    {k : PUnit → Prog (TpuEff nD τ sig (Elt F) Λ₀ .tc) α} :
    iprop((recs m K Ks ∗ St m d σ) ∗ Gs m d γ)
      ⊢ iprop(((St m d σ ∗ Gs m d γ') -∗ WP d (k ⟨⟩) Q)
          -∗ WP d (.op (.waitDma2 sem src dst hsrc hdst) k) Q) := by
  refine Gs_step m d γ j 2 3 hj hγ hγ' ?_
  simp only [Gd, Nat.reduceLT, ↓reduceIte]
  iintro ⟨⟨#HR, HS⟩, ⟨H1, H2, ⟨Hp', Hc, Hc'⟩⟩⟩ Hk
  unfold St
  icases HS with ⟨HS, HO⟩
  iapply (wait_A m K Ks d 4 j (by omega) hj hsem (amt_A (by omega) hj) hc (below_St d σ 0 (ok_zero σ))) $$ [H2 Hc HO]
  · isplitr; · iexact HR
    isplitl [H2]; · iexact H2
    isplitl [Hc]; · iexact Hc
    iexact HO
  simp only [arrPay, Nat.reduceEqDiff, ↓reduceIte]
  iintro ⟨Hz, Hp, HO⟩
  iapply Hk
  isplitl [HS HO]
  · isplitl [HS]; · iexact HS
    iexact HO
  iframe
/-- The store's landing: all three shares are back, so the slot is free. -/
theorem Gs_store {α : Type} {Q : α → sProp 𝕄} {d : Dev nD} {σ γ : ℕ → ℕ} (j : ℕ) (hj : j < 16) (hγ : γ j = 3) {γ' : ℕ → ℕ} (hγ' : ∀ i, i < 16 → Function.update γ j 4 i = γ' i)
    {sem : DmaSem sig} (hsem : sem = ssem j)
    {sp sp' : Space} {s s' : Shape} {e e' : EltTy} {src : Memref sig (d : Thread nD τ).2.kind sp' s' e'} {dst : Memref sig .tc sp s e}
    (hc : dst.view.dmaCredit = NY) {hsrc : src.view.WordExact} {hdst : dst.view.WordExact}
    {k : PUnit → Prog (TpuEff nD τ sig (Elt F) Λ₀ .tc) α} :
    iprop((recs m K Ks ∗ St m d σ ∗ Pos ssem d j) ∗ Gs m d γ)
      ⊢ iprop((((St m d σ ∗ Pos ssem d (j + 1) ∗ pcAny d j) ∗ Gs m d γ') -∗ WP d (k ⟨⟩) Q)
          -∗ WP d (.op (.waitDma2 sem src dst hsrc hdst) k) Q) := by
  refine Gs_step m d γ j 3 4 hj hγ hγ' ?_
  simp only [Gd, Nat.reduceLT, ↓reduceIte]
  iintro ⟨⟨#HR, HS, HP⟩, ⟨H1, H2, ⟨Hz, Hx, Hc⟩⟩⟩ Hk
  ihave HP := (Pos_step ssem ssem_mod d j) $$ HP
  icases HP with ⟨Hat, Hclose⟩
  unfold St
  icases HS with ⟨HS, HO⟩
  iapply (wait_dma m K Ks d (ssem j) (j / 2) hsem (dut_S m hj d) (amt_S j) hc (O := owS d σ (Finset.range 16)) (by rw [lv_low d _ (by rw [ssem_val]; omega)]; exact below_St d σ 0 (ok_zero σ))) $$ [Hat Hc HO]
  · isplitr; · iexact HR
    isplitl [Hat]; · iexact Hat
    isplitl [Hc]; · iexact Hc
    iexact HO
  rw [pay_S]
  unfold stPay
  iintro ⟨Hat, Hr, ⟨Hs, Ho⟩, HO⟩
  ihave HP := Hclose $$ [Hat Hr]
  · isplitl [Hat] <;> iassumption
  iapply Hk
  isplitl [HS HO HP Hs Hz Hx]
  · isplitl [HS HO]
    · isplitl [HS]; · iexact HS
      iexact HO
    isplitl [HP]; · iexact HP
    iapply (pcP_any m d j (red m d j))
    iapply (pc_shares m d j (red m d j)).2
    isplitl [Hs]; · iexact Hs
    isplitl [Hz]; · iexact Hz
    iexact Hx
  iframe

/-! ## The weight rows -/

/-- The chunks of the weight rows: those below `b` have landed, those below `a` are under way. -/
noncomputable def Wch (d : Dev nD) (a b : ℕ) : sProp 𝕄 :=
  bigSep (Finset.range 16) (fun j => if j < b then wArg m d j else if j < a then cred (tallyAt (cW d j) 0 NW) else iprop(dutyTok ER (cW d j) (j / 2) 0 ∗ wArg m d j))

theorem wvAny_mod (d : Dev nD) (j : ℕ) : (wvAny d j : sProp 𝕄) = wvAny d (j % 2) := by
  have : wvV j = wvV (j % 2) := by
    unfold wvV
    congr 3
    simp only [Nat.mod_mod]
  unfold wvAny
  rw [this]
theorem pcAny_mod (d : Dev nD) (j : ℕ) : (pcAny d j : sProp 𝕄) = pcAny d (j % 2) := by
  have : pcV j = pcV (j % 2) := by
    unfold pcV
    congr 3
    simp only [Nat.mod_mod]
  unfold pcAny
  rw [this]

/-- Start the copy of chunk `a`. -/
theorem W_start {α : Type} {Q : α → sProp 𝕄} {d : Dev nD} (a b : ℕ) (ha : a < 16) (hb : b = a ∨ b + 1 = a)
    {src' : Memref sig (d : Thread nD τ).2.kind .hbm S256x8192 .f32} (hs : src' = waV a) {dst' : Memref sig (d : Thread nD τ).2.kind .vmem S256x8192 .f32} (hd : dst' = wvV a)
    {sem : DmaSem sig} (hsem : sem = wsem a)
    {hsrc : src'.view.WordExact} {hdst : dst'.view.WordExact} {hty : DmaTarget.Typed (nD := nD) .hbm (.dma sem) (.here dst')}
    {k : PUnit → Prog (TpuEff nD τ sig (Elt F) Λ₀ .tc) α} :
    iprop(recs m K Ks ∗ Pos wsem d b ∗ Wch m d a b ∗ wvAny d a)
      ⊢ iprop(((Pos wsem d b ∗ Wch m d (a + 1) b) -∗ WP d (k ⟨⟩) Q)
          -∗ WP d (.op (.enqueueDma src' (.here dst') (.dma sem) hsrc hdst hty) k) Q) := by
  subst hs; subst hd
  have hm : a ∈ Finset.range 16 := Finset.mem_range.mpr ha
  have e1 : Wch m d a b = iprop((dutyTok ER (cW d a) (a / 2) 0 ∗ wArg m d a) ∗ bigSep ((Finset.range 16).erase a) (fun j => if j < b then wArg m d j else if j < a then cred (tallyAt (cW d j) 0 NW) else iprop(dutyTok ER (cW d j) (j / 2) 0 ∗ wArg m d j))) := by
    unfold Wch
    rw [bigSep_erase hm, if_neg (by omega), if_neg (by omega)]; rfl
  have e2 : Wch m d (a + 1) b = iprop(cred (tallyAt (cW d a) 0 NW) ∗ bigSep ((Finset.range 16).erase a) (fun j => if j < b then wArg m d j else if j < a then cred (tallyAt (cW d j) 0 NW) else iprop(dutyTok ER (cW d j) (j / 2) 0 ∗ wArg m d j))) := by
    unfold Wch
    rw [bigSep_erase hm, if_neg (by omega), if_pos (by omega)]
    congr 1
    refine bigSep_congr fun i hi => ?_
    have hne := Finset.ne_of_mem_erase hi
    by_cases h : i < a
    · rw [if_pos h, if_pos (show i < a + 1 by omega)]
    · rw [if_neg h, if_neg (show ¬ i < a + 1 by omega)]
  rw [e1, e2]
  iintro ⟨#HR, HP, ⟨⟨Ht, Hw⟩, HW⟩, Hv⟩ Hk
  ihave HP := (Pos_reached wsem wsem_mod d b) $$ HP
  icases HP with ⟨⟨#Hr0, #Hr1⟩, HP⟩
  unfold wvAny wArg
  icases Hv with ⟨%fd, Hv⟩
  iapply (copy_dma m K Ks d (wsem a) (a / 2) hsem (dut_W m ha d) (amt_W a) (src := waV a) (dst := wvV a) (fd := fd) (sh := fullShare)
    (fs := m ((d : Thread nD τ).loc main_arg1)) rfl (by
      rw [pay_W]
      unfold wPay wvP wArg waR
      iintro ⟨HA, HB⟩
      isplitl [HB]; · iexact HB
      iapply (Entails.of_eq (pointsTo_congr (write_eq_write (wvV a).view _ _ _)))
      iexact HA)) $$ [Hw Hv Ht]
  · isplitr; · iexact HR
    isplitr
    · rcases hb with h | h
      · rw [← h]; iexact Hr0
      · rw [← h]; iexact Hr1
    isplitl [Hw]; · iexact Hw
    isplitl [Hv]; · iexact Hv
    iexact Ht
  iintro Hc
  iapply Hk
  isplitl [HP]; · iexact HP
  isplitl [Hc]; · iexact Hc
  iexact HW

/-- Wait for the copy of chunk `b`. -/
theorem W_wait {α : Type} {Q : α → sProp 𝕄} {d : Dev nD} {σ : ℕ → ℕ} (a b : ℕ) (hb : b < 16) (hab : b < a)
    {sem : DmaSem sig} (hsem : sem = wsem b)
    {sp sp' : Space} {s s' : Shape} {e e' : EltTy} {src : Memref sig (d : Thread nD τ).2.kind sp' s' e'} {dst : Memref sig .tc sp s e}
    (hc : dst.view.dmaCredit = NW) {hsrc : src.view.WordExact} {hdst : dst.view.WordExact}
    {k : PUnit → Prog (TpuEff nD τ sig (Elt F) Λ₀ .tc) α} :
    iprop(recs m K Ks ∗ St m d σ ∗ Pos wsem d b ∗ Wch m d a b)
      ⊢ iprop(((St m d σ ∗ Pos wsem d (b + 1) ∗ Wch m d a (b + 1) ∗ wvP m d b (waR m d b)) -∗ WP d (k ⟨⟩) Q)
          -∗ WP d (.op (.waitDma2 sem src dst hsrc hdst) k) Q) := by
  have hm : b ∈ Finset.range 16 := Finset.mem_range.mpr hb
  have e1 : Wch m d a b = iprop(cred (tallyAt (cW d b) 0 NW) ∗ bigSep ((Finset.range 16).erase b) (fun j => if j < b then wArg m d j else if j < a then cred (tallyAt (cW d j) 0 NW) else iprop(dutyTok ER (cW d j) (j / 2) 0 ∗ wArg m d j))) := by
    unfold Wch
    rw [bigSep_erase hm, if_neg (by omega), if_pos (by omega)]; rfl
  have e2 : Wch m d a (b + 1) = iprop(wArg m d b ∗ bigSep ((Finset.range 16).erase b) (fun j => if j < b then wArg m d j else if j < a then cred (tallyAt (cW d j) 0 NW) else iprop(dutyTok ER (cW d j) (j / 2) 0 ∗ wArg m d j))) := by
    unfold Wch
    rw [bigSep_erase hm, if_pos (by omega)]
    congr 1
    refine bigSep_congr fun i hi => ?_
    have hne := Finset.ne_of_mem_erase hi
    by_cases h : i < b
    · rw [if_pos h, if_pos (show i < b + 1 by omega)]
    · rw [if_neg h, if_neg (show ¬ i < b + 1 by omega)]
  rw [e1, e2]
  iintro ⟨#HR, HS, HP, Hc, HW⟩ Hk
  ihave HP := (Pos_step wsem wsem_mod d b) $$ HP
  icases HP with ⟨Hat, Hclose⟩
  unfold St
  icases HS with ⟨HS, HO⟩
  iapply (wait_dma m K Ks d (wsem b) (b / 2) hsem (dut_W m hb d) (amt_W b) hc (O := owS d σ (Finset.range 16)) (by rw [lv_low d _ (by rw [wsem_val]; omega)]; exact below_St d σ 0 (ok_zero σ))) $$ [Hat Hc HO]
  · isplitr; · iexact HR
    isplitl [Hat]; · iexact Hat
    isplitl [Hc]; · iexact Hc
    iexact HO
  rw [pay_W]
  unfold wPay
  iintro ⟨Hat, Hr, ⟨Hw, Hv⟩, HO⟩
  ihave HP := Hclose $$ [Hat Hr]
  · isplitl [Hat] <;> iassumption
  iapply Hk
  isplitl [HS HO]
  · isplitl [HS]; · iexact HS
    iexact HO
  isplitl [HP]; · iexact HP
  isplitl [Hw HW]
  · isplitl [Hw]; · iexact Hw
    iexact HW
  iexact Hv

/-! ## The product -/

theorem dv_load (f : (dvM : Memref sig .tc .vmem S1024x8192 .f32).view.ty.Contents (Elt F)) (inb) :
    (dvM : Memref sig .tc .vmem S1024x8192 .f32).view.readAt (Elt F) (Rect.unit (s := S1024x8192) ![0, 0] S1024x8192.size inb).toLoadRect f = f := by
  funext i
  show f _ = f i
  congr 1
  funext a
  fin_cases a
  · apply Fin.ext; show 0 + 1 * (i 0 : ℕ) = (i 0 : ℕ); omega
  · apply Fin.ext; show 0 + 1 * (i 1 : ℕ) = (i 1 : ℕ); omega
/-- Load the gradient rows and a weight slot, store their product. -/
theorem Dot {α : Type} {Q : α → sProp 𝕄} {d : Dev nD} (j : ℕ) {inb0 : ∀ a, (![0, 0] : Fin 2 → ℕ) a + S1024x8192.size a ≤ S1024x8192.size a}
    {off : Fin 3 → ℕ} (hoff : off = ![j % 2, 0, 0]) {inb : ∀ a, off a + S1x1024x256.size a ≤ S2x1024x256.size a}
    {off' : Fin 3 → ℕ} (hoff' : off' = ![j % 2, 0, 0]) {inb' : ∀ a, off' a + S1x256x8192.size a ≤ S2x256x8192.size a}
    {h1 h2 h3 h4 h5}
    {k : PUnit → Prog (TpuEff nD τ sig (Elt F) Λ₀ .tc) α} :
    iprop(dvP m d ∗ wvP m d j (waR m d j) ∗ pcAny d j)
      ⊢ iprop(((dvP m d ∗ wvAny d j ∗ pcP m fullShare d j (mm m d j)) -∗ WP d (k ⟨⟩) Q)
          -∗ WP d (.op (.load dvM (Rect.unit (s := S1024x8192) ![0, 0] S1024x8192.size inb0).toLoadRect h1) fun (a : Vec F S1024x8192 .f32) =>
              .op (.load wvM (Rect.unit (s := S2x256x8192) off' S1x256x8192.size inb').toLoadRect h2) fun (b : Vec F S1x256x8192 .f32) =>
              .op (.load pcM (Rect.unit (s := S2x1024x256) off S1x1024x256.size inb).toLoadRect h3) fun _ =>
              .op (.store pcM (Rect.unit (s := S2x1024x256) off S1x1024x256.size inb) (k0_pay3 a b) Finset.univ h4 h5) k) Q) := by
  iintro ⟨Hd, Hw, Hpc⟩ Hk
  unfold dvP wvP pcAny
  icases Hpc with ⟨%f, Hpc⟩
  iapply (wp_load 𝒱₀ (d : Thread nD τ) none Set.univ (m := dvM) (Finset.subset_univ _)) $$ [Hd]
  · iexact Hd
  iintro Hd
  iapply (wp_load 𝒱₀ (d : Thread nD τ) none Set.univ (m := wvM) (Finset.subset_of_eq (wv_setOn_load j off' hoff' inb'))) $$ [Hw]
  · iexact Hw
  iintro Hw
  iapply (wp_load 𝒱₀ (d : Thread nD τ) none Set.univ (m := pcM) (Finset.subset_of_eq (pc_setOn_load j off hoff inb))) $$ [Hpc]
  · iexact Hpc
  iintro Hpc
  iapply (wp_store 𝒱₀ (d : Thread nD τ) none Set.univ (m := pcM) (Finset.subset_of_eq (pc_setOn j off hoff inb))) $$ [Hpc]
  · iexact Hpc
  iintro Hpc
  iapply Hk
  isplitl [Hd]; · iexact Hd
  isplitl [Hw]
  · iapply (wvP_any m d j (waR m d j)); unfold wvP; iexact Hw
  unfold k0_pay3 pcP mm
  dsimp only
  rw [wv_load j off' hoff' inb', dv_load]
  ihave Hpc := (Entails.of_eq (pointsTo_congr (pc_store j off hoff inb _ (m ((pcV j).view.loc (d : Thread nD τ))) _))) $$ Hpc
  iexact Hpc

/-! ## Credits -/

/-- After `n` of the first fourteen credits waited for: which credits they were the device cannot know, only how many;
    each said how often the neighbour's receive slots are free. -/
noncomputable def Cr (d : Dev nD) (n : ℕ) : sProp 𝕄 :=
  iprop((∃ S : Finset ℕ, ⌜S ⊆ Finset.range 16 ∧ n ≤ S.card⌝ ∗ atPos ER (cC d) 0 S n ∗ bigSep S (fun k => crPay d k))
    ∗ (released ES (key (yn d) 0) 1 ∗ released ES (key (yn d) 1) 1)
    ∗ bigSep (Finset.Ico n 14) (fun i => cred (tallyAt (cC d) i 1)) ∗ cred (tallyAt (cC d) 14 2))

/-- So many credits show the next slots free. -/
theorem Cr_free (d : Dev nD) (n j : ℕ) (hj : j ≤ n + 1) :
    Cr d n ⊢ (iprop(released ES (key (yn d) j) (j / 2 + 1) ∗ Cr d n) : sProp 𝕄) := by
  unfold Cr
  iintro ⟨⟨%S, %hS, Hat, HP⟩, ⟨#H0, #H1⟩, Hc⟩
  obtain ⟨hsub, hcard⟩ := hS
  by_cases h2 : j < 2
  · isplitr
    · rcases Nat.mod_two_eq_zero_or_one j with h | h
      · rw [show j = 0 by omega]; iexact H0
      · rw [show j = 1 by omega]; iexact H1
    isplitl [Hat HP]
    · iexists S
      isplitr; · ipureintro; exact ⟨hsub, hcard⟩
      isplitl [Hat]; · iexact Hat
      iexact HP
    isplitr
    · isplitr; · iexact H0
      iexact H1
    iexact Hc
  · obtain ⟨k, hk, hkj⟩ : ∃ k ∈ S, j - 2 ≤ k := by
      by_contra hcon
      push Not at hcon
      have : S ⊆ Finset.range (j - 2) := fun k hk => Finset.mem_range.mpr (hcon k hk)
      have := Finset.card_le_card this
      rw [Finset.card_range] at this
      omega
    have e : bigSep S (fun k => crPay d k) = (iprop(crPay d k ∗ bigSep (S.erase k) (fun k => crPay d k)) : sProp 𝕄) := by
      rw [bigSep_erase hk]; rfl
    have hcr : (crPay d k : sProp 𝕄) ⊢ released ES (key (yn d) j) (j / 2 + 1) := by
      unfold crPay
      iintro ⟨HA, HB⟩
      by_cases hp : k % 2 = j % 2
      · rw [key_mod _ j, ← hp, ← key_mod]
        iapply (released_mono ES (show j / 2 + 1 ≤ k / 2 + 2 by omega))
        iexact HA
      · rw [key_mod _ j, show j % 2 = (k + 1) % 2 by omega, ← key_mod]
        iapply (released_mono ES (show j / 2 + 1 ≤ (k + 1) / 2 + 1 by omega))
        iexact HB
    ihave HP := (Entails.of_eq e) $$ HP
    icases HP with ⟨HP1, HP2⟩
    have hcr2 : (crPay d k : sProp 𝕄) ⊢ iprop(crPay d k ∗ crPay d k) := by
      unfold crPay
      iintro ⟨#HA, #HB⟩
      isplitr
      · isplitr; · iexact HA
        iexact HB
      isplitr; · iexact HA
      iexact HB
    ihave HP1 := hcr2 $$ HP1
    icases HP1 with ⟨HP0, HP1⟩
    isplitl [HP0]
    · iapply hcr; iexact HP0
    isplitl [Hat HP1 HP2]
    · iexists S
      isplitr; · ipureintro; exact ⟨hsub, hcard⟩
      isplitl [Hat]; · iexact Hat
      iapply (Entails.of_eq e.symm)
      isplitl [HP1]; · iexact HP1
      iexact HP2
    isplitr
    · isplitr; · iexact H0
      iexact H1
    iexact Hc

/-- Wait for one more credit. -/
theorem Cr_wait {α : Type} {Q : α → sProp 𝕄} {d : Dev nD} {σ : ℕ → ℕ} (n : ℕ) (hn : n < 14) (hok : ok σ (10 * n + 16)) {w : ℕ} (hw : w = 1)
    {k : PUnit → Prog (TpuEff nD τ sig (Elt F) Λ₀ .tc) α} :
    iprop(recs m K Ks ∗ St m d σ ∗ Cr d n)
      ⊢ iprop(((St m d σ ∗ Cr d (n + 1)) -∗ WP d (k ⟨⟩) Q)
          -∗ WP d (.op (.semWait crsem w) k) Q) := by
  subst hw
  have e : bigSep (Finset.Ico n 14) (fun i => cred (tallyAt (cC d) i 1)) = (iprop(cred (tallyAt (cC d) n 1) ∗ bigSep (Finset.Ico (n + 1) 14) (fun i => cred (tallyAt (cC d) i 1))) : sProp 𝕄) := by
    rw [bigSep_erase (Finset.mem_Ico.mpr ⟨le_refl n, hn⟩)]
    congr 2
    ext i
    simp only [Finset.mem_erase, Finset.mem_Ico]
    omega
  unfold Cr
  rw [e]
  iintro ⟨#HR, HS, ⟨%S, %hS, Hat, HP⟩, ⟨#H0, #H1⟩, ⟨Hc, Hcs⟩, Hc2⟩ Hk
  obtain ⟨hsub, hcard⟩ := hS
  unfold St
  icases HS with ⟨HS, HO⟩
  unfold Ow
  icases HO with ⟨%W, HO⟩
  ihave H := (recs_cell m K Ks d (.reg crsem)) $$ HR
  icases H with ⟨#HI, -⟩
  iapply (Rounds.wp_wait 𝒱₀ ER (Rd m) (d : Thread nD τ) none (κ := K (cC d)) (wpE_semWait_eq 𝒱₀ (d : Thread nD τ) none Set.univ) (Set.mem_univ _)
      {(.reg crsem, n)} (cr := Finsupp.single n 1) (W := W) (O := owS d σ (Finset.range 16)) (R := 0) (m := n) (T := S) (by rw [Util.total_single]) (image_single_subset _ n 1)) $$ [Hc HO Hat]
  · isplitr; · iexact HI
    isplitl [Hc]; · iexact Hc
    isplitl [HO]; · iexact HO
    isplitr
    · iapply (mayWait d (.reg crsem) n (by omega) (owS d σ (Finset.range 16)) (by rw [lv_C]; exact below_St d σ _ hok))
      iapply (recs_lev m K Ks); iexact HR
    iexact Hat
  iintro %S' ⟨%hS', HO, Hat, HP'⟩
  obtain ⟨h1, h2, h3⟩ := hS'
  rw [dut_C] at h2 h3
  rw [expect_C] at h3
  have hc' : (Finset.range 16 \ S').card + S'.card = 16 := by
    rw [Finset.card_sdiff_add_card_eq_card h2, Finset.card_range]
  iapply Hk
  isplitl [HS HO]
  · isplitl [HS]; · iexact HS
    iexists _; iexact HO
  isplitl [Hat HP HP']
  · iexists S'
    isplitr; · ipureintro; exact ⟨h2, by omega⟩
    isplitl [Hat]; · iexact Hat
    have e' : bigSep S' (fun k => crPay d k) = (iprop(bigSep S (fun k => crPay d k) ∗ bigSep (S' \ S) (fun k => crPay d k)) : sProp 𝕄) := by
      rw [← Finset.union_sdiff_of_subset h1, bigSep_union Finset.disjoint_sdiff, Finset.union_sdiff_of_subset h1]; rfl
    rw [e']
    isplitl [HP]; · iexact HP
    have e'' : bigSep (S' \ S) (fun k => (Rd m).payload (cC d) 0 k) = (bigSep (S' \ S) (fun k => crPay d k) : sProp 𝕄) := bigSep_congr fun k _ => pay_C m d 0 k
    iapply (Entails.of_eq e'')
    iexact HP'
  isplitr
  · isplitr; · iexact H0
    iexact H1
  isplitl [Hcs]; · iexact Hcs
  iexact Hc2
/-- Wait for the last two: the round is over and the semaphore spent. -/
theorem Cr_last {α : Type} {Q : α → sProp 𝕄} {d : Dev nD} {σ : ℕ → ℕ} (hok : ok σ (10 * 14 + 16)) {w : ℕ} (hw : w = 2)
    {k : PUnit → Prog (TpuEff nD τ sig (Elt F) Λ₀ .tc) α} :
    iprop(recs m K Ks ∗ St m d σ ∗ Cr d 14)
      ⊢ iprop(((St m d σ ∗ semVal (cC d) 0) -∗ WP d (k ⟨⟩) Q)
          -∗ WP d (.op (.semWait crsem w) k) Q) := by
  subst hw
  unfold Cr
  iintro ⟨#HR, HS, ⟨%S, %hS, Hat, HP⟩, -, -, Hc⟩ Hk
  unfold St
  icases HS with ⟨HS, HO⟩
  unfold Ow
  icases HO with ⟨%W, HO⟩
  ihave H := (recs_cell m K Ks d (.reg crsem)) $$ HR
  icases H with ⟨#HI, -⟩
  iapply (Rounds.wp_wait_rest_token 𝒱₀ ER (Rd m) (d : Thread nD τ) none (κ := K (cC d)) (wpE_semWait_eq 𝒱₀ (d : Thread nD τ) none Set.univ) (Set.mem_univ _)
      14 (W := W) (O := owS d σ (Finset.range 16)) (R := 0) (m := 14) (T := S) (by rw [expect_C])) $$ [Hc HO Hat]
  · isplitr; · iexact HI
    isplitl [Hc]; · iexact Hc
    isplitl [HO]; · iexact HO
    isplitr
    · iapply (mayWait d (.reg crsem) 14 (by omega) (owS d σ (Finset.range 16)) (by rw [lv_C]; exact below_St d σ _ hok))
      iapply (recs_lev m K Ks); iexact HR
    iexact Hat
  iintro ⟨HO, Hat, -, -⟩
  imod (Rounds.cell_close ER (Rd m) (Set.mem_univ (K (cC d))) (fun h => h) (R := 0 + 1) (dut_reg_later m d crsem)) $$ [Hat] with Hz
  · isplitr; · iexact HI
    iexact Hat
  iapply Hk
  isplitl [HS HO]
  · isplitl [HS]; · iexact HS
    iexists _; iexact HO
  iexact Hz

end Cert.KernelIdeal.Hand

end
-- ==== Proof.Offsets.lean ====
/-
# Where a trip points

The conditions, devices, offsets and semaphores of trip `t` of the loop, as functions of `t`; the views at those offsets.
-/
module

public import proofs.«01_k».proof.Proof.Guards

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ

/-! ## Conditions -/

theorem trips_eq : k0_t1_loop.trips = 16 := by decide +kernel
theorem cond1_iff : ∀ t : Fin k0_t1_loop.trips, k0_cond1 t = 1#1 ↔ t.val + 1 < 16 := by decide +kernel
theorem cond2_iff : ∀ t : Fin k0_t1_loop.trips, k0_cond2 t = 1#1 ↔ 2 ≤ t.val := by decide +kernel
theorem cond4_iff : ∀ t : Fin k0_t1_loop.trips, k0_cond4 t = 1#1 ↔ 1 ≤ t.val := by decide +kernel
theorem cond5_iff : ∀ t : Fin k0_t1_loop.trips, k0_cond5 t = 1#1 ↔ 2 ≤ t.val := by decide +kernel
theorem cond6_iff : ∀ t : Fin k0_t1_loop.trips, k0_cond6 t = 1#1 ↔ 3 ≤ t.val := by decide +kernel
theorem cond3_iff : ∀ t : Fin k0_t1_loop.trips,
    Scalar.cmpi .ne (Scalar.extui (Scalar.cmpi .sge (Scf.iv 0#32 1#32 t) 2#32) : BitVec 32) 0#32 = 1#1 ↔ 2 ≤ t.val := by decide +kernel

/-! ## Offsets into the semaphore arrays and the slots -/

theorem o5 : ∀ t : Fin k0_t1_loop.trips, 2 ≤ t.val → k0_off5 t = ![t.val - 2] := by decide +kernel
theorem o6 : ∀ t : Fin k0_t1_loop.trips, 2 ≤ t.val → k0_off6 t = ![(t.val - 2) % 2, 0, 0] := by decide +kernel
theorem o8 : ∀ t : Fin k0_t1_loop.trips, 2 ≤ t.val → k0_off8 t = ![(t.val - 2) % 2] := by decide +kernel
theorem o16 : ∀ t : Fin k0_t1_loop.trips, 1 ≤ t.val → k0_off16 t = ![t.val - 1] := by decide +kernel
theorem o17 : ∀ t : Fin k0_t1_loop.trips, 1 ≤ t.val → k0_off17 t = ![(t.val - 1) % 2, 0, 0] := by decide +kernel
theorem o18 : ∀ t : Fin k0_t1_loop.trips, 1 ≤ t.val → k0_off18 t = ![(t.val - 1) % 2, 0, 0] := by decide +kernel
theorem o19 : ∀ t : Fin k0_t1_loop.trips, 1 ≤ t.val → k0_off19 t = ![(t.val - 1) % 2] := by decide +kernel
theorem o21 : ∀ t : Fin k0_t1_loop.trips, 2 ≤ t.val → k0_off21 t = ![t.val - 2] := by decide +kernel
theorem o26 : ∀ t : Fin k0_t1_loop.trips, 3 ≤ t.val → k0_off26 t = ![t.val - 3] := by decide +kernel

/-! ## Offsets into the result and the operands -/

theorem o1 : ∀ d : Dev nD, k0_off1 d = ![1024 * (bown d).val, 0] := by decide +kernel
theorem o4 : ∀ t : Fin k0_t1_loop.trips, t.val + 1 < 16 → k0_off4 t = ![256 * ((t.val + 1) % 16), 0] := by decide +kernel
theorem o20 : ∀ (d : Dev nD) (t : Fin k0_t1_loop.trips), 1 ≤ t.val → k0_off20 d t = ![1024 * (bown d).val, 256 * ((t.val - 1) % 16)] := by decide +kernel
theorem o24 : ∀ (d : Dev nD) (t : Fin k0_t1_loop.trips), 2 ≤ t.val → k0_off24 d t = ![1024 * (bz d).val, 256 * ((t.val - 2) % 16) + 128 * 0] := by decide +kernel
theorem o25 : ∀ (d : Dev nD) (t : Fin k0_t1_loop.trips), 2 ≤ t.val → k0_off25 d t = ![1024 * (bx d).val, 256 * ((t.val - 2) % 16) + 128 * 1] := by decide +kernel
theorem o29 : ∀ d : Dev nD, k0_off29 d = ![1024 * (bown d).val, 256 * (15 % 16)] := by decide +kernel
theorem o31 : ∀ d : Dev nD, k0_off31 d = ![1024 * (bz d).val, 256 * (14 % 16) + 128 * 0] := by decide +kernel
theorem o32 : ∀ d : Dev nD, k0_off32 d = ![1024 * (bx d).val, 256 * (14 % 16) + 128 * 1] := by decide +kernel
theorem o33 : ∀ d : Dev nD, k0_off33 d = ![1024 * (bz d).val, 256 * (15 % 16) + 128 * 0] := by decide +kernel
theorem o34 : ∀ d : Dev nD, k0_off34 d = ![1024 * (bx d).val, 256 * (15 % 16) + 128 * 1] := by decide +kernel

/-! ## Views at an offset -/

theorem pc_at (j : ℕ) {off : Fin 3 → ℕ} (h : off = ![j % 2, 0, 0]) (inb : ∀ a, off a + S1x1024x256.size a ≤ S2x1024x256.size a) :
    (pcM.slice (Rect.unit (s := S2x1024x256) off S1x1024x256.size inb) (fun _ => rfl)).squeeze S1024x256 squeezes_S1x1024x256_S1024x256 = pcV j := by
  subst h; rfl
theorem yr_at (j : ℕ) {off : Fin 3 → ℕ} (h : off = ![j % 2, 0, 0]) (inb : ∀ a, off a + S1x1024x256.size a ≤ S2x1024x256.size a) :
    (yrM.slice (Rect.unit (s := S2x1024x256) off S1x1024x256.size inb) (fun _ => rfl)).squeeze S1024x256 squeezes_S1x1024x256_S1024x256 = yrV j := by
  subst h; rfl
theorem wv_at (j : ℕ) {off : Fin 3 → ℕ} (h : off = ![j % 2, 0, 0]) (inb : ∀ a, off a + S1x256x8192.size a ≤ S2x256x8192.size a) :
    (wvM.slice (Rect.unit (s := S2x256x8192) off S1x256x8192.size inb) (fun _ => rfl)).squeeze S256x8192 squeezes_S1x256x8192_S256x8192 = wvV j := by
  subst h; rfl
theorem wa_at (j : ℕ) {off : Fin 2 → ℕ} (h : off = ![256 * (j % 16), 0]) (inb : ∀ a, off a + S256x8192.size a ≤ S4096x8192.size a) :
    waM.slice (Rect.unit (s := S4096x8192) off S256x8192.size inb) (fun _ => rfl) = waV j := by
  subst h; rfl
theorem dy_at (b : Fin 4) {off : Fin 2 → ℕ} (h : off = ![1024 * b.val, 0]) (inb : ∀ a, off a + S1024x8192.size a ≤ S4096x8192.size a) :
    dyM.slice (Rect.unit (s := S4096x8192) off S1024x8192.size inb) (fun _ => rfl) = dyV b := by
  subst h; rfl
theorem out_at (b : Fin 4) (j : ℕ) {off : Fin 2 → ℕ} (h : off = ![1024 * b.val, 256 * (j % 16)]) (inb : ∀ a, off a + S1024x256.size a ≤ S4096x4096.size a) :
    outM.slice (Rect.unit (s := S4096x4096) off S1024x256.size inb) (fun _ => rfl) = outV b j := by
  subst h; rfl
theorem outH_at (b : Fin 4) (j : ℕ) (p : Fin 2) {off : Fin 2 → ℕ} (h : off = ![1024 * b.val, 256 * (j % 16) + 128 * p.val]) (inb : ∀ a, off a + S1024x128.size a ≤ S4096x4096.size a) :
    outM.slice (Rect.unit (s := S4096x4096) off S1024x128.size inb) (fun _ => rfl) = outH b j p := by
  subst h; rfl

/-! ## Semaphores at an offset -/

theorem sem_at (a j : ℕ) (base : ℕ) (hbase : base = 5 + 16 * a) {hb : base + S16.numel ≤ 165} {off : Fin 1 → ℕ} (h : off = ![j]) (inb) :
    (((SemArray.consecutive base S16 hb).slice (Rect.unit (s := S16) off S1.size inb)).squeeze S_ squeezes_S1_S_).sem = dsem a j := by
  rw [sem_of_consecutive base hb off j h inb, hbase]; rfl
theorem wsem_at (j : ℕ) {off : Fin 1 → ℕ} (h : off = ![j % 2]) (inb) :
    (((cc0_scratch5 : DmaSems sig S2).slice (Rect.unit (s := S2) off S1.size inb)).squeeze S_ squeezes_S1_S_).sem = wsem j :=
  sem2_of_consecutive 1 (by decide) off (j % 2) h inb
theorem ssem_at (j : ℕ) {off : Fin 1 → ℕ} (h : off = ![j % 2]) (inb) :
    (((cc0_scratch6 : DmaSems sig S2).slice (Rect.unit (s := S2) off S1.size inb)).squeeze S_ squeezes_S1_S_).sem = ssem j :=
  sem2_of_consecutive 3 (by decide) off (j % 2) h inb
theorem ysd_at (j : ℕ) {off : Fin 1 → ℕ} (h : off = ![j]) (inb) :
    (((cc0_scratch7 : DmaSems sig S16).slice (Rect.unit (s := S16) off S1.size inb)).squeeze S_ squeezes_S1_S_).sem = dsem 0 j :=
  sem_at 0 j 5 rfl h inb
theorem yrc_at (j : ℕ) {off : Fin 1 → ℕ} (h : off = ![j]) (inb) :
    (((cc0_scratch8 : DmaSems sig S16).slice (Rect.unit (s := S16) off S1.size inb)).squeeze S_ squeezes_S1_S_).sem = dsem 1 j :=
  sem_at 1 j 21 rfl h inb
theorem z1sd_at (j : ℕ) {off : Fin 1 → ℕ} (h : off = ![j]) (inb) :
    (((cc0_scratch9 : DmaSems sig S16).slice (Rect.unit (s := S16) off S1.size inb)).squeeze S_ squeezes_S1_S_).sem = dsem 2 j :=
  sem_at 2 j 37 rfl h inb
theorem z1rc_at (j : ℕ) {off : Fin 1 → ℕ} (h : off = ![j]) (inb) :
    (((cc0_scratch10 : DmaSems sig S16).slice (Rect.unit (s := S16) off S1.size inb)).squeeze S_ squeezes_S1_S_).sem = dsem 3 j :=
  sem_at 3 j 53 rfl h inb
theorem x1sd_at (j : ℕ) {off : Fin 1 → ℕ} (h : off = ![j]) (inb) :
    (((cc0_scratch11 : DmaSems sig S16).slice (Rect.unit (s := S16) off S1.size inb)).squeeze S_ squeezes_S1_S_).sem = dsem 4 j :=
  sem_at 4 j 69 rfl h inb
theorem x1rc_at (j : ℕ) {off : Fin 1 → ℕ} (h : off = ![j]) (inb) :
    (((cc0_scratch12 : DmaSems sig S16).slice (Rect.unit (s := S16) off S1.size inb)).squeeze S_ squeezes_S1_S_).sem = dsem 5 j :=
  sem_at 5 j 85 rfl h inb
theorem x2sd_at (j : ℕ) {off : Fin 1 → ℕ} (h : off = ![j]) (inb) :
    (((cc0_scratch13 : DmaSems sig S16).slice (Rect.unit (s := S16) off S1.size inb)).squeeze S_ squeezes_S1_S_).sem = dsem 6 j :=
  sem_at 6 j 101 rfl h inb
theorem x2rc_at (j : ℕ) {off : Fin 1 → ℕ} (h : off = ![j]) (inb) :
    (((cc0_scratch14 : DmaSems sig S16).slice (Rect.unit (s := S16) off S1.size inb)).squeeze S_ squeezes_S1_S_).sem = dsem 7 j :=
  sem_at 7 j 117 rfl h inb
theorem z2sd_at (j : ℕ) {off : Fin 1 → ℕ} (h : off = ![j]) (inb) :
    (((cc0_scratch15 : DmaSems sig S16).slice (Rect.unit (s := S16) off S1.size inb)).squeeze S_ squeezes_S1_S_).sem = dsem 8 j :=
  sem_at 8 j 133 rfl h inb
theorem z2rc_at (j : ℕ) {off : Fin 1 → ℕ} (h : off = ![j]) (inb) :
    (((cc0_scratch16 : DmaSems sig S16).slice (Rect.unit (s := S16) off S1.size inb)).squeeze S_ squeezes_S1_S_).sem = dsem 9 j :=
  sem_at 9 j 149 rfl h inb

end Cert.KernelIdeal.Hand

end
-- ==== Proof.Grid.lean ====
/-
# What is delivered, and the stages at a trip

The contents each copy delivers, and where all the chunks stand at trip `c`.
-/
module

public import proofs.«01_k».proof.Proof.Offsets

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## What the copies to the neighbours deliver -/

theorem payY1 (d : Dev nD) (j : ℕ) :
    ((pcV j).view.loc (d : Thread nD τ) ↦[(pcV j).view.set]{fullShare} (pcV j).view.write (Elt F) (m ((pcV j).view.loc (d : Thread nD τ))) (mm m d j) Finset.univ)
      ⊢ (arrPay m d 0 j : sProp 𝕄) := by
  simp only [arrPay, Nat.reduceEqDiff, ↓reduceIte]; unfold pcP; exact .rfl
theorem payY2 (d : Dev nD) (j : ℕ) (fd : Buf (Elt F) ((yrV j).view.loc (yn d : Thread nD τ))) :
    ((yrV j).view.loc (yn d : Thread nD τ) ↦[(yrV j).view.set]{fullShare} (yrV j).view.write (Elt F) fd
      ((pcV j).view.read (Elt F) ((pcV j).view.write (Elt F) (m ((pcV j).view.loc (d : Thread nD τ))) (mm m d j) Finset.univ)) Finset.univ)
      ⊢ (arrPay m (yn d) 1 j : sProp 𝕄) := by
  simp only [arrPay, Nat.reduceEqDiff, ↓reduceIte]; rw [yn_yn]; exact land_yr m (yn d) j _ _ fd
theorem payZ1 (d : Dev nD) (j : ℕ) :
    ((pcV j).view.loc (d : Thread nD τ) ↦[(pcV j).view.set]{qZ} (pcV j).view.write (Elt F) (m ((pcV j).view.loc (d : Thread nD τ))) (red m d j) Finset.univ)
      ⊢ (arrPay m d 2 j : sProp 𝕄) := by
  simp only [arrPay, Nat.reduceEqDiff, ↓reduceIte]; unfold pcP; exact .rfl
theorem payZ2 (d : Dev nD) (j : ℕ) (hj : j < 16) (fd : Buf (Elt F) ((outV (bown d) j).view.loc (zn d : Thread nD τ))) :
    ((outV (bown d) j).view.loc (zn d : Thread nD τ) ↦[(outV (bown d) j).view.set]{fullShare} (outV (bown d) j).view.write (Elt F) fd
      ((pcV j).view.read (Elt F) ((pcV j).view.write (Elt F) (m ((pcV j).view.loc (d : Thread nD τ))) (red m d j) Finset.univ)) Finset.univ)
      ⊢ (arrPay m (zn d) 3 j : sProp 𝕄) := by
  simp only [arrPay, Nat.reduceEqDiff, ↓reduceIte]; rw [bz_zn]
  exact land_out m (zn d) (bown d) j hj _ (by rw [yy_zn, devOf_bown]) _ fd
theorem payX1 (d : Dev nD) (j : ℕ) :
    ((pcV j).view.loc (d : Thread nD τ) ↦[(pcV j).view.set]{qX} (pcV j).view.write (Elt F) (m ((pcV j).view.loc (d : Thread nD τ))) (red m d j) Finset.univ)
      ⊢ (arrPay m d 4 j : sProp 𝕄) := by
  simp only [arrPay, Nat.reduceEqDiff, ↓reduceIte]; unfold pcP; exact .rfl
theorem payX2 (d : Dev nD) (j : ℕ) (hj : j < 16) (fd : Buf (Elt F) ((outV (bown d) j).view.loc (xn d : Thread nD τ))) :
    ((outV (bown d) j).view.loc (xn d : Thread nD τ) ↦[(outV (bown d) j).view.set]{fullShare} (outV (bown d) j).view.write (Elt F) fd
      ((pcV j).view.read (Elt F) ((pcV j).view.write (Elt F) (m ((pcV j).view.loc (d : Thread nD τ))) (red m d j) Finset.univ)) Finset.univ)
      ⊢ (arrPay m (xn d) 5 j : sProp 𝕄) := by
  simp only [arrPay, Nat.reduceEqDiff, ↓reduceIte]; rw [bx_xn]
  exact land_out m (xn d) (bown d) j hj _ (by rw [yy_xn, devOf_bown]) _ fd
theorem payXF1 (d : Dev nD) (j : ℕ) :
    ((outH (bz d) j 0).view.loc (d : Thread nD τ) ↦[(outH (bz d) j 0).view.set]{fullShare} outBuf m (yy d))
      ⊢ (arrPay m d 6 j : sProp 𝕄) := by
  simp only [arrPay, Nat.reduceEqDiff, ↓reduceIte]; unfold outHP; exact .rfl
theorem payXF2 (d : Dev nD) (j : ℕ) (fd : Buf (Elt F) ((outH (bz d) j 0).view.loc (xn d : Thread nD τ))) :
    ((outH (bz d) j 0).view.loc (xn d : Thread nD τ) ↦[(outH (bz d) j 0).view.set]{fullShare} (outH (bz d) j 0).view.write (Elt F) fd
      ((outH (bz d) j 0).view.read (Elt F) (outBuf m (yy d))) Finset.univ)
      ⊢ (arrPay m (xn d) 7 j : sProp 𝕄) := by
  simp only [arrPay, Nat.reduceEqDiff, ↓reduceIte]; rw [bd_xn]
  exact land_half m (xn d) (yy d) (yy_xn d) (bz d) j 0 fd
theorem payZF1 (d : Dev nD) (j : ℕ) :
    ((outH (bx d) j 1).view.loc (d : Thread nD τ) ↦[(outH (bx d) j 1).view.set]{fullShare} outBuf m (yy d))
      ⊢ (arrPay m d 8 j : sProp 𝕄) := by
  simp only [arrPay, Nat.reduceEqDiff, ↓reduceIte]; unfold outHP; exact .rfl
theorem payZF2 (d : Dev nD) (j : ℕ) (fd : Buf (Elt F) ((outH (bx d) j 1).view.loc (zn d : Thread nD τ))) :
    ((outH (bx d) j 1).view.loc (zn d : Thread nD τ) ↦[(outH (bx d) j 1).view.set]{fullShare} (outH (bx d) j 1).view.write (Elt F) fd
      ((outH (bx d) j 1).view.read (Elt F) (outBuf m (yy d))) Finset.univ)
      ⊢ (arrPay m (zn d) 9 j : sProp 𝕄) := by
  simp only [arrPay, Nat.reduceEqDiff, ↓reduceIte]; rw [bd_zn]
  exact land_half m (zn d) (yy d) (yy_zn d) (bx d) j 1 fd

/-! ## Amounts -/

theorem crY (v : Memref sig .tc .vmem S1024x256 .f32) : v.view.dmaCredit = NY := rfl
theorem crO (v : Memref sig .tc .hbm S1024x256 .f32) : v.view.dmaCredit = NY := rfl
theorem crH (v : Memref sig .tc .hbm S1024x128 .f32) : v.view.dmaCredit = NH := rfl
theorem crW (v : Memref sig .tc .vmem S256x8192 .f32) : v.view.dmaCredit = NW := rfl

/-! ## The stages at trip `c` -/

/-- Chunk `c` at stage `a`, the three before it at `b`, `e` and `f`, the earlier ones through, the later ones untouched. -/
def sg (c a b e f : ℕ) (j : ℕ) : ℕ :=
  if c < j then 0 else if j = c then a else if j + 1 = c then b else if j + 2 = c then e else if j + 3 = c then f else 16
/-- The slots of chunks `c - 2` and `c - 1` at `x` and `y`, the earlier ones free. -/
def gm (c x y : ℕ) (j : ℕ) : ℕ := if j + 1 = c then y else if j + 2 = c then x else if j < c then 4 else 0

section Steps
variable {c a b e f j n x y : ℕ}
theorem sgA : sg c a b e f c = a := by unfold sg; rw [if_neg (by omega), if_pos rfl]
theorem sgB (h : j + 1 = c) : sg c a b e f j = b := by unfold sg; split_ifs <;> omega
theorem sgE (h : j + 2 = c) : sg c a b e f j = e := by unfold sg; split_ifs <;> omega
theorem sgF (h : j + 3 = c) : sg c a b e f j = f := by unfold sg; split_ifs <;> omega
theorem sgA' : ∀ i, i < 16 → Function.update (sg c a b e f) c n i = sg c n b e f i := fun i _ => by
  unfold sg; rw [Function.update_apply]; split_ifs <;> omega
theorem sgB' (h : j + 1 = c) : ∀ i, i < 16 → Function.update (sg c a b e f) j n i = sg c a n e f i := fun i _ => by
  unfold sg; rw [Function.update_apply]; split_ifs <;> omega
theorem sgE' (h : j + 2 = c) : ∀ i, i < 16 → Function.update (sg c a b e f) j n i = sg c a b n f i := fun i _ => by
  unfold sg; rw [Function.update_apply]; split_ifs <;> omega
theorem sgF' (h : j + 3 = c) : ∀ i, i < 16 → Function.update (sg c a b e f) j n i = sg c a b e n i := fun i _ => by
  unfold sg; rw [Function.update_apply]; split_ifs <;> omega
theorem gmX (h : j + 2 = c) : gm c x y j = x := by unfold gm; split_ifs <;> omega
theorem gmY (h : j + 1 = c) : gm c x y j = y := by unfold gm; split_ifs <;> omega
theorem gmX' (h : j + 2 = c) : ∀ i, i < 16 → Function.update (gm c x y) j n i = gm c n y i := fun i _ => by
  unfold gm; rw [Function.update_apply]; split_ifs <;> omega
theorem gmY' (h : j + 1 = c) : ∀ i, i < 16 → Function.update (gm c x y) j n i = gm c x n i := fun i _ => by
  unfold gm; rw [Function.update_apply]; split_ifs <;> omega
/-- Waiting at level `ℓ` is allowed when each of the four chunks in hand, and the untouched ones, owe above it. -/
theorem ok_sg {ℓ : ℕ} (h0 : ∀ j, c < j → j < 16 → okw 0 j ℓ) (ha : c < 16 → okw a c ℓ) (hb : ∀ j, j + 1 = c → okw b j ℓ) (he : ∀ j, j + 2 = c → okw e j ℓ)
    (hf : ∀ j, j + 3 = c → okw f j ℓ) : ok (sg c a b e f) ℓ := fun i hi => by
  unfold sg
  split_ifs with h1 h2 h3 h4 h5
  · exact h0 i h1 hi
  · subst h2; exact ha hi
  · exact hb i h3
  · exact he i h4
  · exact hf i h5
  · exact ⟨by omega, by omega, by omega, by omega, by omega⟩
theorem okw_of (n j ℓ : ℕ) (h : ℓ < 10 * j + 5 ∧ ℓ < 156 ∨ 1 ≤ n ∧ ℓ < 10 * j + 16 ∧ ℓ < 156 ∨ 5 ≤ n ∧ ℓ < 10 * j + 16 ∨ 8 ≤ n ∧ ℓ < 10 * j + 27 ∨ 12 ≤ n) : okw n j ℓ :=
  ⟨by omega, by omega, by omega, by omega, by omega⟩
/-- The waits for the neighbours' sums: of chunk `j`, when chunk `j + 2` is under way. -/
theorem ok_yrc (h : j + 1 = c) (hc : c ≤ 16) (ha : 1 ≤ a) : ok (sg c a 2 8 12) (arrLv 1 j) := by
  have hl : arrLv 1 j = 10 * j + 5 := by unfold arrLv; exact if_pos rfl
  rw [hl]
  exact ok_sg (fun i _ _ => okw_of _ _ _ (by omega)) (fun _ => okw_of _ _ _ (by omega)) (fun i _ => okw_of _ _ _ (by omega)) (fun i _ => okw_of _ _ _ (by omega)) (fun i _ => okw_of _ _ _ (by omega))
theorem lv_mid (r : ℕ) (hr : r = 3 ∨ r = 5) : arrLv r j = 10 * j + 16 := by unfold arrLv; rw [if_neg (by omega), if_pos hr]
theorem lv_7 : arrLv 7 j = 10 * j + 27 := by unfold arrLv; rw [if_neg (by omega), if_neg (by omega), if_pos rfl]
theorem lv_9 : arrLv 9 j = 10 * j + 28 := by unfold arrLv; rw [if_neg (by omega), if_neg (by omega), if_neg (by omega), if_pos rfl]
theorem ok_sum (r : ℕ) (hr : r = 3 ∨ r = 5) (h : j + 2 = c) (hc : c ≤ 16) (ha : 1 ≤ a) (he : 8 ≤ e) : ok (sg c a 8 e 12) (arrLv r j) := by
  rw [lv_mid r hr]
  exact ok_sg (fun i _ _ => okw_of _ _ _ (by omega)) (fun _ => okw_of _ _ _ (by omega)) (fun i _ => okw_of _ _ _ (by omega)) (fun i _ => okw_of _ _ _ (by omega)) (fun i _ => okw_of _ _ _ (by omega))
theorem ok_sum15 (r : ℕ) (hr : r = 3 ∨ r = 5) (hb : 8 ≤ b) : ok (sg 16 a b 12 12) (arrLv r 15) := by
  rw [lv_mid r hr]
  exact ok_sg (fun i _ _ => okw_of _ _ _ (by omega)) (fun _ => okw_of _ _ _ (by omega)) (fun i _ => okw_of _ _ _ (by omega)) (fun i _ => okw_of _ _ _ (by omega)) (fun i _ => okw_of _ _ _ (by omega))
theorem ok_half (r : ℕ) (hr : r = 7 ∨ r = 9) (h : j + 3 = c) (hc : c ≤ 16) (ha : 1 ≤ a) (hf : 12 ≤ f) : ok (sg c a 8 12 f) (arrLv r j) := by
  have hl : arrLv r j ≤ 10 * j + 28 := by rcases hr with rfl | rfl; · rw [lv_7]; omega
                                          · rw [lv_9]
  exact ok_sg (fun i _ _ => okw_of _ _ _ (by omega)) (fun _ => okw_of _ _ _ (by omega)) (fun i _ => okw_of _ _ _ (by omega)) (fun i _ => okw_of _ _ _ (by omega)) (fun i _ => okw_of _ _ _ (by omega))
/-- At the end nothing is owed, so every wait is allowed. -/
theorem ok_end (ℓ : ℕ) (hb : 12 ≤ b) (he : 12 ≤ e) (hf : 12 ≤ f) : ok (sg 16 a b e f) ℓ :=
  ok_sg (fun i _ _ => by omega) (fun _ => by omega) (fun i _ => okw_of _ _ _ (by omega)) (fun i _ => okw_of _ _ _ (by omega)) (fun i _ => okw_of _ _ _ (by omega))
/-- The wait for a credit in trip `c`. -/
theorem ok_cr (h : j + 2 = c) (hc : c < 16) : ok (sg c 0 1 8 12) (10 * j + 16) :=
  ok_sg (fun i _ _ => okw_of _ _ _ (by omega)) (fun _ => okw_of _ _ _ (by omega)) (fun i _ => okw_of _ _ _ (by omega)) (fun i _ => okw_of _ _ _ (by omega)) (fun i _ => okw_of _ _ _ (by omega))
end Steps

end Cert.KernelIdeal.Hand

end
-- ==== Proof.Copies.lean ====
/-
# The five copies of a chunk

Each copy a device sends to a neighbour, as one rule: the chunk goes one stage on.
-/
module

public import proofs.«01_k».proof.Proof.Grid
public import proofs.«01_k».proof.Proof.Guards
public import proofs.«01_k».proof.Proof.Offsets

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-- The partial product goes to the `y` neighbour. -/
theorem snd_y {α : Type} {Q : α → sProp 𝕄} {d : Dev nD} {σ : ℕ → ℕ} (j : ℕ) (hj : j < 16) (hσ : σ j = 0) {σ' : ℕ → ℕ} (hσ' : ∀ i, i < 16 → Function.update σ j 1 i = σ' i)
    {src' : Memref sig .tc .vmem S1024x256 .f32} (hs : src' = (pcV j)) {dst' : Memref sig .tc .vmem S1024x256 .f32} (hd : dst' = (yrV j))
    {n' : Dev nD} (hn : n' = yn d) {semS semR : DmaSem sig} (hS : semS = dsem 0 j) (hR : semR = dsem 1 j)
    {hsc : dst'.view.ref.isScScratch = false}
    {hsrc : src'.view.WordExact} {hdst : dst'.view.WordExact} {hsem : DmaTarget.Typed .vmem (.dma semR) (.remote (Dev.tc n' : Thread nD τ) dst' (.dma semS) hsc)}
    {k : PUnit → Prog (TpuEff nD τ sig (Elt F) Λ₀ .tc) α} :
    iprop((recs m K Ks ∗ (pcP m fullShare d j (mm m d j) ∗ released ES (key (yn d) j) (j / 2 + 1))) ∗ St m d σ)
      ⊢ iprop((St m d σ' -∗ WP d (k ⟨⟩) Q)
          -∗ WP d (.op (.enqueueDma src' (.remote (Dev.tc n' : Thread nD τ) dst' (.dma semS) hsc) (.dma semR) hsrc hdst hsem) k) Q) := by
  iintro ⟨⟨#HR, HX⟩, HS⟩ Hk
  iapply (St_send m K Ks iprop(pcP m fullShare d j (mm m d j) ∗ released ES (key (yn d) j) (j / 2 + 1)) iprop(emp) (yn d) 0 j 0 NY (by omega) hj hσ hσ' (amt_A (by omega) hj) (amt_A (by omega) hj) (pcV j) (yrV j) _ _ (stg_ysend m K Ks d j) (ow_0 d j)
    (payY1 m d j) (fun fd => payY2 m d j fd) hs hd hn hS hR (crY _)) $$ [HS HX]
  · isplitr [HS]
    · isplitr; · iexact HR
      iexact HX
    iexact HS
  iintro ⟨-, HS⟩
  iapply Hk $$ HS

/-- The sum goes to the `z` neighbour. -/
theorem snd_z1 {α : Type} {Q : α → sProp 𝕄} {d : Dev nD} {σ : ℕ → ℕ} (j : ℕ) (hj : j < 16) (hσ : σ j = 6) {σ' : ℕ → ℕ} (hσ' : ∀ i, i < 16 → Function.update σ j 7 i = σ' i)
    {src' : Memref sig .tc .vmem S1024x256 .f32} (hs : src' = (pcV j)) {dst' : Memref sig .tc .hbm S1024x256 .f32} (hd : dst' = (outV (bown d) j))
    {n' : Dev nD} (hn : n' = zn d) {semS semR : DmaSem sig} (hS : semS = dsem 2 j) (hR : semR = dsem 3 j)
    {hsc : dst'.view.ref.isScScratch = false}
    {hsrc : src'.view.WordExact} {hdst : dst'.view.WordExact} {hsem : DmaTarget.Typed .vmem (.dma semR) (.remote (Dev.tc n' : Thread nD τ) dst' (.dma semS) hsc)}
    {k : PUnit → Prog (TpuEff nD τ sig (Elt F) Λ₀ .tc) α} :
    iprop(recs m K Ks ∗ St m d σ)
      ⊢ iprop((St m d σ' -∗ WP d (k ⟨⟩) Q)
          -∗ WP d (.op (.enqueueDma src' (.remote (Dev.tc n' : Thread nD τ) dst' (.dma semS) hsc) (.dma semR) hsrc hdst hsem) k) Q) := by
  iintro ⟨#HR, HS⟩ Hk
  iapply (St_send m K Ks iprop(emp) iprop(emp) (zn d) 2 j 6 NY (by omega) hj hσ hσ' (amt_A (by omega) hj) (amt_A (by omega) hj) (pcV j) (outV (bown d) j) _ _ (stg_z1send m K Ks d j) (ow_6 d j)
    (payZ1 m d j) (fun fd => payZ2 m d j hj fd) hs hd hn hS hR (crO _)) $$ [HS]
  · isplitr
    · isplitr; · iexact HR
      iempintro
    iexact HS
  iintro ⟨-, HS⟩
  iapply Hk $$ HS

/-- The sum goes to the `x` neighbour; all the copies out of the slot are now under way. -/
theorem snd_x1 {α : Type} {Q : α → sProp 𝕄} {d : Dev nD} {σ : ℕ → ℕ} (j : ℕ) (hj : j < 16) (hσ : σ j = 7) {σ' : ℕ → ℕ} (hσ' : ∀ i, i < 16 → Function.update σ j 8 i = σ' i)
    {src' : Memref sig .tc .vmem S1024x256 .f32} (hs : src' = (pcV j)) {dst' : Memref sig .tc .hbm S1024x256 .f32} (hd : dst' = (outV (bown d) j))
    {n' : Dev nD} (hn : n' = xn d) {semS semR : DmaSem sig} (hS : semS = dsem 4 j) (hR : semR = dsem 5 j)
    {hsc : dst'.view.ref.isScScratch = false}
    {hsrc : src'.view.WordExact} {hdst : dst'.view.WordExact} {hsem : DmaTarget.Typed .vmem (.dma semR) (.remote (Dev.tc n' : Thread nD τ) dst' (.dma semS) hsc)}
    {k : PUnit → Prog (TpuEff nD τ sig (Elt F) Λ₀ .tc) α} :
    iprop(recs m K Ks ∗ St m d σ)
      ⊢ iprop((((crN d 2 j NY ∗ crN d 4 j NY ∗ cred (tallyAt (cS d j) 0 NY)) ∗ St m d σ') -∗ WP d (k ⟨⟩) Q)
          -∗ WP d (.op (.enqueueDma src' (.remote (Dev.tc n' : Thread nD τ) dst' (.dma semS) hsc) (.dma semR) hsrc hdst hsem) k) Q) := by
  iintro ⟨#HR, HS⟩ Hk
  iapply (St_send m K Ks iprop(emp) iprop(crN d 2 j NY ∗ crN d 4 j NY ∗ cred (tallyAt (cS d j) 0 NY)) (xn d) 4 j 7 NY (by omega) hj hσ hσ' (amt_A (by omega) hj) (amt_A (by omega) hj) (pcV j) (outV (bown d) j) _ _ (stg_x1send m K Ks d j) (ow_7 d j)
    (payX1 m d j) (fun fd => payX2 m d j hj fd) hs hd hn hS hR (crO _)) $$ [HS]
  · isplitr
    · isplitr; · iexact HR
      iempintro
    iexact HS
  iintro H
  iapply Hk $$ H

/-- The left half of what came along `z` goes on along `x`. -/
theorem snd_x2 {α : Type} {Q : α → sProp 𝕄} {d : Dev nD} {σ : ℕ → ℕ} (j : ℕ) (hj : j < 16) (hσ : σ j = 9) {σ' : ℕ → ℕ} (hσ' : ∀ i, i < 16 → Function.update σ j 10 i = σ' i)
    {src' : Memref sig .tc .hbm S1024x128 .f32} (hs : src' = (outH (bz d) j 0)) {dst' : Memref sig .tc .hbm S1024x128 .f32} (hd : dst' = (outH (bz d) j 0))
    {n' : Dev nD} (hn : n' = xn d) {semS semR : DmaSem sig} (hS : semS = dsem 6 j) (hR : semR = dsem 7 j)
    {hsc : dst'.view.ref.isScScratch = false}
    {hsrc : src'.view.WordExact} {hdst : dst'.view.WordExact} {hsem : DmaTarget.Typed .hbm (.dma semR) (.remote (Dev.tc n' : Thread nD τ) dst' (.dma semS) hsc)}
    {k : PUnit → Prog (TpuEff nD τ sig (Elt F) Λ₀ .tc) α} :
    iprop(recs m K Ks ∗ St m d σ)
      ⊢ iprop((St m d σ' -∗ WP d (k ⟨⟩) Q)
          -∗ WP d (.op (.enqueueDma src' (.remote (Dev.tc n' : Thread nD τ) dst' (.dma semS) hsc) (.dma semR) hsrc hdst hsem) k) Q) := by
  iintro ⟨#HR, HS⟩ Hk
  iapply (St_send m K Ks iprop(emp) iprop(emp) (xn d) 6 j 9 NH (by omega) hj hσ hσ' (amt_H (by omega) (by omega) hj) (amt_H (by omega) (by omega) hj) (outH (bz d) j 0) (outH (bz d) j 0) _ _ (stg_x2send m K Ks d j) (ow_9 d j)
    (payXF1 m d j) (fun fd => payXF2 m d j fd) hs hd hn hS hR (crH _)) $$ [HS]
  · isplitr
    · isplitr; · iexact HR
      iempintro
    iexact HS
  iintro ⟨-, HS⟩
  iapply Hk $$ HS

/-- The right half of what came along `x` goes on along `z`. -/
theorem snd_z2 {α : Type} {Q : α → sProp 𝕄} {d : Dev nD} {σ : ℕ → ℕ} (j : ℕ) (hj : j < 16) (hσ : σ j = 11) {σ' : ℕ → ℕ} (hσ' : ∀ i, i < 16 → Function.update σ j 12 i = σ' i)
    {src' : Memref sig .tc .hbm S1024x128 .f32} (hs : src' = (outH (bx d) j 1)) {dst' : Memref sig .tc .hbm S1024x128 .f32} (hd : dst' = (outH (bx d) j 1))
    {n' : Dev nD} (hn : n' = zn d) {semS semR : DmaSem sig} (hS : semS = dsem 8 j) (hR : semR = dsem 9 j)
    {hsc : dst'.view.ref.isScScratch = false}
    {hsrc : src'.view.WordExact} {hdst : dst'.view.WordExact} {hsem : DmaTarget.Typed .hbm (.dma semR) (.remote (Dev.tc n' : Thread nD τ) dst' (.dma semS) hsc)}
    {k : PUnit → Prog (TpuEff nD τ sig (Elt F) Λ₀ .tc) α} :
    iprop(recs m K Ks ∗ St m d σ)
      ⊢ iprop((St m d σ' -∗ WP d (k ⟨⟩) Q)
          -∗ WP d (.op (.enqueueDma src' (.remote (Dev.tc n' : Thread nD τ) dst' (.dma semS) hsc) (.dma semR) hsrc hdst hsem) k) Q) := by
  iintro ⟨#HR, HS⟩ Hk
  iapply (St_send m K Ks iprop(emp) iprop(emp) (zn d) 8 j 11 NH (by omega) hj hσ hσ' (amt_H (by omega) (by omega) hj) (amt_H (by omega) (by omega) hj) (outH (bx d) j 1) (outH (bx d) j 1) _ _ (stg_z2send m K Ks d j) (ow_11 d j)
    (payZF1 m d j) (fun fd => payZF2 m d j fd) hs hd hn hS hR (crH _)) $$ [HS]
  · isplitr
    · isplitr; · iexact HR
      iempintro
    iexact HS
  iintro ⟨-, HS⟩
  iapply Hk $$ HS

end Cert.KernelIdeal.Hand

end
-- ==== Proof.Parts.lean ====
/-
# The parts of a trip

What each part of one trip of the loop does.
-/
module

public import proofs.«01_k».proof.Proof.Copies

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## Running one piece of a program after another -/

/-- A condition before a common rest: the rest is run once. -/
theorem WP_if {β : Type} {d : Dev nD} {c : Prop} [Decidable c] {A : c → Prog (TpuEff nD τ sig (Elt F) Λ₀ .tc) β} {B : Prog (TpuEff nD τ sig (Elt F) Λ₀ .tc) β}
    {Q : β → sProp 𝕄} {X Y : sProp 𝕄}
    (hA : ∀ h, X ⊢ iprop((Y -∗ WP d B Q) -∗ WP d (A h) Q)) (hB : ¬ c → X ⊢ Y) :
    X ⊢ iprop((Y -∗ WP d B Q) -∗ WP d (dite c A (fun _ => B)) Q) := by
  by_cases h : c
  · rw [dif_pos h]; exact hA h
  · rw [dif_neg h]
    iintro HX Hk
    iapply Hk
    iapply (hB h)
    iexact HX

theorem trip_lt (t : Fin k0_t1_loop.trips) : t.val < 16 := lt_of_lt_of_eq t.isLt trips_eq

/-! ## The parts of a trip -/

/-- Chunk `t - 1`: both partial products are in, they are added, the receive slot is freed, the sum is stored and sent along `z`. -/
theorem part12 {β : Type} {Q : β → sProp 𝕄} (d : Dev nD) (v2 v5 v8 v17 v18 v19 : BitVec 32) (t : Fin k0_t1_loop.trips) (arg21 : BitVec 32) (h h' : k0_cond4 t = 1#1) {k : _ → Prog (TpuEff nD τ sig (Elt F) Λ₀ .tc) β} :
    iprop(recs m K Ks ∗ St m d (sg t 1 1 8 12) ∗ Rdr d (t.val - 1) ∗ reached ER (cS d (t.val - 1)) ((t.val - 1) / 2))
      ⊢ iprop((∀ a, (St m d (sg t 1 7 8 12) ∗ Rdr d t) -∗ WP d (k a) Q)
        -∗ WP d (k0_part1 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v2 v8 v17 t arg21 h >>= fun x => k0_part2 (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v17 v18 v19 t h' x.1 x.2.1 x.2.2 >>= k) Q) := by
  rw [k0_part1_eq_skeleton]
  unfold k0_part1_skel
  simp only [k0_part2_eq_skeleton, k0_part2_skel]
  simp only [semSignalWord, semWaitWord, Prog.lift, Prog.bind_op, Prog.bind_ret, Prog.pure_eq_ret]
  have h1 := (cond4_iff t).mp h
  have hlt := trip_lt t
  have hj : t.val - 1 < 16 := by omega
  have e : t.val - 1 + 1 = t.val := by omega
  iintro ⟨#HR, HS, HRd, #Hre⟩ Hk
  iapply (St_wait m K Ks 0 (t.val - 1) 1 NY (by omega) hj (sgB e) (sgB' e) (amt_A (by omega) hj) (stg_ysd m d _) (ow_1 d _) (ok_zero _) (ysd_at _ (o16 t h1) _) (crY _)) $$ [HS]
  · isplitr; · iexact HR
    iexact HS
  iintro HS
  iapply (St_wait m K Ks 1 (t.val - 1) 2 NY (by omega) hj (sgB e) (sgB' e) (amt_A (by omega) hj) (stg_yrc m d _) (ow_2 d _)
    (ok_yrc e hlt.le (le_refl _))
    (yrc_at _ (o16 t h1) _) (crY _)) $$ [HS]
  · isplitr; · iexact HR
    iexact HS
  iintro HS
  iapply (St_add m (t.val - 1) hj (sgB e) (sgB' e) (o18 t h1) (fun _ _ => rfl)) $$ HS
  iintro HS
  iapply (St_credit m K Ks (t.val - 1) hj (sgB e) (sgB' e) (Fin.ext (k0_dev5_eq d)) rfl) $$ [HS HRd]
  · isplitr [HS]
    · isplitr; · iexact HR
      iexact HRd
    iexact HS
  iintro ⟨HRd, HS⟩
  iapply (St_store m K Ks (t.val - 1) hj (sgB e) (sgB' e) (pc_at _ (o17 t h1) _) (out_at _ _ (o20 d t h1) _) (ssem_at _ (o19 t h1) _)) $$ [HS]
  · isplitr
    · isplitr; · iexact HR
      iexact Hre
    iexact HS
  iintro ⟨-, HS⟩
  iapply (snd_z1 m K Ks (t.val - 1) hj (sgB e) (sgB' e) (pc_at _ (o17 t h1) _) (out_at _ _ (o20 d t h1) _) (Fin.ext (k0_dev6_eq d)) (z1sd_at _ (o16 t h1) _) (z1rc_at _ (o16 t h1) _)) $$ [HS]
  · isplitr; · iexact HR
    iexact HS
  iintro HS
  ihave HRd := (Entails.of_eq (congrArg (Rdr d) e)) $$ HRd
  iapply Hk $$ %_ [HS HRd]
  isplitl [HS]
  · iexact HS
  iexact HRd

/-- Chunk `t - 2`: the `z` neighbour's sum is in and its left half goes on along `x`. -/
theorem part3 {β : Type} {Q : β → sProp 𝕄} (d : Dev nD) (v2 v5 v8 v18 v19 : BitVec 32) (t : Fin k0_t1_loop.trips) (arg21 : BitVec 32) (h : k0_cond5 t = 1#1) {k : _ → Prog (TpuEff nD τ sig (Elt F) Λ₀ .tc) β} :
    iprop(recs m K Ks ∗ St m d (sg t 1 8 8 12))
      ⊢ iprop((∀ a, St m d (sg t 1 8 10 12) -∗ WP d (k a) Q)
        -∗ WP d (k0_part3 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v18 v19 t arg21 h >>= k) Q) := by
  rw [k0_part3_eq_skeleton]
  unfold k0_part3_skel
  simp only [Prog.lift, Prog.bind_op, Prog.bind_ret, Prog.pure_eq_ret]
  have h2 := (cond5_iff t).mp h
  have hlt := trip_lt t
  have hj : t.val - 2 < 16 := by omega
  have e : t.val - 2 + 2 = t.val := by omega
  iintro ⟨#HR, HS⟩ Hk
  iapply (St_wait m K Ks 3 (t.val - 2) 8 NY (by omega) hj (sgE e) (sgE' e) (amt_A (by omega) hj) (stg_z1rc m d _) (ow_8 d _)
    (ok_sum 3 (by omega) e hlt.le (le_refl _) (le_refl _)) (z1rc_at _ (o21 t h2) _) (crO _)) $$ [HS]
  · isplitr; · iexact HR
    iexact HS
  iintro HS
  iapply (snd_x2 m K Ks (t.val - 2) hj (sgE e) (sgE' e) (outH_at _ _ _ (o24 d t h2) _) (outH_at _ _ _ (o24 d t h2) _) (Fin.ext (k0_dev8_eq d)) (x2sd_at _ (o21 t h2) _) (x2rc_at _ (o21 t h2) _)) $$ [HS]
  · isplitr; · iexact HR
    iexact HS
  iintro HS
  iapply Hk $$ %_ HS

/-- Chunk `t - 3`: the halves forwarded to this device are in, and its own forwarding along `x` is done. -/
theorem part4 {β : Type} {Q : β → sProp 𝕄} (d : Dev nD) (v2 v5 v8 v18 v19 : BitVec 32) (t : Fin k0_t1_loop.trips) (arg21 : BitVec 32) (h : k0_cond6 t = 1#1) {k : _ → Prog (TpuEff nD τ sig (Elt F) Λ₀ .tc) β} :
    iprop(recs m K Ks ∗ St m d (sg t 1 8 12 12))
      ⊢ iprop((∀ a, St m d (sg t 1 8 12 15) -∗ WP d (k a) Q)
        -∗ WP d (k0_part4 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v18 v19 t arg21 h >>= k) Q) := by
  rw [k0_part4_eq_skeleton]
  unfold k0_part4_skel
  simp only [Prog.lift, Prog.bind_op, Prog.bind_ret, Prog.pure_eq_ret]
  have h3 := (cond6_iff t).mp h
  have hlt := trip_lt t
  have hj : t.val - 3 < 16 := by omega
  have e : t.val - 3 + 3 = t.val := by omega
  have how (n : ℕ) (hn : 12 ≤ n) (j : ℕ) : ow d n j = ow d (n + 1) j := (ow_12 d n j hn).trans (ow_12 d (n + 1) j (by omega)).symm
  iintro ⟨#HR, HS⟩ Hk
  iapply (St_wait m K Ks 7 (t.val - 3) 12 NH (by omega) hj (sgF e) (sgF' e) (amt_H (by omega) (by omega) hj) (stg_x2rc m d _) (how 12 (by omega) _)
    (ok_half 7 (by omega) e hlt.le (le_refl _) (by omega)) (x2rc_at _ (o26 t h3) _) (crH _)) $$ [HS]
  · isplitr; · iexact HR
    iexact HS
  iintro HS
  iapply (St_wait m K Ks 9 (t.val - 3) 13 NH (by omega) hj (sgF e) (sgF' e) (amt_H (by omega) (by omega) hj) (stg_z2rc m d _) (how 13 (by omega) _)
    (ok_half 9 (by omega) e hlt.le (le_refl _) (by omega)) (z2rc_at _ (o26 t h3) _) (crH _)) $$ [HS]
  · isplitr; · iexact HR
    iexact HS
  iintro HS
  iapply (St_wait m K Ks 6 (t.val - 3) 14 NH (by omega) hj (sgF e) (sgF' e) (amt_H (by omega) (by omega) hj) (stg_x2sd m d _) (how 14 (by omega) _)
    (ok_zero _) (x2sd_at _ (o26 t h3) _) (crH _)) $$ [HS]
  · isplitr; · iexact HR
    iexact HS
  iintro HS
  iapply Hk $$ %_ HS

/-- What is left of the free weight slot after the copy into it may have been started. -/
noncomputable def wx (d : Dev nD) (c : ℕ) : sProp 𝕄 := if c < 16 then iprop(emp) else wvAny d c
/-- The slots of the partial products no chunk has yet used. -/
noncomputable def pcF (d : Dev nD) (c : ℕ) : sProp 𝕄 := iprop((if c < 1 then pcAny d 0 else emp) ∗ (if c < 2 then pcAny d 1 else emp))

theorem Wch_end (d : Dev nD) (a a' b : ℕ) (h : 16 ≤ a) (h' : 16 ≤ a') : Wch m d a b = Wch m d a' b := by
  unfold Wch
  refine bigSep_congr fun i hi => ?_
  have := Finset.mem_range.mp hi
  rw [if_pos (show i < a by omega), if_pos (show i < a' by omega)]

/-! ### When a condition of the trip fails -/

theorem else1 (d : Dev nD) (t : ℕ) (h : ¬ t + 1 < 16) :
    iprop(recs m K Ks ∗ Pos wsem d t ∗ Wch m d (t + 1) t ∗ wvAny d (t + 1)) ⊢ (iprop(Pos wsem d t ∗ Wch m d (t + 2) t ∗ wx d (t + 1)) : sProp 𝕄) := by
  unfold wx
  rw [if_neg h, Wch_end m d (t + 1) (t + 2) t (by omega) (by omega)]
  iintro ⟨-, H⟩
  iexact H
theorem pcF_step (d : Dev nD) (t : ℕ) (h : t < 2) : pcF d t ⊢ (iprop(pcF d (t + 1) ∗ pcAny d t) : sProp 𝕄) := by
  unfold pcF
  rcases (show t = 0 ∨ t = 1 by omega) with rfl | rfl
  · simp only [Nat.reduceAdd, Nat.reduceLT, ↓reduceIte]
    iintro ⟨H0, H1⟩
    iframe
  · simp only [Nat.reduceAdd, Nat.reduceLT, ↓reduceIte]
    iintro ⟨H0, H1⟩
    iframe
theorem pcF_two (d : Dev nD) (t : ℕ) (h : 2 ≤ t) : (pcF d t : sProp 𝕄) = iprop(emp ∗ emp) := by
  unfold pcF; rw [if_neg (by omega), if_neg (by omega)]
theorem else2 (d : Dev nD) (t : ℕ) (h : ¬ 2 ≤ t) :
    iprop(recs m K Ks ∗ St m d (sg t 0 1 8 12) ∗ Gs m d (gm t 1 0) ∗ Pos ssem d (t - 2) ∗ pcF d t)
      ⊢ (iprop(St m d (sg t 0 1 8 12) ∗ Gs m d (gm t 4 0) ∗ Pos ssem d (t - 1) ∗ pcF d (t + 1) ∗ pcAny d t) : sProp 𝕄) := by
  rw [Gs_congr m d (gm t 4 0) (gm t 1 0) (fun j _ => by unfold gm; split_ifs <;> omega), show t - 2 = t - 1 by omega]
  iintro ⟨-, HS, HG, HP, Hpc⟩
  ihave Hpc := (pcF_step d t (by omega)) $$ Hpc
  icases Hpc with ⟨H1, H2⟩
  iframe
theorem else3 (d : Dev nD) (t : ℕ) (h : ¬ 2 ≤ t) :
    iprop(recs m K Ks ∗ St m d (sg t 0 1 8 12) ∗ Cr d (t - 2)) ⊢ (iprop(St m d (sg t 0 1 8 12) ∗ Cr d (t - 1)) : sProp 𝕄) := by
  rw [show t - 2 = t - 1 by omega]
  iintro ⟨-, H⟩
  iexact H

/-- Run one program, then the next. -/
theorem WP_then {α β : Type} {d : Dev nD} {p : Prog (TpuEff nD τ sig (Elt F) Λ₀ .tc) α} {k : α → Prog (TpuEff nD τ sig (Elt F) Λ₀ .tc) β} {Q : β → sProp 𝕄} {X Y : sProp 𝕄}
    (hp : X ⊢ WP d p (fun _ => Y)) : X ⊢ iprop((∀ a, Y -∗ WP d (k a) Q) -∗ WP d (p >>= k) Q) := by
  unfold WP
  rw [wp_bind]
  iintro HX Hk
  ihave H := hp $$ HX
  iapply (wp_wand _ _ _) $$ H
  iexact Hk

/-- Chunk `t` is multiplied out: the next weight rows are on their way, the slot of the product is free, this chunk's weight
    rows are in, and the neighbour's credit is in. -/
theorem part5 (d : Dev nD) (t : Fin k0_t1_loop.trips) :
    iprop(recs m K Ks ∗ St m d (sg t 0 1 8 12) ∗ Gs m d (gm t 1 0) ∗ Pos wsem d t ∗ Wch m d (t.val + 1) t ∗ wvAny d (t.val + 1) ∗ Pos ssem d (t.val - 2) ∗ pcF d t ∗ dvP m d ∗ Cr d (t.val - 2))
      ⊢ WP d (k0_part5 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d 0#32 1#32 t) (fun _ => iprop(St m d (sg t 0 1 8 12) ∗ Gs m d (gm t 4 0) ∗ Pos wsem d (t.val + 1) ∗ Wch m d (t.val + 2) (t.val + 1)
        ∗ wvAny d t ∗ wx d (t.val + 1) ∗ Pos ssem d (t.val - 1) ∗ pcF d (t.val + 1) ∗ dvP m d ∗ Cr d (t.val - 1) ∗ pcP m fullShare d t (mm m d t))) := by
  have hlt := trip_lt t
  have hm : t.val % 16 = t.val := Nat.mod_eq_of_lt hlt
  rw [k0_part5_eq_skeleton]
  unfold k0_part5_skel
  simp only [semWaitWord, Prog.lift, Prog.bind_op, Prog.bind_ret, Prog.pure_eq_ret]
  iintro ⟨#HR, HS, HG, HPw, HW, Hwv, HPs, Hpc, Hdv, HC⟩
  iapply (WP_if (X := iprop(recs m K Ks ∗ Pos wsem d t ∗ Wch m d (t.val + 1) t ∗ wvAny d (t.val + 1))) (Y := iprop(Pos wsem d t ∗ Wch m d (t.val + 2) t ∗ wx d (t.val + 1))) ?h1 ?h1') $$ [HPw HW Hwv]
  case h1 =>
    intro h
    have h1 := (cond1_iff t).mp h
    unfold wx
    rw [if_pos h1]
    iintro ⟨#HR, HP, HW, Hwv⟩ Hk
    iapply (W_start m K Ks (t.val + 1) t.val h1 (Or.inr rfl) (wa_at _ (o4 t h1) _) (wv_at _ (k0_off3_eq t) _) (wsem_at _ (k0_off2_eq t) _)) $$ [HP HW Hwv]
    · isplitr; · iexact HR
      isplitl [HP]; · iexact HP
      isplitl [HW] <;> iassumption
    iintro ⟨HP, HW⟩
    iapply Hk
    iframe
  case h1' => exact fun h => else1 m K Ks d t (fun h' => h ((cond1_iff t).mpr h'))
  · isplitr; · iexact HR
    isplitl [HPw]; · iexact HPw
    isplitl [HW] <;> iassumption
  iintro ⟨HPw, HW, Hwx⟩
  iapply (WP_if (X := iprop(recs m K Ks ∗ St m d (sg t 0 1 8 12) ∗ Gs m d (gm t 1 0) ∗ Pos ssem d (t.val - 2) ∗ pcF d t))
    (Y := iprop(St m d (sg t 0 1 8 12) ∗ Gs m d (gm t 4 0) ∗ Pos ssem d (t.val - 1) ∗ pcF d (t.val + 1) ∗ pcAny d t)) ?h2 ?h2') $$ [HS HG HPs Hpc]
  case h2 =>
    intro h
    have h2 := (cond2_iff t).mp h
    have hj : t.val - 2 < 16 := by omega
    have e : t.val - 2 + 2 = t.val := by omega
    rw [pcF_two d t h2, pcF_two d (t.val + 1) (by omega)]
    iintro ⟨#HR, HS, HG, HP, Hpc⟩ Hk
    iapply (Gs_z1sd m K Ks (t.val - 2) hj (gmX e) (gmX' e) (z1sd_at _ (o5 t h2) _) (crY _)) $$ [HS HG]
    · isplitr [HG]
      · isplitr; · iexact HR
        iexact HS
      iexact HG
    iintro ⟨HS, HG⟩
    iapply (Gs_x1sd m K Ks (t.val - 2) hj (gmX e) (gmX' e) (x1sd_at _ (o5 t h2) _) (crY _)) $$ [HS HG]
    · isplitr [HG]
      · isplitr; · iexact HR
        iexact HS
      iexact HG
    iintro ⟨HS, HG⟩
    iapply (Gs_store m K Ks (t.val - 2) hj (gmX e) (gmX' e) (ssem_at _ (o8 t h2) _) (crO _)) $$ [HS HG HP]
    · isplitr [HG]
      · isplitr; · iexact HR
        isplitl [HS] <;> iassumption
      iexact HG
    iintro ⟨⟨HS, HP, Hany⟩, HG⟩
    ihave HP := (Entails.of_eq (congrArg (Pos ssem d) (show t.val - 2 + 1 = t.val - 1 by omega))) $$ HP
    ihave Hany := (Entails.of_eq ((pcAny_mod d (t.val - 2)).trans ((congrArg (pcAny d) (show (t.val - 2) % 2 = t.val % 2 by omega)).trans (pcAny_mod d t.val).symm))) $$ Hany
    iapply Hk
    iframe
  case h2' => exact fun h => else2 m K Ks d t (fun h' => h ((cond2_iff t).mpr h'))
  · isplitr; · iexact HR
    iframe
  iintro ⟨HS, HG, HPs, Hpc, Hany⟩
  iapply (W_wait m K Ks (t.val + 2) t.val hlt (by omega) (wsem_at _ (k0_off9_eq t) _) (crW _)) $$ [HS HPw HW]
  · isplitr; · iexact HR
    iframe
  iintro ⟨HS, HPw, HW, Hwv⟩
  iapply (Dot m t.val (k0_off13_eq t) (k0_off12_eq t)) $$ [Hdv Hwv Hany]
  · iframe
  iintro ⟨Hdv, Hwv, Hpr⟩
  iapply (WP_if (X := iprop(recs m K Ks ∗ St m d (sg t 0 1 8 12) ∗ Cr d (t.val - 2))) (Y := iprop(St m d (sg t 0 1 8 12) ∗ Cr d (t.val - 1))) ?h3 ?h3') $$ [HS HC]
  case h3 =>
    intro h
    have h2 := (cond3_iff t).mp h
    iintro ⟨#HR, HS, HC⟩ Hk
    iapply (Cr_wait m K Ks (t.val - 2) (by omega) (ok_cr (show t.val - 2 + 2 = t.val by omega) hlt) rfl) $$ [HS HC]
    · isplitr; · iexact HR
      iframe
    iintro ⟨HS, HC⟩
    ihave HC := (Entails.of_eq (congrArg (Cr d) (show t.val - 2 + 1 = t.val - 1 by omega))) $$ HC
    iapply Hk
    iframe
  case h3' => exact fun h => else3 m K Ks d t (fun h' => h ((cond3_iff t).mpr h'))
  · isplitr; · iexact HR
    iframe
  iintro ⟨HS, HC⟩
  unfold WP
  rw [wp_ret]
  imodintro
  iframe

end Cert.KernelIdeal.Hand

end
-- ==== Proof.Trip.lean ====
/-
# One trip of the loop

The loop multiplies chunk `t` out and sends it to the `y` neighbour while the chunks before it are added, sent round and waited for.
What holds before trip `c` is a function of `c` alone, and a trip takes it from `c` to `c + 1`.
-/
module

public import proofs.«01_k».proof.Proof.Parts

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## The loop -/

/-- What holds before trip `c`. -/
noncomputable def Inv (d : Dev nD) (c : ℕ) : sProp 𝕄 :=
  iprop(recs m K Ks ∗ St m d (sg c 0 1 8 12) ∗ Gs m d (gm c 1 0) ∗ Pos wsem d c ∗ Wch m d (c + 1) c ∗ wvAny d (c + 1) ∗ wx d c
    ∗ Pos ssem d (c - 2) ∗ pcF d c ∗ dvP m d ∗ Cr d (c - 2) ∗ Rdr d (c - 1))

/-- The sum of a chunk is on its way to all its readers: its slot's account is opened. -/
theorem Gs_open (d : Dev nD) (γ : ℕ → ℕ) (j : ℕ) (hj : j < 16) (hγ : γ j = 0) {γ' : ℕ → ℕ} (hγ' : ∀ i, i < 16 → Function.update γ j 1 i = γ' i) {A : sProp 𝕄} :
    iprop((crN d 2 j NY ∗ crN d 4 j NY ∗ cred (tallyAt (cS d j) 0 NY)) ∗ Gs m d γ) ⊢ (iprop((Gs m d γ' -∗ A) -∗ A) : sProp 𝕄) := by
  have h := Gs_step m d γ j 0 1 hj hγ hγ' (X := iprop(crN d 2 j NY ∗ crN d 4 j NY ∗ cred (tallyAt (cS d j) 0 NY))) (Y := iprop(emp)) (A := A) (B := A) (by
    simp only [Gd, Nat.reduceLT, ↓reduceIte]
    iintro ⟨⟨H1, H2, H3⟩, HA, HB, -⟩ Hk
    iapply Hk
    isplitr; · iempintro
    iframe)
  refine h.trans ?_
  iintro H Hk
  iapply H
  iintro ⟨-, HG⟩
  iapply Hk $$ HG

/-- One trip of the loop. -/
theorem trip (d : Dev nD) (v2 v5 v8 v17 v18 v19 : BitVec 32) (v23 : Sems sig S_) (v31 c2 : BitVec 32) (t : Fin k0_t1_loop.trips) :
    Inv m K Ks d t ⊢ WP d (k0_t1_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v17 v18 v19 v23 v31 c2 t ()) (fun _ => Inv m K Ks d (t.val + 1)) := by
  have hlt := trip_lt t
  unfold k0_t1_body
  dsimp only
  simp only [Prog.lift, Prog.bind_op, Prog.bind_ret, Prog.pure_eq_ret]
  unfold Inv
  iintro ⟨#HR, HS, HG, HPw, HW, Hwv, -, HPs, Hpc, Hdv, HC, HRd⟩
  iapply (WP_then (part5 m K Ks d t)) $$ [HS HG HPw HW Hwv HPs Hpc Hdv HC]
  · isplitr; · iexact HR
    iframe
  iintro %a ⟨HS, HG, HPw, HW, Hwv, Hwx, HPs, Hpc, Hdv, HC, Hpr⟩
  ihave HC := (Cr_free d (t.val - 1) t.val (by omega)) $$ HC
  icases HC with ⟨#Hfree, HC⟩
  iapply (snd_y m K Ks t.val hlt sgA sgA' (pc_at _ (k0_off15_eq t) _) (yr_at _ (k0_off15_eq t) _) (Fin.ext (k0_dev4_eq d)) (ysd_at _ (k0_off14_eq t) _) (yrc_at _ (k0_off14_eq t) _)) $$ [HS Hpr]
  · isplitr [HS]
    · isplitr; · iexact HR
      isplitl [Hpr]; · iexact Hpr
      iexact Hfree
    iexact HS
  iintro HS
  ihave HPs := (Pos_reached ssem ssem_mod d (t.val - 1)) $$ HPs
  icases HPs with ⟨⟨#Hre, -⟩, HPs⟩
  iapply (WP_if (X := iprop(recs m K Ks ∗ St m d (sg t 1 1 8 12) ∗ Rdr d (t.val - 1) ∗ reached ER (cS d (t.val - 1)) ((t.val - 1) / 2) ∗ Gs m d (gm t 4 0)))
    (Y := iprop(St m d (sg t 1 8 8 12) ∗ Rdr d t ∗ Gs m d (gm t 4 1))) ?h4 ?h4') $$ [HS HRd HG]
  case h4 =>
    intro h
    have h1 := (cond4_iff t).mp h
    have hj : t.val - 1 < 16 := by omega
    have e : t.val - 1 + 1 = t.val := by omega
    iintro ⟨#HR, HS, HRd, #Hre, HG⟩ Hk
    iapply (part12 m K Ks d _ _ _ _ _ _ t _ h h) $$ [HS HRd]
    · isplitr; · iexact HR
      isplitl [HS]; · iexact HS
      isplitl [HRd]; · iexact HRd
      iexact Hre
    iintro %a ⟨HS, HRd⟩
    iapply (snd_x1 m K Ks (t.val - 1) hj (sgB e) (sgB' e) (pc_at _ (o17 t h1) _) (out_at _ _ (o20 d t h1) _) (Fin.ext (k0_dev7_eq d)) (x1sd_at _ (o16 t h1) _) (x1rc_at _ (o16 t h1) _)) $$ [HS]
    · isplitr; · iexact HR
      iexact HS
    iintro ⟨HY, HS⟩
    iapply (Gs_open m d (gm t 4 0) (t.val - 1) hj (gmY e) (gmY' e)) $$ [HY HG]
    · isplitl [HY] <;> iassumption
    iintro HG
    iapply Hk
    iframe
  case h4' =>
    intro h
    have h0 : t.val = 0 := by by_contra h'; exact h ((cond4_iff t).mpr (by omega))
    rw [St_congr m d (sg t 1 8 8 12) (sg t 1 1 8 12) (fun j _ => by unfold sg; split_ifs <;> omega),
      Gs_congr m d (gm t 4 1) (gm t 4 0) (fun j _ => by unfold gm; split_ifs <;> omega), show t.val - 1 = t.val by omega]
    iintro ⟨-, HS, HRd, -, HG⟩
    iframe
  · isplitr; · iexact HR
    isplitl [HS]; · iexact HS
    isplitl [HRd]; · iexact HRd
    isplitr; · iexact Hre
    iexact HG
  iintro ⟨HS, HRd, HG⟩
  iapply (WP_if (X := iprop(recs m K Ks ∗ St m d (sg t 1 8 8 12))) (Y := iprop(St m d (sg t 1 8 12 12))) ?h5 ?h5') $$ [HS]
  case h5 =>
    intro h
    have h2 := (cond5_iff t).mp h
    have hj : t.val - 2 < 16 := by omega
    have e : t.val - 2 + 2 = t.val := by omega
    iintro ⟨#HR, HS⟩ Hk
    iapply (part3 m K Ks d _ _ _ _ _ t _ h) $$ [HS]
    · isplitr; · iexact HR
      iexact HS
    iintro %a HS
    iapply (St_wait m K Ks 5 (t.val - 2) 10 NY (by omega) hj (sgE e) (sgE' e) (amt_A (by omega) hj) (stg_x1rc m d _) (ow_10 d _)
      (ok_sum 5 (by omega) e hlt.le (le_refl _) (by omega)) (x1rc_at _ (o21 t h2) _) (crO _)) $$ [HS]
    · isplitr; · iexact HR
      iexact HS
    iintro HS
    iapply (snd_z2 m K Ks (t.val - 2) hj (sgE e) (sgE' e) (outH_at _ _ _ (o25 d t h2) _) (outH_at _ _ _ (o25 d t h2) _) (Fin.ext (k0_dev9_eq d)) (z2sd_at _ (o21 t h2) _) (z2rc_at _ (o21 t h2) _)) $$ [HS]
    · isplitr; · iexact HR
      iexact HS
    iintro HS
    iapply Hk $$ HS
  case h5' =>
    intro h
    have h0 : ¬ 2 ≤ t.val := fun h' => h ((cond5_iff t).mpr h')
    rw [St_congr m d (sg t 1 8 12 12) (sg t 1 8 8 12) (fun j _ => by unfold sg; split_ifs <;> omega)]
    iintro ⟨-, HS⟩
    iexact HS
  · isplitr; · iexact HR
    iexact HS
  iintro HS
  iapply (WP_if (X := iprop(recs m K Ks ∗ St m d (sg t 1 8 12 12))) (Y := iprop(St m d (sg t 1 8 12 16))) ?h6 ?h6') $$ [HS]
  case h6 =>
    intro h
    have h3 := (cond6_iff t).mp h
    have hj : t.val - 3 < 16 := by omega
    have e : t.val - 3 + 3 = t.val := by omega
    iintro ⟨#HR, HS⟩ Hk
    iapply (part4 m K Ks d _ _ _ _ _ t _ h) $$ [HS]
    · isplitr; · iexact HR
      iexact HS
    iintro %a HS
    iapply (St_wait m K Ks 8 (t.val - 3) 15 NH (by omega) hj (sgF e) (sgF' e) (amt_H (by omega) (by omega) hj) (stg_z2sd m d _) ((ow_12 d 15 (t.val - 3) (by omega)).trans (ow_12 d 16 (t.val - 3) (by omega)).symm)
      (ok_zero _) (z2sd_at _ (o26 t h3) _) (crH _)) $$ [HS]
    · isplitr; · iexact HR
      iexact HS
    iintro HS
    iapply Hk $$ HS
  case h6' =>
    intro h
    have h0 : ¬ 3 ≤ t.val := fun h' => h ((cond6_iff t).mpr h')
    rw [St_congr m d (sg t 1 8 12 16) (sg t 1 8 12 12) (fun j _ => by unfold sg; split_ifs <;> omega)]
    iintro ⟨-, HS⟩
    iexact HS
  · isplitr; · iexact HR
    iexact HS
  iintro HS
  unfold WP
  rw [wp_ret]
  imodintro
  ihave HS := (Entails.of_eq (St_congr m d (sg t 1 8 12 16) (sg (t.val + 1) 0 1 8 12) (fun j _ => by unfold sg; split_ifs <;> omega))) $$ HS
  ihave HG := (Entails.of_eq (Gs_congr m d (gm t 4 1) (gm (t.val + 1) 1 0) (fun j _ => by unfold gm; split_ifs <;> omega))) $$ HG
  ihave Hwv := (Entails.of_eq ((wvAny_mod d t.val).trans ((congrArg (wvAny d) (show t.val % 2 = (t.val + 1 + 1) % 2 by omega)).trans (wvAny_mod d (t.val + 1 + 1)).symm))) $$ Hwv
  ihave HPs := (Entails.of_eq (congrArg (Pos ssem d) (show t.val - 1 = t.val + 1 - 2 by omega))) $$ HPs
  ihave HC := (Entails.of_eq (congrArg (Cr d) (show t.val - 1 = t.val + 1 - 2 by omega))) $$ HC
  ihave HRd := (Entails.of_eq (congrArg (Rdr d) (show t.val = t.val + 1 - 1 by omega))) $$ HRd
  isplitr; · iexact HR
  iframe

end Cert.KernelIdeal.Hand

end
-- ==== Proof.Tail.lean ====
/-
# The last chunks

After the loop: chunk 15 is added and sent round, chunks 13, 14 and 15 are waited for.
-/
module

public import proofs.«01_k».proof.Proof.Trip

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

theorem ow_done (d : Dev nD) (n : ℕ) (hn : 12 ≤ n) (j : ℕ) : ow d n j = ow d (n + 1) j := (ow_12 d n j hn).trans (ow_12 d (n + 1) j (by omega)).symm

/-- The last chunk: both partial products are in, they are added, the receive slot is freed. -/
theorem tail8 (d : Dev nD) (v2 : BitVec 32) (v8 : BitVec 32) (v17 : BitVec 32) :
    iprop(recs m K Ks ∗ St m d (sg 16 1 1 8 12) ∗ Rdr d 15)
      ⊢ WP d (k0_part8 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v8 v17) (fun _ => iprop(St m d (sg 16 1 5 8 12) ∗ Rdr d 16)) := by
  rw [k0_part8_eq_skeleton]
  unfold k0_part8_skel
  simp only [semSignalWord, semWaitWord, Prog.lift, Prog.bind_op, Prog.bind_ret, Prog.pure_eq_ret]
  iintro ⟨#HR, HS, HRd⟩
  iapply (St_wait m K Ks 0 15 1 NY (by omega) (by omega) (sgB rfl) (sgB' rfl) (amt_A (by omega) (by omega)) (stg_ysd m d _) (ow_1 d _)
    (ok_zero _) (ysd_at 15 rfl _) (crY _)) $$ [HS]
  · isplitr; · iexact HR
    iexact HS
  iintro HS
  iapply (St_wait m K Ks 1 15 2 NY (by omega) (by omega) (sgB rfl) (sgB' rfl) (amt_A (by omega) (by omega)) (stg_yrc m d _) (ow_2 d _)
    (ok_yrc (a := 1) (c := 16) rfl (by omega) (by omega)) (yrc_at 15 rfl _) (crY _)) $$ [HS]
  · isplitr; · iexact HR
    iexact HS
  iintro HS
  iapply (St_add m 15 (by omega) (sgB rfl) (sgB' rfl) rfl (fun _ _ => rfl)) $$ HS
  iintro HS
  iapply (St_credit m K Ks 15 (by omega) (sgB rfl) (sgB' rfl) (Fin.ext (k0_dev10_eq d)) rfl) $$ [HS HRd]
  · isplitr [HS]
    · isplitr; · iexact HR
      iexact HRd
    iexact HS
  iintro ⟨HRd, HS⟩
  unfold WP
  rw [wp_ret]
  imodintro
  isplitl [HS] <;> iassumption

/-- The last sum is stored and sent along `z` and `x`. -/
theorem tail9 (d : Dev nD) (v2 : BitVec 32) (v5 : BitVec 32) (v8 : BitVec 32) (v18 : BitVec 32) (v19 : BitVec 32) :
    iprop(recs m K Ks ∗ St m d (sg 16 1 5 8 12) ∗ reached ER (cS d 15) (15 / 2) ∗ Gs m d (gm 16 1 0))
      ⊢ WP d (k0_part9 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v18 v19) (fun _ => iprop(St m d (sg 16 1 8 8 12) ∗ Gs m d (gm 16 1 1))) := by
  rw [k0_part9_eq_skeleton]
  unfold k0_part9_skel
  simp only [semSignalWord, semWaitWord, Prog.lift, Prog.bind_op, Prog.bind_ret, Prog.pure_eq_ret]
  iintro ⟨#HR, HS, #Hre, HG⟩
  iapply (St_store m K Ks 15 (by omega) (sgB rfl) (sgB' rfl) (pc_at 15 rfl _) (out_at _ 15 (o29 d) _) (ssem_at 15 rfl _)) $$ [HS]
  · isplitr
    · isplitr; · iexact HR
      iexact Hre
    iexact HS
  iintro ⟨-, HS⟩
  iapply (snd_z1 m K Ks 15 (by omega) (sgB rfl) (sgB' rfl) (pc_at 15 rfl _) (out_at _ 15 (o29 d) _) (Fin.ext (k0_dev11_eq d)) (z1sd_at 15 rfl _) (z1rc_at 15 rfl _)) $$ [HS]
  · isplitr; · iexact HR
    iexact HS
  iintro HS
  iapply (snd_x1 m K Ks 15 (by omega) (sgB rfl) (sgB' rfl) (pc_at 15 rfl _) (out_at _ 15 (o29 d) _) (Fin.ext (k0_dev12_eq d)) (x1sd_at 15 rfl _) (x1rc_at 15 rfl _)) $$ [HS]
  · isplitr; · iexact HR
    iexact HS
  iintro ⟨HY, HS⟩
  iapply (Gs_open m d (gm 16 1 0) 15 (by omega) (gmY rfl) (gmY' rfl)) $$ [HY HG]
  · isplitl [HY] <;> iassumption
  iintro HG
  unfold WP
  rw [wp_ret]
  imodintro
  isplitl [HS] <;> iassumption

/-- Chunk 14: the `z` neighbour's sum is in and its left half goes on; the `x` neighbour's sum is in. -/
theorem tail10 (d : Dev nD) (v5 : BitVec 32) (v8 : BitVec 32) (v18 : BitVec 32) (v19 : BitVec 32) (v113 : BitVec 32) :
    iprop(recs m K Ks ∗ St m d (sg 16 1 8 8 12))
      ⊢ WP d (k0_part10 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v5 v8 v18 v19 v113) (fun _ => iprop(St m d (sg 16 1 8 11 12))) := by
  rw [k0_part10_eq_skeleton]
  unfold k0_part10_skel
  simp only [semSignalWord, semWaitWord, Prog.lift, Prog.bind_op, Prog.bind_ret, Prog.pure_eq_ret]
  iintro ⟨#HR, HS⟩
  iapply (St_wait m K Ks 3 14 8 NY (by omega) (by omega) (sgE rfl) (sgE' rfl) (amt_A (by omega) (by omega)) (stg_z1rc m d _) (ow_8 d _)
    (ok_sum (a := 1) (c := 16) (e := 8) 3 (by omega) rfl (by omega) (by omega) (by omega)) (z1rc_at 14 rfl _) (crO _)) $$ [HS]
  · isplitr; · iexact HR
    iexact HS
  iintro HS
  iapply (snd_x2 m K Ks 14 (by omega) (sgE rfl) (sgE' rfl) (outH_at (bz d) 14 0 (o31 d) _) (outH_at (bz d) 14 0 (o31 d) _) (Fin.ext (k0_dev13_eq d)) (x2sd_at 14 rfl _) (x2rc_at 14 rfl _)) $$ [HS]
  · isplitr; · iexact HR
    iexact HS
  iintro HS
  iapply (St_wait m K Ks 5 14 10 NY (by omega) (by omega) (sgE rfl) (sgE' rfl) (amt_A (by omega) (by omega)) (stg_x1rc m d _) (ow_10 d _)
    (ok_sum (a := 1) (c := 16) (e := 10) 5 (by omega) rfl (by omega) (by omega) (by omega)) (x1rc_at 14 rfl _) (crO _)) $$ [HS]
  · isplitr; · iexact HR
    iexact HS
  iintro HS
  unfold WP
  rw [wp_ret]
  imodintro
  iexact HS

/-- Chunk 14's right half goes on; chunk 15: the `z` neighbour's sum is in. -/
theorem tail11 (d : Dev nD) (v2 : BitVec 32) (v5 : BitVec 32) (v8 : BitVec 32) (v18 : BitVec 32) (v19 : BitVec 32) :
    iprop(recs m K Ks ∗ St m d (sg 16 1 8 11 12))
      ⊢ WP d (k0_part11 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v18 v19) (fun _ => iprop(St m d (sg 16 1 9 12 12))) := by
  rw [k0_part11_eq_skeleton]
  unfold k0_part11_skel
  simp only [semSignalWord, semWaitWord, Prog.lift, Prog.bind_op, Prog.bind_ret, Prog.pure_eq_ret]
  iintro ⟨#HR, HS⟩
  iapply (snd_z2 m K Ks 14 (by omega) (sgE rfl) (sgE' rfl) (outH_at (bx d) 14 1 (o32 d) _) (outH_at (bx d) 14 1 (o32 d) _) (Fin.ext (k0_dev14_eq d)) (z2sd_at 14 rfl _) (z2rc_at 14 rfl _)) $$ [HS]
  · isplitr; · iexact HR
    iexact HS
  iintro HS
  iapply (St_wait m K Ks 3 15 8 NY (by omega) (by omega) (sgB rfl) (sgB' rfl) (amt_A (by omega) (by omega)) (stg_z1rc m d _) (ow_8 d _)
    (ok_sum15 (b := 8) 3 (by omega) (by omega)) (z1rc_at 15 rfl _) (crO _)) $$ [HS]
  · isplitr; · iexact HR
    iexact HS
  iintro HS
  unfold WP
  rw [wp_ret]
  imodintro
  iexact HS

/-- Chunk 15: both halves go on. -/
theorem tail12 (d : Dev nD) (v2 : BitVec 32) (v5 : BitVec 32) (v8 : BitVec 32) (v18 : BitVec 32) (v19 : BitVec 32) :
    iprop(recs m K Ks ∗ St m d (sg 16 1 9 12 12))
      ⊢ WP d (k0_part12 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v18 v19) (fun _ => iprop(St m d (sg 16 1 12 12 12))) := by
  rw [k0_part12_eq_skeleton]
  unfold k0_part12_skel
  simp only [semSignalWord, semWaitWord, Prog.lift, Prog.bind_op, Prog.bind_ret, Prog.pure_eq_ret]
  iintro ⟨#HR, HS⟩
  iapply (snd_x2 m K Ks 15 (by omega) (sgB rfl) (sgB' rfl) (outH_at (bz d) 15 0 (o33 d) _) (outH_at (bz d) 15 0 (o33 d) _) (Fin.ext (k0_dev15_eq d)) (x2sd_at 15 rfl _) (x2rc_at 15 rfl _)) $$ [HS]
  · isplitr; · iexact HR
    iexact HS
  iintro HS
  iapply (St_wait m K Ks 5 15 10 NY (by omega) (by omega) (sgB rfl) (sgB' rfl) (amt_A (by omega) (by omega)) (stg_x1rc m d _) (ow_10 d _)
    (ok_sum15 (b := 10) 5 (by omega) (by omega)) (x1rc_at 15 rfl _) (crO _)) $$ [HS]
  · isplitr; · iexact HR
    iexact HS
  iintro HS
  iapply (snd_z2 m K Ks 15 (by omega) (sgB rfl) (sgB' rfl) (outH_at (bx d) 15 1 (o34 d) _) (outH_at (bx d) 15 1 (o34 d) _) (Fin.ext (k0_dev16_eq d)) (z2sd_at 15 rfl _) (z2rc_at 15 rfl _)) $$ [HS]
  · isplitr; · iexact HR
    iexact HS
  iintro HS
  unfold WP
  rw [wp_ret]
  imodintro
  iexact HS

/-- Chunk 13: the halves sent and received are through. -/
theorem tail13 (d : Dev nD) (v2 : BitVec 32) (v5 : BitVec 32) (v8 : BitVec 32) (v18 : BitVec 32) (v19 : BitVec 32) :
    iprop(recs m K Ks ∗ St m d (sg 16 1 12 12 12))
      ⊢ WP d (k0_part13 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v18 v19) (fun _ => iprop(St m d (sg 16 1 12 12 16))) := by
  rw [k0_part13_eq_skeleton]
  unfold k0_part13_skel
  simp only [semSignalWord, semWaitWord, Prog.lift, Prog.bind_op, Prog.bind_ret, Prog.pure_eq_ret]
  iintro ⟨#HR, HS⟩
  iapply (St_wait m K Ks 7 13 12 NH (by omega) (by omega) (sgF rfl) (sgF' rfl) (amt_H (by omega) (by omega) (by omega)) (stg_x2rc m d _) (ow_done d 12 (by omega) _)
    (ok_end (b := 12) (e := 12) (f := 12)  _ (by omega) (by omega) (by omega)) (x2rc_at 13 rfl _) (crH _)) $$ [HS]
  · isplitr; · iexact HR
    iexact HS
  iintro HS
  iapply (St_wait m K Ks 9 13 13 NH (by omega) (by omega) (sgF rfl) (sgF' rfl) (amt_H (by omega) (by omega) (by omega)) (stg_z2rc m d _) (ow_done d 13 (by omega) _)
    (ok_end (b := 12) (e := 12) (f := 13)  _ (by omega) (by omega) (by omega)) (z2rc_at 13 rfl _) (crH _)) $$ [HS]
  · isplitr; · iexact HR
    iexact HS
  iintro HS
  iapply (St_wait m K Ks 6 13 14 NH (by omega) (by omega) (sgF rfl) (sgF' rfl) (amt_H (by omega) (by omega) (by omega)) (stg_x2sd m d _) (ow_done d 14 (by omega) _)
    (ok_zero _) (x2sd_at 13 rfl _) (crH _)) $$ [HS]
  · isplitr; · iexact HR
    iexact HS
  iintro HS
  iapply (St_wait m K Ks 8 13 15 NH (by omega) (by omega) (sgF rfl) (sgF' rfl) (amt_H (by omega) (by omega) (by omega)) (stg_z2sd m d _) (ow_done d 15 (by omega) _)
    (ok_zero _) (z2sd_at 13 rfl _) (crH _)) $$ [HS]
  · isplitr; · iexact HR
    iexact HS
  iintro HS
  unfold WP
  rw [wp_ret]
  imodintro
  iexact HS

/-- Chunk 14: the halves sent and received are through. -/
theorem tail14 (d : Dev nD) (v2 : BitVec 32) (v5 : BitVec 32) (v8 : BitVec 32) (v18 : BitVec 32) (v19 : BitVec 32) :
    iprop(recs m K Ks ∗ St m d (sg 16 1 12 12 16))
      ⊢ WP d (k0_part14 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v18 v19) (fun _ => iprop(St m d (sg 16 1 12 16 16))) := by
  rw [k0_part14_eq_skeleton]
  unfold k0_part14_skel
  simp only [semSignalWord, semWaitWord, Prog.lift, Prog.bind_op, Prog.bind_ret, Prog.pure_eq_ret]
  iintro ⟨#HR, HS⟩
  iapply (St_wait m K Ks 7 14 12 NH (by omega) (by omega) (sgE rfl) (sgE' rfl) (amt_H (by omega) (by omega) (by omega)) (stg_x2rc m d _) (ow_done d 12 (by omega) _)
    (ok_end (b := 12) (e := 12) (f := 16)  _ (by omega) (by omega) (by omega)) (x2rc_at 14 rfl _) (crH _)) $$ [HS]
  · isplitr; · iexact HR
    iexact HS
  iintro HS
  iapply (St_wait m K Ks 9 14 13 NH (by omega) (by omega) (sgE rfl) (sgE' rfl) (amt_H (by omega) (by omega) (by omega)) (stg_z2rc m d _) (ow_done d 13 (by omega) _)
    (ok_end (b := 12) (e := 13) (f := 16)  _ (by omega) (by omega) (by omega)) (z2rc_at 14 rfl _) (crH _)) $$ [HS]
  · isplitr; · iexact HR
    iexact HS
  iintro HS
  iapply (St_wait m K Ks 6 14 14 NH (by omega) (by omega) (sgE rfl) (sgE' rfl) (amt_H (by omega) (by omega) (by omega)) (stg_x2sd m d _) (ow_done d 14 (by omega) _)
    (ok_zero _) (x2sd_at 14 rfl _) (crH _)) $$ [HS]
  · isplitr; · iexact HR
    iexact HS
  iintro HS
  iapply (St_wait m K Ks 8 14 15 NH (by omega) (by omega) (sgE rfl) (sgE' rfl) (amt_H (by omega) (by omega) (by omega)) (stg_z2sd m d _) (ow_done d 15 (by omega) _)
    (ok_zero _) (z2sd_at 14 rfl _) (crH _)) $$ [HS]
  · isplitr; · iexact HR
    iexact HS
  iintro HS
  unfold WP
  rw [wp_ret]
  imodintro
  iexact HS

/-- Chunk 15's halves are through; chunk 14's sum has left for `z`. -/
theorem tail15 (d : Dev nD) (v2 : BitVec 32) (v5 : BitVec 32) (v18 : BitVec 32) :
    iprop(recs m K Ks ∗ St m d (sg 16 1 12 16 16) ∗ Gs m d (gm 16 1 1))
      ⊢ WP d (k0_part15 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v18) (fun _ => iprop(St m d (sg 16 1 16 16 16) ∗ Gs m d (gm 16 2 1))) := by
  rw [k0_part15_eq_skeleton]
  unfold k0_part15_skel
  simp only [semSignalWord, semWaitWord, Prog.lift, Prog.bind_op, Prog.bind_ret, Prog.pure_eq_ret]
  iintro ⟨#HR, HS, HG⟩
  iapply (St_wait m K Ks 7 15 12 NH (by omega) (by omega) (sgB rfl) (sgB' rfl) (amt_H (by omega) (by omega) (by omega)) (stg_x2rc m d _) (ow_done d 12 (by omega) _)
    (ok_end (b := 12) (e := 16) (f := 16)  _ (by omega) (by omega) (by omega)) (x2rc_at 15 rfl _) (crH _)) $$ [HS]
  · isplitr; · iexact HR
    iexact HS
  iintro HS
  iapply (St_wait m K Ks 9 15 13 NH (by omega) (by omega) (sgB rfl) (sgB' rfl) (amt_H (by omega) (by omega) (by omega)) (stg_z2rc m d _) (ow_done d 13 (by omega) _)
    (ok_end (b := 13) (e := 16) (f := 16)  _ (by omega) (by omega) (by omega)) (z2rc_at 15 rfl _) (crH _)) $$ [HS]
  · isplitr; · iexact HR
    iexact HS
  iintro HS
  iapply (St_wait m K Ks 6 15 14 NH (by omega) (by omega) (sgB rfl) (sgB' rfl) (amt_H (by omega) (by omega) (by omega)) (stg_x2sd m d _) (ow_done d 14 (by omega) _)
    (ok_zero _) (x2sd_at 15 rfl _) (crH _)) $$ [HS]
  · isplitr; · iexact HR
    iexact HS
  iintro HS
  iapply (St_wait m K Ks 8 15 15 NH (by omega) (by omega) (sgB rfl) (sgB' rfl) (amt_H (by omega) (by omega) (by omega)) (stg_z2sd m d _) (ow_done d 15 (by omega) _)
    (ok_zero _) (z2sd_at 15 rfl _) (crH _)) $$ [HS]
  · isplitr; · iexact HR
    iexact HS
  iintro HS
  iapply (Gs_z1sd m K Ks 14 (by omega) (gmX rfl) (gmX' rfl) (z1sd_at 14 rfl _) (crY _)) $$ [HS HG]
  · isplitr [HG]
    · isplitr; · iexact HR
      iexact HS
    iexact HG
  iintro ⟨HS, HG⟩
  unfold WP
  rw [wp_ret]
  imodintro
  isplitl [HS] <;> iassumption

end Cert.KernelIdeal.Hand

end
-- ==== Proof.Entry.lean ====
/-
# Before the loop

Each device signals its three neighbours and waits for them: the signals hand over the windows of the result and say that the
receive slots are free. Then the gradient rows and the first weight rows are fetched.
-/
module

public import proofs.«01_k».proof.Proof.Tail

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## Running one piece after another, with its result -/

theorem WP_bind {α β : Type} {d : Dev nD} {p : Prog (TpuEff nD τ sig (Elt F) Λ₀ .tc) α} {k : α → Prog (TpuEff nD τ sig (Elt F) Λ₀ .tc) β} {Q : β → sProp 𝕄} {X : sProp 𝕄} {Y : α → sProp 𝕄}
    (hp : X ⊢ WP d p Y) : X ⊢ iprop((∀ a, Y a -∗ WP d (k a) Q) -∗ WP d (p >>= k) Q) := by
  unfold WP
  rw [wp_bind]
  iintro HX Hk
  ihave H := hp $$ HX
  iapply (wp_wand _ _ _) $$ H
  iexact Hk

/-! ## The entry barrier -/

/-- Signal a neighbour's barrier. -/
theorem bar_signal {α : Type} {Q : α → sProp 𝕄} {d : Dev nD} (nb : Dev nD) (i : ℕ) (hi : i < 3) (O : CellTallies nD τ sig ℕ)
    {n' : Dev nD} (hn : n' = nb) {sem : Sem sig} (hsem : sem = basem) {w : ℕ} (hw : w = 1)
    {k : PUnit → Prog (TpuEff nD τ sig (Elt F) Λ₀ .tc) α} :
    iprop(recs m K Ks ∗ Ow d (O + tallyAt (cB nb) 0 1) ∗ dutyTok ER (cB nb) 0 i ∗ barPay nb i)
      ⊢ iprop((Ow d O -∗ WP d (k ⟨⟩) Q) -∗ WP d (.op (.semSignal (n' : Thread nD τ) sem w) k) Q) := by
  subst hn; subst hsem; subst hw
  iintro ⟨#HR, HO, Ht, Hp⟩ Hk
  unfold Ow
  icases HO with ⟨%W, HO⟩
  ihave H := (recs_cell m K Ks n' (.reg basem)) $$ HR
  icases H with ⟨#HI, #Hr⟩
  iapply (Rounds.wp_signal 𝒱₀ ER (Rd m) (d : Thread nD τ) none (dst := (n' : Thread nD τ)) (κ := K (cB n')) (r := 0) (d := i)
      (by rw [dut_B]; exact Finset.mem_range.mpr hi) rfl 0 O rfl) $$ [HO Ht Hp]
  · isplitr; · iexact HI
    isplitl [HO]; · iexact HO
    isplitl [Ht]; · iexact Ht
    isplitl [Hp]
    · rw [pay_B]; iexact Hp
    iexact Hr
  iintro HO
  iapply Hk
  iexists _; iexact HO

/-- Wait for the three neighbours. -/
theorem bar_wait {α : Type} {Q : α → sProp 𝕄} {d : Dev nD} (O : CellTallies nD τ sig ℕ) (hO : Below O 1)
    {sem : Sem sig} (hsem : sem = basem) {w : ℕ} (hw : w = 3)
    {k : PUnit → Prog (TpuEff nD τ sig (Elt F) Λ₀ .tc) α} :
    iprop(recs m K Ks ∗ Ow d O ∗ atPos ER (cB d) 0 ∅ 0 ∗ cred (tallyAt (cB d) 0 3))
      ⊢ iprop(((Ow d O ∗ semVal (cB d) 0 ∗ barPay d 0 ∗ barPay d 1 ∗ barPay d 2) -∗ WP d (k ⟨⟩) Q) -∗ WP d (.op (.semWait sem w) k) Q) := by
  subst hsem; subst hw
  iintro ⟨#HR, HO, Hat, Hc⟩ Hk
  unfold Ow
  icases HO with ⟨%W, HO⟩
  ihave H := (recs_cell m K Ks d (.reg basem)) $$ HR
  icases H with ⟨#HI, -⟩
  iapply (Rounds.wp_wait_rest_token 𝒱₀ ER (Rd m) (d : Thread nD τ) none (κ := K (cB d)) (wpE_semWait_eq 𝒱₀ (d : Thread nD τ) none Set.univ) (Set.mem_univ _)
      0 (W := W) (O := O) (R := 0) (m := 0) (T := ∅) (by rw [expect_B])) $$ [Hc HO Hat]
  · isplitr; · iexact HI
    isplitl [Hc]; · iexact Hc
    isplitl [HO]; · iexact HO
    isplitr
    · iapply (mayWait d (.reg basem) 0 (by omega) O (by rw [lv_B]; exact hO))
      iapply (recs_lev m K Ks); iexact HR
    iexact Hat
  have e : bigSep ((Rd m).duties (cB d) 0 \ ∅) (fun i => (Rd m).payload (cB d) 0 i) = (iprop(barPay d 0 ∗ barPay d 1 ∗ barPay d 2) : sProp 𝕄) := by
    rw [Finset.sdiff_empty, dut_B, show Finset.range 3 = insert 0 (insert 1 {2}) by decide, bigSep_insert (by decide), bigSep_insert (by decide), bigSep_singleton,
      pay_B, pay_B, pay_B]; rfl
  iintro ⟨HO, Hat, -, HP⟩
  ihave HP := (Entails.of_eq e) $$ HP
  imod (Rounds.cell_close ER (Rd m) (Set.mem_univ (K (cB d))) (fun h => h) (R := 0 + 1) (dut_reg_later m d basem)) $$ [Hat] with Hz
  · isplitr; · iexact HI
    iexact Hat
  iapply Hk
  isplitl [HO]
  · iexists _; iexact HO
  isplitl [Hz]; · iexact Hz
  iexact HP

/-! ## The gradient rows -/

/-- Start the copy of the gradient rows. -/
theorem Dy_start {α : Type} {Q : α → sProp 𝕄} {d : Dev nD}
    {src' : Memref sig (d : Thread nD τ).2.kind .hbm S1024x8192 .f32} (hs : src' = dyV (bown d)) {dst' : Memref sig (d : Thread nD τ).2.kind .vmem S1024x8192 .f32} (hd : dst' = dvM)
    {sem : DmaSem sig} (hsem : sem = dysem)
    {hsrc : src'.view.WordExact} {hdst : dst'.view.WordExact} {hty : DmaTarget.Typed (nD := nD) .hbm (.dma sem) (.here dst')}
    {k : PUnit → Prog (TpuEff nD τ sig (Elt F) Λ₀ .tc) α} :
    iprop(recs m K Ks ∗ dutyTok ER (cD d dysem) 0 0 ∗ dyArg m d ∗ (∃ f, (d : Thread nD τ).loc cc0_scratch0 ↦{fullShare} f))
      ⊢ iprop((cred (tallyAt (cD d dysem) 0 ND) -∗ WP d (k ⟨⟩) Q)
          -∗ WP d (.op (.enqueueDma src' (.here dst') (.dma sem) hsrc hdst hty) k) Q) := by
  subst hs; subst hd
  iintro ⟨#HR, Ht, Hw, ⟨%fd, Hv⟩⟩ Hk
  ihave H := (recs_cell m K Ks d (.dma dysem)) $$ HR
  icases H with ⟨-, #Hr⟩
  unfold dyArg
  iapply (copy_dma m K Ks d dysem 0 hsem (dut_dy m d) amt_dy (src := dyV (bown d)) (dst := dvM) (fd := fd) (sh := fullShare)
    (fs := m ((d : Thread nD τ).loc main_arg0)) rfl (by
      rw [pay_dy]
      unfold dyPay dvP dyArg dyR
      iintro ⟨HA, HB⟩
      isplitl [HB]; · iexact HB
      rw [View.write_whole_univ, View.set_whole]
      iexact HA)) $$ [Hw Hv Ht]
  · isplitr; · iexact HR
    isplitr; · iexact Hr
    isplitl [Hw]; · iexact Hw
    isplitl [Hv]
    · rw [View.set_whole]; iexact Hv
    iexact Ht
  iintro Hc
  iapply Hk $$ Hc

/-- Wait for it. -/
theorem Dy_wait {α : Type} {Q : α → sProp 𝕄} {d : Dev nD} {σ : ℕ → ℕ}
    {sem : DmaSem sig} (hsem : sem = dysem)
    {sp sp' : Space} {s s' : Shape} {e e' : EltTy} {src : Memref sig (d : Thread nD τ).2.kind sp' s' e'} {dst : Memref sig .tc sp s e}
    (hc : dst.view.dmaCredit = ND) {hsrc : src.view.WordExact} {hdst : dst.view.WordExact}
    {k : PUnit → Prog (TpuEff nD τ sig (Elt F) Λ₀ .tc) α} :
    iprop(recs m K Ks ∗ St m d σ ∗ atPos ER (cD d dysem) 0 ∅ 0 ∗ cred (tallyAt (cD d dysem) 0 ND))
      ⊢ iprop(((St m d σ ∗ semVal (cD d dysem) 0 ∗ dyArg m d ∗ dvP m d) -∗ WP d (k ⟨⟩) Q)
          -∗ WP d (.op (.waitDma2 sem src dst hsrc hdst) k) Q) := by
  iintro ⟨#HR, HS, Hat, Hc⟩ Hk
  unfold St
  icases HS with ⟨HS, HO⟩
  ihave H := (recs_cell m K Ks d (.dma dysem)) $$ HR
  icases H with ⟨#HI, -⟩
  iapply (wait_dma m K Ks d dysem 0 hsem (dut_dy m d) amt_dy hc (O := owS d σ (Finset.range 16)) (by rw [lv_low d _ (by rw [dysem_val]; omega)]; exact below_St d σ 0 (ok_zero σ))) $$ [Hat Hc HO]
  · isplitr; · iexact HR
    isplitl [Hat]; · iexact Hat
    isplitl [Hc]; · iexact Hc
    iexact HO
  rw [pay_dy]
  unfold dyPay
  iintro ⟨Hat, -, ⟨Hw, Hv⟩, HO⟩
  imod (Rounds.cell_close ER (Rd m) (Set.mem_univ (K (cD d dysem))) (fun h => h) (R := 0 + 1) (dut_dy_later m d)) $$ [Hat] with Hz
  · isplitr; · iexact HI
    iexact Hat
  iapply Hk
  isplitl [HS HO]
  · isplitl [HS]; · iexact HS
    iexact HO
  isplitl [Hz]; · iexact Hz
  isplitl [Hw] <;> iassumption

/-! ## What a device starts with -/

/-- For chunk `j`: everything but the windows of the neighbours' results. -/
noncomputable def Pre (d : Dev nD) (j : ℕ) : sProp 𝕄 :=
  iprop((at0 d 0 j ∗ tokA d 0 j ∗ tokA (yn d) 1 j ∗ writeTok ES (key (yn d) j) (j / 2 + 1))
    ∗ (at0 d 1 j ∗ crN d 1 j NY)
    ∗ dutyTok ER (cC (yn d)) 0 j
    ∗ (dutyTok ER (cS d j) (j / 2) 0 ∗ outAny d (bown d) j)
    ∗ (tokA d 2 j ∗ tokA (zn d) 3 j)
    ∗ (tokA d 4 j ∗ tokA (xn d) 5 j)
    ∗ (at0 d 3 j ∗ crN d 3 j NY)
    ∗ (at0 d 6 j ∗ tokA d 6 j ∗ tokA (xn d) 7 j)
    ∗ (at0 d 5 j ∗ crN d 5 j NY)
    ∗ (at0 d 8 j ∗ tokA d 8 j ∗ tokA (zn d) 9 j)
    ∗ (at0 d 7 j ∗ crN d 7 j NH)
    ∗ (at0 d 9 j ∗ crN d 9 j NH))

theorem Pre_Stg (d : Dev nD) (j : ℕ) :
    iprop(Pre d j ∗ (outAny (xn d) (bown d) j ∗ outHAny (xn d) (bz d) j 0) ∗ (outAny (zn d) (bown d) j ∗ outHAny (zn d) (bx d) j 1)) ⊢ (Stg m d 0 j : sProp 𝕄) := by
  simp only [Pre, Stg, Nat.reduceLT, ↓reduceIte]
  iintro ⟨⟨⟨H1, H2, H3, H4⟩, H5, H6, ⟨H7, H8⟩, ⟨H9, H10⟩, ⟨H11, H12⟩, H13, ⟨H14, H15, H16⟩, H17, ⟨H18, H19, H20⟩, H21, H22⟩, ⟨H23, H24⟩, ⟨H25, H26⟩⟩
  iframe

/-- The device's own windows that its `x` and `z` neighbours will fill. -/
noncomputable def give (d : Dev nD) : sProp 𝕄 :=
  iprop((bigSep (Finset.range 16) (fun j => outAny d (bx d) j) ∗ bigSep (Finset.range 16) (fun j => outHAny d (bd d) j 0))
    ∗ (bigSep (Finset.range 16) (fun j => outAny d (bz d) j) ∗ bigSep (Finset.range 16) (fun j => outHAny d (bd d) j 1)))
theorem give_x (d : Dev nD) : (barPay (xn d) 0 : sProp 𝕄) = iprop(bigSep (Finset.range 16) (fun j => outAny d (bx d) j) ∗ bigSep (Finset.range 16) (fun j => outHAny d (bd d) j 0)) := by
  unfold barPay
  rw [if_pos rfl, xn_xn, bz_xn]; rfl
theorem give_z (d : Dev nD) : (barPay (zn d) 2 : sProp 𝕄) = iprop(bigSep (Finset.range 16) (fun j => outAny d (bz d) j) ∗ bigSep (Finset.range 16) (fun j => outHAny d (bd d) j 1)) := by
  unfold barPay
  rw [if_neg (by omega), if_neg (by omega), zn_zn, bx_zn]; rfl
theorem give_y (d : Dev nD) : (barPay (yn d) 1 : sProp 𝕄) = iprop(released ES (key d 0) 1 ∗ released ES (key d 1) 1) := by
  unfold barPay
  rw [if_neg (by omega), if_pos rfl, yn_yn]

/-- What a device owes at the start: its chunks, and a signal to each neighbour's barrier. -/
noncomputable def O0 (d : Dev nD) : CellTallies nD τ sig ℕ :=
  owS d (fun _ => 0) (Finset.range 16) + tallyAt (cB (zn d)) 0 1 + tallyAt (cB (yn d)) 0 1 + tallyAt (cB (xn d)) 0 1

/-- The barrier's part. -/
noncomputable def barS (d : Dev nD) : sProp 𝕄 :=
  iprop(atPos ER (cB d) 0 ∅ 0 ∗ cred (tallyAt (cB d) 0 3) ∗ dutyTok ER (cB (xn d)) 0 0 ∗ dutyTok ER (cB (yn d)) 0 1 ∗ dutyTok ER (cB (zn d)) 0 2)
/-- The receive slots' part. -/
noncomputable def yrS (d : Dev nD) : sProp 𝕄 :=
  iprop((readerAt ES (key d 0) 0 ∗ readerAt ES (key d 1) 0) ∗ (yrAny d 0 ∗ yrAny d 1))
/-- The part of the copies within the device. -/
noncomputable def locS (d : Dev nD) : sProp 𝕄 :=
  iprop((atPos ER (cD d dysem) 0 ∅ 0 ∗ dutyTok ER (cD d dysem) 0 0 ∗ dyArg m d ∗ (∃ f, (d : Thread nD τ).loc cc0_scratch0 ↦{fullShare} f))
    ∗ Pos wsem d 0 ∗ Wch m d 0 0 ∗ wvAny d 0 ∗ wvAny d 1 ∗ Pos ssem d 0 ∗ pcAny d 0 ∗ pcAny d 1)
/-- The credits' part. -/
noncomputable def crS (d : Dev nD) : sProp 𝕄 :=
  iprop(atPos ER (cC d) 0 ∅ 0 ∗ bigSep (Finset.Ico 0 14) (fun i => cred (tallyAt (cC d) i 1)) ∗ cred (tallyAt (cC d) 14 2))

/-- What part of it is left after the first signal. -/
noncomputable def Mid (d : Dev nD) : sProp 𝕄 :=
  iprop(recs m K Ks ∗ Ow d (owS d (fun _ => 0) (Finset.range 16) + tallyAt (cB (zn d)) 0 1 + tallyAt (cB (yn d)) 0 1)
    ∗ (atPos ER (cB d) 0 ∅ 0 ∗ cred (tallyAt (cB d) 0 3) ∗ dutyTok ER (cB (yn d)) 0 1 ∗ dutyTok ER (cB (zn d)) 0 2)
    ∗ yrS d ∗ bigSep (Finset.range 16) (fun j => Pre d j) ∗ Gs m d (fun _ => 0)
    ∗ (bigSep (Finset.range 16) (fun j => outAny d (bz d) j) ∗ bigSep (Finset.range 16) (fun j => outHAny d (bd d) j 1)) ∗ locS m d ∗ crS d)
noncomputable def Entry (d : Dev nD) : sProp 𝕄 :=
  iprop(recs m K Ks ∗ Ow d (O0 d) ∗ barS d ∗ yrS d ∗ bigSep (Finset.range 16) (fun j => Pre d j) ∗ Gs m d (fun _ => 0) ∗ give d ∗ locS m d ∗ crS d)

/-- The first signal. -/
theorem part6 (d : Dev nD) :
    Entry m K Ks d ⊢ WP d (k0_part6 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) (fun r => iprop(⌜∃ v2 v5 v8 v17 v18 v19 v31 c2, r = ⟨d, v2, v5, v8, v17, v18, v19, SemArray.scalar (sig.barrier 0 rfl), v31, c2⟩⌝ ∗ Mid m K Ks d)) := by
  rw [k0_part6_eq_skeleton]
  unfold k0_part6_skel
  simp only [semSignalWord, semWaitWord, Prog.lift, Prog.bind_op, Prog.bind_ret, Prog.pure_eq_ret, wp_deviceId]
  unfold Entry Mid O0 barS give
  iintro ⟨#HR, HO, ⟨Hat, Hc, Ht0, Ht1, Ht2⟩, Hyr, HP, HG, ⟨Hx, Hz⟩, Hl, Hcr⟩
  ihave Hx := (Entails.of_eq (give_x d).symm) $$ Hx
  iapply (bar_signal m K Ks (xn d) 0 (by omega) _ (Fin.ext (k0_dev1_eq d)) rfl rfl) $$ [HO Ht0 Hx]
  · isplitr; · iexact HR
    isplitl [HO]; · iexact HO
    isplitl [Ht0] <;> iassumption
  iintro HO
  unfold WP
  rw [wp_ret]
  imodintro
  isplitr
  · ipureintro
    exact ⟨_, _, _, _, _, _, _, _, rfl⟩
  isplitr; · iexact HR
  iframe

theorem Stg_all (d : Dev nD) :
    iprop(bigSep (Finset.range 16) (fun j => Pre d j) ∗ barPay d 0 ∗ barPay d 2) ⊢ (bigSep (Finset.range 16) (fun j => Stg m d 0 j) : sProp 𝕄) := by
  have e0 : (barPay d 0 : sProp 𝕄) = iprop(bigSep (Finset.range 16) (fun j => outAny (xn d) (bown d) j) ∗ bigSep (Finset.range 16) (fun j => outHAny (xn d) (bz d) j 0)) := by
    unfold barPay; rw [if_pos rfl]
  have e2 : (barPay d 2 : sProp 𝕄) = iprop(bigSep (Finset.range 16) (fun j => outAny (zn d) (bown d) j) ∗ bigSep (Finset.range 16) (fun j => outHAny (zn d) (bx d) j 1)) := by
    unfold barPay; rw [if_neg (by omega), if_neg (by omega)]
  rw [e0, e2]
  refine .trans (Entails.of_eq ?_) (bigSep_mono (fun j _ => Pre_Stg m d j))
  rw [BI.bigSep_sep', BI.bigSep_sep', BI.bigSep_sep', BI.bigSep_sep']

theorem yr_release (d : Dev nD) (j : ℕ) (hj : j < 2) : iprop(recs m K Ks ∗ readerAt ES (key d j) 0 ∗ yrAny d j) ⊢ (|={Set.univ}=> (readerAt ES (key d j) 1 ∗ released ES (key d j) 1) : sProp 𝕄) := by
  iintro ⟨#HR, Hr, Hy⟩
  ihave H := (recs_slot m K Ks d j) $$ HR
  iapply (slot_release ES (Set.mem_univ _) (yr_two d j) 0) $$ [Hr Hy]
  isplitr; · iexact H
  isplitl [Hr] <;> iassumption

theorem sig_below (d : Dev nD) : Below (owS d (fun _ => 0) (Finset.range 16)) 1 := below_St d _ 1 (fun i _ => by unfold okw; omega)

theorem bar_y (d : Dev nD) : (barPay d 1 : sProp 𝕄) = iprop(released ES (key (yn d) 0) 1 ∗ released ES (key (yn d) 1) 1) := by
  unfold barPay
  rw [if_neg (by omega), if_pos rfl]
theorem wx_zero (d : Dev nD) : (wx d 0 : sProp 𝕄) = iprop(emp) := by
  unfold wx; rw [if_pos (by omega)]

/-- What is left after the loop: the invariant after the last trip, and the semaphores no longer used. -/
noncomputable def After (d : Dev nD) : sProp 𝕄 :=
  iprop(Inv m K Ks d 16 ∗ semVal (cD d dysem) 0 ∗ semVal (cB d) 0 ∗ dyArg m d)

/-- The other signals, the wait, the first copies and the loop. -/
theorem part7 (d : Dev nD) (v2 v5 v8 v17 v18 v19 v31 c2 : BitVec 32) :
    Mid m K Ks d ⊢ WP d (k0_part7 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 d v2 v5 v8 v17 v18 v19 (SemArray.scalar (sig.barrier 0 rfl)) v31 c2) (fun _ => After m K Ks d) := by
  rw [k0_part7_eq_skeleton]
  unfold k0_part7_skel
  simp only [semSignalWord, semWaitWord, Prog.lift, Prog.bind_op, Prog.bind_ret, Prog.pure_eq_ret]
  unfold Mid yrS locS crS
  iintro ⟨#HR, HO, ⟨Hat, Hc, Ht1, Ht2⟩, ⟨⟨Hr0, Hr1⟩, ⟨Hy0, Hy1⟩⟩, HP, HG, Hz, ⟨⟨Hda, Hdt, Hdy, Hdv⟩, HPw, HW, Hw0, Hw1, HPs, Hp0, Hp1⟩, ⟨HCa, HCi, HCl⟩⟩
  imod (yr_release m K Ks d 0 (by omega)) $$ [Hr0 Hy0] with ⟨Hr0, #Hl0⟩
  · isplitr; · iexact HR
    isplitl [Hr0] <;> iassumption
  imod (yr_release m K Ks d 1 (by omega)) $$ [Hr1 Hy1] with ⟨Hr1, #Hl1⟩
  · isplitr; · iexact HR
    isplitl [Hr1] <;> iassumption
  ihave Hz := (Entails.of_eq (give_z d).symm) $$ Hz
  iapply (bar_signal m K Ks (yn d) 1 (by omega) _ (Fin.ext (k0_dev2_eq d)) rfl rfl) $$ [HO Ht1]
  · isplitr; · iexact HR
    isplitl [HO]; · iexact HO
    isplitl [Ht1]; · iexact Ht1
    iapply (Entails.of_eq (give_y d).symm)
    isplitr <;> iassumption
  iintro HO
  iapply (bar_signal m K Ks (zn d) 2 (by omega) _ (Fin.ext (k0_dev3_eq d)) rfl rfl) $$ [HO Ht2 Hz]
  · isplitr; · iexact HR
    isplitl [HO]; · iexact HO
    isplitl [Ht2] <;> iassumption
  iintro HO
  iapply (bar_wait m K Ks _ (sig_below d) rfl rfl) $$ [HO Hat Hc]
  · isplitr; · iexact HR
    isplitl [HO]; · iexact HO
    isplitl [Hat] <;> iassumption
  iintro ⟨HO, Hbar, HB0, HB1, HB2⟩
  ihave HS := (Stg_all m d) $$ [HP HB0 HB2]
  · isplitl [HP]; · iexact HP
    isplitl [HB0] <;> iassumption
  ihave HS : iprop(St m d (fun _ => 0)) $$ [HS HO]
  · unfold St
    isplitl [HS] <;> iassumption
  iapply (Dy_start m K Ks (dy_at _ (o1 d) _) rfl rfl) $$ [Hdt Hdy Hdv]
  · isplitr; · iexact HR
    isplitl [Hdt]; · iexact Hdt
    isplitl [Hdy] <;> iassumption
  iintro Hdc
  iapply (W_start m K Ks 0 0 (by omega) (Or.inl rfl) (wa_at 0 rfl _) (wv_at 0 rfl _) (wsem_at 0 rfl _)) $$ [HPw HW Hw0]
  · isplitr; · iexact HR
    isplitl [HPw]; · iexact HPw
    isplitl [HW] <;> iassumption
  iintro ⟨HPw, HW⟩
  iapply (Dy_wait m K Ks (σ := fun _ => 0) rfl rfl) $$ [HS Hda Hdc]
  · isplitr; · iexact HR
    isplitl [HS]; · iexact HS
    isplitl [Hda] <;> iassumption
  iintro ⟨HS, Hdz, Hdy, Hdv⟩
  rw [Scf.Loop.for]
  iapply (Scf.wp_for_bind _ _ _ _ _ _ _ _ _ (fun t _ => Inv m K Ks d t) (fun t _ => trip m K Ks d v2 v5 v8 v17 v18 v19 (SemArray.scalar (sig.barrier 0 rfl)) v31 c2 t)) $$ [HS HG HPw HW Hw1 HPs Hp0 Hp1 Hdv HB1 HCa HCi HCl Hr0 Hr1]
  · unfold Inv
    isplitr; · iexact HR
    isplitl [HS]
    · iapply (Entails.of_eq (St_congr m d _ _ (fun j _ => by unfold sg; split_ifs <;> omega))) $$ HS
    isplitl [HG]
    · iapply (Entails.of_eq (Gs_congr m d _ _ (fun j _ => by unfold gm; split_ifs <;> omega))) $$ HG
    isplitl [HPw]; · iexact HPw
    isplitl [HW]; · iexact HW
    isplitl [Hw1]; · iexact Hw1
    isplitr; · iapply (Entails.of_eq (wx_zero d).symm); iempintro
    isplitl [HPs]; · iexact HPs
    isplitl [Hp0 Hp1]
    · unfold pcF
      rw [if_pos (by omega), if_pos (by omega)]
      isplitl [Hp0] <;> iassumption
    isplitl [Hdv]; · iexact Hdv
    isplitl [HB1 HCa HCi HCl]
    · unfold Cr
      isplitl [HCa]
      · iexists (∅ : Finset ℕ)
        isplitr; · ipureintro; exact ⟨by simp, by simp⟩
        isplitl [HCa]; · iexact HCa
        rw [bigSep_empty]; iempintro
      isplitl [HB1]; · iapply (Entails.of_eq (bar_y d)) $$ HB1
      isplitl [HCi] <;> iassumption
    unfold Rdr
    isplitl [Hr0]
    · isplitl [Hr0]; · iexact Hr0
      iexact Hl0
    isplitl [Hr1]; · iexact Hr1
    iexact Hl1
  iintro %acc HI
  rw [wp_ret]
  imodintro
  unfold After
  isplitl [HI]
  · iapply (Entails.of_eq (congrArg (Inv m K Ks d) trips_eq)) $$ HI
  isplitl [Hdz]; · iexact Hdz
  isplitl [Hbar] <;> iassumption

end Cert.KernelIdeal.Hand

end
-- ==== Proof.Pieces.lean ====
/-
# Buffers and semaphores in pieces

A whole buffer is its pieces: a scratch buffer of two slots is `…Any d 0` and `…Any d 1`, the weight operand its sixteen
chunks of rows, the result its four row blocks of sixteen windows. Every semaphore of a device is an entry of one of the
ten arrays or one of the seven others.
-/
module

public import proofs.«01_k».proof.Proof.Entry
public import Idealize.ShloMosaic.Lib.SparseCore.Launch

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## A buffer in two parts -/

theorem any_join {ℓ : Loc nD τ sig} {I J : Finset (Idx ℓ)} (hd : Disjoint I J) (hc : I ∪ J = Finset.univ) :
    iprop((∃ f, ℓ ↦[I]{fullShare} f) ∗ (∃ f, ℓ ↦[J]{fullShare} f)) ⊢ (iprop(∃ f, ℓ ↦{fullShare} f) : sProp 𝕄) := by
  iintro ⟨⟨%f, Hf⟩, ⟨%g, Hg⟩⟩
  ihave H := (pointsTo_join (q := fullShare) (f := f) (g := g) hd) $$ [Hf Hg]
  · isplitl [Hf] <;> iassumption
  iexists (J.piecewise g f)
  rw [hc]
  iexact H
theorem any_split {ℓ : Loc nD τ sig} {I J : Finset (Idx ℓ)} (hd : Disjoint I J) (hc : I ∪ J = Finset.univ) :
    (iprop(∃ f, ℓ ↦{fullShare} f) : sProp 𝕄) ⊢ iprop((∃ f, ℓ ↦[I]{fullShare} f) ∗ (∃ f, ℓ ↦[J]{fullShare} f)) := by
  iintro ⟨%f, H⟩
  rw [← hc]
  ihave H2 := (pointsTo_union (q := fullShare) (f := f) hd).1 $$ H
  icases H2 with ⟨Hf, Hg⟩
  isplitl [Hf]; · iexists f; iexact Hf
  iexists f; iexact Hg

/-! ## The two slots of a scratch buffer -/

theorem slot3_disj : Disjoint (Rect.unit (s := S2x1024x256) ![0 % 2, 0, 0] S1x1024x256.size (inb3 0)).set (Rect.unit (s := S2x1024x256) ![1 % 2, 0, 0] S1x1024x256.size (inb3 1)).set :=
  Rect.unit_disjoint (0 : Fin 3) (Or.inl (by show 0 % 2 + 1 ≤ 1 % 2; omega))
theorem slot3_cover : (Rect.unit (s := S2x1024x256) ![0 % 2, 0, 0] S1x1024x256.size (inb3 0)).set ∪ (Rect.unit (s := S2x1024x256) ![1 % 2, 0, 0] S1x1024x256.size (inb3 1)).set = Finset.univ := by
  ext i
  refine ⟨fun _ => Finset.mem_univ _, fun _ => ?_⟩
  have h0 : (i 0 : ℕ) < 2 := (i 0).isLt
  have h1 : (i 1 : ℕ) < 1024 := (i 1).isLt
  have h2 : (i 2 : ℕ) < 256 := (i 2).isLt
  rw [Finset.mem_union, Rect.mem_set_unit, Rect.mem_set_unit]
  rcases (show (i 0 : ℕ) = 0 ∨ (i 0 : ℕ) = 1 by omega) with h | h
  · left; intro (a : Fin 3); fin_cases a
    · exact ⟨(by show 0 % 2 ≤ (i 0 : ℕ); omega), (by show (i 0 : ℕ) < 0 % 2 + 1; omega)⟩
    · exact ⟨Nat.zero_le _, (by show (i 1 : ℕ) < 0 + 1024; omega)⟩
    · exact ⟨Nat.zero_le _, (by show (i 2 : ℕ) < 0 + 256; omega)⟩
  · right; intro (a : Fin 3); fin_cases a
    · exact ⟨(by show 1 % 2 ≤ (i 0 : ℕ); omega), (by show (i 0 : ℕ) < 1 % 2 + 1; omega)⟩
    · exact ⟨Nat.zero_le _, (by show (i 1 : ℕ) < 0 + 1024; omega)⟩
    · exact ⟨Nat.zero_le _, (by show (i 2 : ℕ) < 0 + 256; omega)⟩
theorem slotW_disj : Disjoint (Rect.unit (s := S2x256x8192) ![0 % 2, 0, 0] S1x256x8192.size (inbW 0)).set (Rect.unit (s := S2x256x8192) ![1 % 2, 0, 0] S1x256x8192.size (inbW 1)).set :=
  Rect.unit_disjoint (0 : Fin 3) (Or.inl (by show 0 % 2 + 1 ≤ 1 % 2; omega))
theorem slotW_cover : (Rect.unit (s := S2x256x8192) ![0 % 2, 0, 0] S1x256x8192.size (inbW 0)).set ∪ (Rect.unit (s := S2x256x8192) ![1 % 2, 0, 0] S1x256x8192.size (inbW 1)).set = Finset.univ := by
  ext i
  refine ⟨fun _ => Finset.mem_univ _, fun _ => ?_⟩
  have h0 : (i 0 : ℕ) < 2 := (i 0).isLt
  have h1 : (i 1 : ℕ) < 256 := (i 1).isLt
  have h2 : (i 2 : ℕ) < 8192 := (i 2).isLt
  rw [Finset.mem_union, Rect.mem_set_unit, Rect.mem_set_unit]
  rcases (show (i 0 : ℕ) = 0 ∨ (i 0 : ℕ) = 1 by omega) with h | h
  · left; intro (a : Fin 3); fin_cases a
    · exact ⟨(by show 0 % 2 ≤ (i 0 : ℕ); omega), (by show (i 0 : ℕ) < 0 % 2 + 1; omega)⟩
    · exact ⟨Nat.zero_le _, (by show (i 1 : ℕ) < 0 + 256; omega)⟩
    · exact ⟨Nat.zero_le _, (by show (i 2 : ℕ) < 0 + 8192; omega)⟩
  · right; intro (a : Fin 3); fin_cases a
    · exact ⟨(by show 1 % 2 ≤ (i 0 : ℕ); omega), (by show (i 0 : ℕ) < 1 % 2 + 1; omega)⟩
    · exact ⟨Nat.zero_le _, (by show (i 1 : ℕ) < 0 + 256; omega)⟩
    · exact ⟨Nat.zero_le _, (by show (i 2 : ℕ) < 0 + 8192; omega)⟩

theorem pc_set (s : ℕ) : (pcV s).view.set = (Rect.unit (s := S2x1024x256) ![s % 2, 0, 0] S1x1024x256.size (inb3 s)).set :=
  (View.set_reshape _ _).trans (View.set_slice_whole _ _)
theorem yr_set (s : ℕ) : (yrV s).view.set = (Rect.unit (s := S2x1024x256) ![s % 2, 0, 0] S1x1024x256.size (inb3 s)).set :=
  (View.set_reshape _ _).trans (View.set_slice_whole _ _)
theorem wv_set (s : ℕ) : (wvV s).view.set = (Rect.unit (s := S2x256x8192) ![s % 2, 0, 0] S1x256x8192.size (inbW s)).set :=
  (View.set_reshape _ _).trans (View.set_slice_whole _ _)

theorem pc_join (d : Dev nD) : iprop(pcAny d 0 ∗ pcAny d 1) ⊢ (iprop(∃ f, (d : Thread nD τ).loc cc0_scratch2 ↦{fullShare} f) : sProp 𝕄) := by
  unfold pcAny
  rw [pc_set, pc_set]
  exact any_join (ℓ := (d : Thread nD τ).loc cc0_scratch2) slot3_disj slot3_cover
theorem pc_split (d : Dev nD) : (iprop(∃ f, (d : Thread nD τ).loc cc0_scratch2 ↦{fullShare} f) : sProp 𝕄) ⊢ iprop(pcAny d 0 ∗ pcAny d 1) := by
  unfold pcAny
  rw [pc_set, pc_set]
  exact any_split (ℓ := (d : Thread nD τ).loc cc0_scratch2) slot3_disj slot3_cover
theorem yr_join (d : Dev nD) : iprop(yrAny d 0 ∗ yrAny d 1) ⊢ (iprop(∃ f, (d : Thread nD τ).loc cc0_scratch3 ↦{fullShare} f) : sProp 𝕄) := by
  unfold yrAny slot
  rw [yr_set, yr_set]
  exact any_join (ℓ := (d : Thread nD τ).loc cc0_scratch3) slot3_disj slot3_cover
theorem yr_split (d : Dev nD) : (iprop(∃ f, (d : Thread nD τ).loc cc0_scratch3 ↦{fullShare} f) : sProp 𝕄) ⊢ iprop(yrAny d 0 ∗ yrAny d 1) := by
  unfold yrAny slot
  rw [yr_set, yr_set]
  exact any_split (ℓ := (d : Thread nD τ).loc cc0_scratch3) slot3_disj slot3_cover
theorem wv_join (d : Dev nD) : iprop(wvAny d 0 ∗ wvAny d 1) ⊢ (iprop(∃ f, (d : Thread nD τ).loc cc0_scratch1 ↦{fullShare} f) : sProp 𝕄) := by
  unfold wvAny
  rw [wv_set, wv_set]
  exact any_join (ℓ := (d : Thread nD τ).loc cc0_scratch1) slotW_disj slotW_cover
theorem wv_split (d : Dev nD) : (iprop(∃ f, (d : Thread nD τ).loc cc0_scratch1 ↦{fullShare} f) : sProp 𝕄) ⊢ iprop(wvAny d 0 ∗ wvAny d 1) := by
  unfold wvAny
  rw [wv_set, wv_set]
  exact any_split (ℓ := (d : Thread nD τ).loc cc0_scratch1) slotW_disj slotW_cover

/-! ## The weight rows, chunk by chunk -/

theorem mem_waV (j : ℕ) (i : S4096x8192.Idx) : i ∈ (waV j).view.set ↔ (256 * (j % 16) ≤ (i 0 : ℕ) ∧ (i 0 : ℕ) < 256 * (j % 16) + 256) := by
  rw [View.set_slice_whole, Rect.mem_set_unit]
  constructor
  · intro h; exact h (0 : Fin 2)
  · rintro h0 (a : Fin 2)
    fin_cases a
    · exact h0
    · have h1 : (i 1 : ℕ) < 8192 := (i 1).isLt
      exact ⟨Nat.zero_le _, (by show (i 1 : ℕ) < 0 + 8192; omega)⟩
theorem waV_disj (j j' : ℕ) (hj : j < 16) (hj' : j' < 16) (h : j ≠ j') : Disjoint (waV j).view.set (waV j').view.set := by
  rw [View.set_slice_whole, View.set_slice_whole]
  refine Rect.unit_disjoint (0 : Fin 2) ?_
  show 256 * (j % 16) + 256 ≤ 256 * (j' % 16) ∨ 256 * (j' % 16) + 256 ≤ 256 * (j % 16)
  omega
theorem waV_cover : (Finset.range 16).biUnion (fun j => (waV j).view.set) = (Finset.univ : Finset S4096x8192.Idx) := by
  ext i
  have h0 : (i 0 : ℕ) < 4096 := (i 0).isLt
  refine ⟨fun _ => Finset.mem_univ _, fun _ => Finset.mem_biUnion.mpr ⟨(i 0 : ℕ) / 256, Finset.mem_range.mpr (by omega), (mem_waV _ i).mpr ?_⟩⟩
  omega
/-- The weight operand is its sixteen chunks. -/
theorem wArg_all (d : Dev nD) : (bigSep (Finset.range 16) (fun j => wArg m d j) : sProp 𝕄) = iprop((d : Thread nD τ).loc main_arg1 ↦{fullShare} m ((d : Thread nD τ).loc main_arg1)) := by
  refine (pointsTo_biUnion (ℓ := (d : Thread nD τ).loc main_arg1) (q := fullShare) (f := m ((d : Thread nD τ).loc main_arg1)) (Finset.range 16) (fun j => (waV j).view.set)
    (fun j hj j' hj' h => waV_disj j j' (Finset.mem_range.mp hj) (Finset.mem_range.mp hj') h)).symm.trans ?_
  rw [waV_cover]

/-! ## The result, block by block -/

theorem out_all (d : Dev nD) (f : Buf (Elt F) ((d : Thread nD τ).loc main_v1)) :
    (iprop((d : Thread nD τ).loc main_v1 ↦{fullShare} f) : sProp 𝕄)
      = bigSep Finset.univ (fun b : Fin 4 => bigSep (Finset.range 16) (fun j => iprop((d : Thread nD τ).loc main_v1 ↦[(outV b j).view.set]{fullShare} f))) := by
  have h := pointsTo_biUnion (Ix := ℕ) (Name := ℕ) (U := UU) (Lvl := ℕ) (ℓ := (d : Thread nD τ).loc main_v1) (q := fullShare) (f := f) (Finset.univ ×ˢ Finset.range 16) (fun p : Fin 4 × ℕ => (outV p.1 p.2).view.set)
    (fun p hp p' hp' h => outV_disj _ _ _ _ (Finset.mem_range.mp (Finset.mem_product.mp hp).2) (Finset.mem_range.mp (Finset.mem_product.mp hp').2) (by
      by_contra hc
      rw [not_or, not_not, not_not] at hc
      exact h (Prod.ext hc.1 hc.2)))
  rw [outV_cover] at h
  refine h.trans ?_
  exact SparseCore.bigSep_product _ _ _

/-- The four row blocks, named from device `d`. -/
theorem blocks (d : Dev nD) (Φ : Fin 4 → sProp 𝕄) : bigSep Finset.univ Φ = iprop(Φ (bown d) ∗ Φ (bz d) ∗ Φ (bx d) ∗ Φ (bd d)) := by
  rw [bigSep_univ_equiv (Equiv.ofBijective _ (bown_inj4 d)) Φ]
  exact bigSep_univ_eq_bigSepL [0, 1, 2, 3] (by decide) (by decide) _

/-- The result, from its windows. -/
theorem outP_all (d : Dev nD) :
    iprop(bigSep (Finset.range 16) (fun j => outP m d (bown d) j) ∗ bigSep (Finset.range 16) (fun j => outP m d (bz d) j)
      ∗ bigSep (Finset.range 16) (fun j => outP m d (bx d) j) ∗ bigSep (Finset.range 16) (fun j => outP m d (bd d) j))
      = (iprop((d : Thread nD τ).loc main_v1 ↦{fullShare} outBuf m (yy d)) : sProp 𝕄) := by
  rw [out_all, blocks d]; rfl

theorem outAny_all (d : Dev nD) (f : Buf (Elt F) ((d : Thread nD τ).loc main_v1)) :
    (iprop((d : Thread nD τ).loc main_v1 ↦{fullShare} f) : sProp 𝕄)
      ⊢ iprop(bigSep (Finset.range 16) (fun j => outAny d (bown d) j) ∗ give d) := by
  have hw (b : Fin 4) (j : ℕ) : (iprop((d : Thread nD τ).loc main_v1 ↦[(outV b j).view.set]{fullShare} f) : sProp 𝕄) ⊢ outAny d b j := by
    unfold outAny
    iintro H
    iexists f
    iexact H
  have hall (b : Fin 4) : (bigSep (Finset.range 16) (fun j => iprop((d : Thread nD τ).loc main_v1 ↦[(outV b j).view.set]{fullShare} f)) : sProp 𝕄) ⊢ bigSep (Finset.range 16) (fun j => outAny d b j) :=
    bigSep_mono (fun j _ => hw b j)
  have hhalf : (bigSep (Finset.range 16) (fun j => iprop((d : Thread nD τ).loc main_v1 ↦[(outV (bd d) j).view.set]{fullShare} f)) : sProp 𝕄) ⊢ bigSep (Finset.range 16) (fun j => iprop(outHAny d (bd d) j 0 ∗ outHAny d (bd d) j 1)) :=
    bigSep_mono (fun j _ => (hw (bd d) j).trans (outAny_halves d (bd d) j))
  rw [out_all, blocks d]
  unfold give
  iintro ⟨H0, H1, H2, H3⟩
  isplitl [H0]; · iapply (hall (bown d)) $$ H0
  ihave H3 := hhalf $$ H3
  ihave H3 := (Entails.of_eq (BI.bigSep_sep' _ _ _)) $$ H3
  icases H3 with ⟨H3, H4⟩
  isplitl [H2 H3]
  · isplitl [H2]; · iapply (hall (bx d)) $$ H2
    iexact H3
  isplitl [H1]; · iapply (hall (bz d)) $$ H1
  iexact H4

/-! ## All semaphores -/

noncomputable def arrS : Finset (SemLoc sig) := (Finset.range 16 ×ˢ Finset.range 10).image (fun p => SemLoc.dma (dsem p.2 p.1))
noncomputable def othS : Finset (SemLoc sig) := {.dma (wsem 0), .dma (wsem 1), .dma (ssem 0), .dma (ssem 1), .dma dysem, .reg basem, .reg crsem}

theorem arrS_inj : Set.InjOn (fun p : ℕ × ℕ => (SemLoc.dma (dsem p.2 p.1) : SemLoc sig)) (Finset.range 16 ×ˢ Finset.range 10 : Finset (ℕ × ℕ)) := by
  rintro ⟨j, a⟩ h ⟨j', a'⟩ h' e
  simp only [Finset.coe_product, Set.mem_prod, Finset.mem_coe, Finset.mem_range] at h h'
  have e' : (dsem a j : DmaSem sig).val = (dsem a' j').val := congrArg (fun s : SemLoc sig => match s with | .dma q => q.val | .reg _ => 0) e
  rw [dsem_val h.2 h.1, dsem_val h'.2 h'.1] at e'
  have : a = a' := by omega
  have : j = j' := by omega
  subst_vars; rfl
theorem othS_small (q : DmaSem sig) : SemLoc.dma q ∈ othS ↔ q.val < 5 := by
  revert q; decide +kernel
theorem othS_reg (q : Sem sig) : SemLoc.reg q ∈ othS := by
  revert q; decide +kernel
theorem sems_cover : (Finset.univ : Finset (SemLoc sig)) = arrS ∪ othS := by
  ext s
  refine ⟨fun _ => ?_, fun _ => Finset.mem_univ _⟩
  rw [Finset.mem_union]
  cases s with
  | reg q => exact Or.inr (othS_reg q)
  | dma q =>
    by_cases h : q.val < 5
    · exact Or.inr ((othS_small q).mpr h)
    · left
      have hq : q.val < 165 := q.isLt
      refine Finset.mem_image.mpr ⟨((q.val - 5) % 16, (q.val - 5) / 16), Finset.mem_product.mpr ⟨Finset.mem_range.mpr (by omega), Finset.mem_range.mpr (by dsimp only; omega)⟩, ?_⟩
      congr 1
      apply Fin.ext
      rw [dsem_val (by dsimp only; omega) (by dsimp only; omega)]
      dsimp only; omega
theorem sems_disj : Disjoint arrS othS := by
  rw [Finset.disjoint_left]
  intro s hs
  obtain ⟨⟨j, a⟩, hp, rfl⟩ := Finset.mem_image.mp hs
  have hj := Finset.mem_range.mp (Finset.mem_product.mp hp).1
  have ha := Finset.mem_range.mp (Finset.mem_product.mp hp).2
  rw [othS_small, dsem_val ha hj]
  dsimp only at *; omega

/-- Every semaphore: the entries of the ten arrays, and the seven others. -/
theorem all_sems (Φ : SemLoc sig → sProp 𝕄) :
    bigSep Finset.univ Φ = iprop(bigSep (Finset.range 16) (fun j => bigSep (Finset.range 10) (fun a => Φ (.dma (dsem a j))))
      ∗ Φ (.dma (wsem 0)) ∗ Φ (.dma (wsem 1)) ∗ Φ (.dma (ssem 0)) ∗ Φ (.dma (ssem 1)) ∗ Φ (.dma dysem) ∗ Φ (.reg basem) ∗ Φ (.reg crsem)) := by
  rw [sems_cover, bigSep_union sems_disj]
  congr 1
  · unfold arrS
    rw [BI.bigSep_image_of_injOn arrS_inj, SparseCore.bigSep_product]
  · exact bigSep_eq_bigSepL_of_eq (S := othS) [.dma (wsem 0), .dma (wsem 1), .dma (ssem 0), .dma (ssem 1), .dma dysem, .reg basem, .reg crsem] (by decide +kernel) (by decide +kernel) Φ

theorem ten (Φ : ℕ → sProp 𝕄) :
    bigSep (Finset.range 10) Φ = iprop(Φ 0 ∗ Φ 1 ∗ Φ 2 ∗ Φ 3 ∗ Φ 4 ∗ Φ 5 ∗ Φ 6 ∗ Φ 7 ∗ Φ 8 ∗ Φ 9) :=
  bigSep_eq_bigSepL_of_eq [0, 1, 2, 3, 4, 5, 6, 7, 8, 9] (by decide) (by decide) Φ

end Cert.KernelIdeal.Hand

end
-- ==== Proof.Deal.lean ====
/-
# Dealing the ghost state

Before the devices start, every semaphore is given its schedule and every receive slot its invariant. The rights to make a
transfer or a signal land on a device's semaphore go to the device that makes it: to the `y`, `x` or `z` neighbour, or to
the device itself.
-/
module

public import proofs.«01_k».proof.Proof.Pieces
public import Idealize.ShloMosaic.Lib.Ring

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## What the launch element deals each device -/

theorem cellOf_injective : Function.Injective (fun p : Dev nD × SemLoc sig => (((p.1 : Thread nD τ), p.2) : GSem nD τ sig)) := by
  rintro ⟨c, s⟩ ⟨c', s'⟩ h
  have h1 : c = c' := congrArg (fun g : GSem nD τ sig => g.1.1) h
  have h2 : s = s' := congrArg Prod.snd h
  rw [h1, h2]
/-- The cells, and a token of every duty a cell may have. -/
noncomputable def cellsS : Finset (GSem nD τ sig) := (Finset.univ : Finset (Dev nD × SemLoc sig)).map ⟨_, cellOf_injective⟩
noncomputable def toksS : Finset (GSem nD τ sig × ℕ × ℕ) := cellsS ×ˢ (Finset.range 8 ×ˢ Finset.range 16)
noncomputable def keysS : Finset (Dev nD × Fin 2) := Finset.univ

theorem cells_sep (Φ : GSem nD τ sig → sProp 𝕄) : bigSep cellsS Φ = bigSep Finset.univ (fun d : Dev nD => bigSep Finset.univ (fun sm : SemLoc sig => Φ ((d : Thread nD τ), sm))) := by
  unfold cellsS
  rw [BI.bigSep_map, bigSep_univ_prod]
  rfl

/-- The tokens of one semaphore, and of all semaphores of a device. -/
noncomputable def TS (d : Dev nD) (sm : SemLoc sig) : sProp 𝕄 :=
  bigSep (Finset.range 8) (fun r => bigSep (Finset.range 16) (fun k => dutyTok ER ((d : Thread nD τ), sm) r k))
noncomputable def TT (d : Dev nD) : sProp 𝕄 := bigSep Finset.univ (fun sm : SemLoc sig => TS d sm)
theorem toks_sep : (bigSep toksS (fun x => dutyTok ER x.1 x.2.1 x.2.2) : sProp 𝕄) = bigSep Finset.univ (fun d : Dev nD => TT d) := by
  unfold toksS
  rw [SparseCore.bigSep_product, cells_sep]
  refine bigSep_congr (fun d _ => bigSep_congr (fun sm _ => ?_))
  rw [SparseCore.bigSep_product]
  rfl

theorem TS_rounds (d : Dev nD) (sm : SemLoc sig) : (TS d sm : sProp 𝕄) ⊢ bigSep (Finset.range 8) (fun r => dutyTok ER ((d : Thread nD τ), sm) r 0) :=
  bigSep_mono (fun r _ => bigSep_elim (Finset.mem_range.mpr (by omega)))
theorem TS_first (d : Dev nD) (sm : SemLoc sig) : (TS d sm : sProp 𝕄) ⊢ bigSep (Finset.range 16) (fun k => dutyTok ER ((d : Thread nD τ), sm) 0 k) :=
  bigSep_elim (Φ := fun r => (bigSep (Finset.range 16) (fun k => dutyTok ER ((d : Thread nD τ), sm) r k) : sProp 𝕄)) (Finset.mem_range.mpr (by omega))
theorem TS_one (d : Dev nD) (sm : SemLoc sig) : (TS d sm : sProp 𝕄) ⊢ dutyTok ER ((d : Thread nD τ), sm) 0 0 :=
  (TS_first d sm).trans (bigSep_elim (Finset.mem_range.mpr (by omega)))
theorem TS_three (d : Dev nD) (sm : SemLoc sig) : (TS d sm : sProp 𝕄) ⊢ iprop(dutyTok ER ((d : Thread nD τ), sm) 0 0 ∗ dutyTok ER ((d : Thread nD τ), sm) 0 1 ∗ dutyTok ER ((d : Thread nD τ), sm) 0 2) :=
  ((TS_first d sm).trans (BI.bigSep_subset (t := Finset.range 3) (by decide))).trans
    (Entails.of_eq (bigSep_eq_bigSepL_of_eq (S := Finset.range 3) [0, 1, 2] (by decide) (by decide) _))

/-- Sixteen by parity. -/
theorem parity (Φ : ℕ → sProp 𝕄) : bigSep (Finset.range 16) Φ = iprop(bigSep (Finset.range 8) (fun k => Φ (2 * k)) ∗ bigSep (Finset.range 8) (fun k => Φ (2 * k + 1))) :=
  Ring.bigSep_range_deinterleave 8 Φ

theorem pair_toks (q : ℕ → DmaSem sig) (hq : ∀ t, q t = q (t % 2)) (d : Dev nD) :
    iprop(TS d (.dma (q 0)) ∗ TS d (.dma (q 1))) ⊢ (bigSep (Finset.range 16) (fun j => dutyTok ER (cD d (q j)) (j / 2) 0) : sProp 𝕄) := by
  rw [parity]
  refine BI.sep_mono ?_ ?_
  · refine (TS_rounds d _).trans (Entails.of_eq (bigSep_congr (fun k _ => ?_)))
    rw [hq (2 * k), show 2 * k % 2 = 0 by omega, show 2 * k / 2 = k by omega]
  · refine (TS_rounds d _).trans (Entails.of_eq (bigSep_congr (fun k _ => ?_)))
    rw [hq (2 * k + 1), show (2 * k + 1) % 2 = 1 by omega, show (2 * k + 1) / 2 = k by omega]

/-- The tokens a device keeps; those its neighbours across `y`, `x` and `z` use. -/
noncomputable def TO (d : Dev nD) : sProp 𝕄 :=
  iprop(bigSep (Finset.range 16) (fun j => iprop(tokA d 0 j ∗ tokA d 2 j ∗ tokA d 4 j ∗ tokA d 6 j ∗ tokA d 8 j))
    ∗ bigSep (Finset.range 16) (fun j => dutyTok ER (cW d j) (j / 2) 0) ∗ bigSep (Finset.range 16) (fun j => dutyTok ER (cS d j) (j / 2) 0)
    ∗ dutyTok ER (cD d dysem) 0 0)
noncomputable def TY (d : Dev nD) : sProp 𝕄 :=
  iprop(bigSep (Finset.range 16) (fun j => iprop(tokA d 1 j ∗ dutyTok ER (cC d) 0 j)) ∗ dutyTok ER (cB d) 0 1)
noncomputable def TX (d : Dev nD) : sProp 𝕄 :=
  iprop(bigSep (Finset.range 16) (fun j => iprop(tokA d 5 j ∗ tokA d 7 j)) ∗ dutyTok ER (cB d) 0 0)
noncomputable def TZ (d : Dev nD) : sProp 𝕄 :=
  iprop(bigSep (Finset.range 16) (fun j => iprop(tokA d 3 j ∗ tokA d 9 j)) ∗ dutyTok ER (cB d) 0 2)
/-- The rights to fill the receive slots: the `y` neighbour's, and the last ones, by which the device takes its slots back. -/
noncomputable def WY (d : Dev nD) : sProp 𝕄 := bigSep (Finset.range 16) (fun j => writeTok ES (key d j) (j / 2 + 1))
noncomputable def WO (d : Dev nD) : sProp 𝕄 := iprop(writeTok ES (key d 0) 9 ∗ writeTok ES (key d 1) 9)
noncomputable def RO (d : Dev nD) : sProp 𝕄 := iprop(readerAt ES (key d 0) 0 ∗ readerAt ES (key d 1) 0)

theorem arr_toks (d : Dev nD) : (bigSep (Finset.range 16) (fun j => bigSep (Finset.range 10) (fun a => TS d (.dma (dsem a j)))) : sProp 𝕄)
    ⊢ iprop(bigSep (Finset.range 16) (fun j => iprop(tokA d 0 j ∗ tokA d 2 j ∗ tokA d 4 j ∗ tokA d 6 j ∗ tokA d 8 j)) ∗ bigSep (Finset.range 16) (fun j => tokA d 1 j)
      ∗ bigSep (Finset.range 16) (fun j => iprop(tokA d 5 j ∗ tokA d 7 j)) ∗ bigSep (Finset.range 16) (fun j => iprop(tokA d 3 j ∗ tokA d 9 j))) := by
  rw [← BI.bigSep_sep', ← BI.bigSep_sep', ← BI.bigSep_sep']
  refine bigSep_mono (fun j _ => ?_)
  have h : (bigSep (Finset.range 10) (fun a => TS d (.dma (dsem a j))) : sProp 𝕄) ⊢ bigSep (Finset.range 10) (fun a => tokA d a j) :=
    bigSep_mono (fun a _ => TS_one d _)
  refine h.trans ?_
  rw [ten]
  iintro ⟨H0, H1, H2, H3, H4, H5, H6, H7, H8, H9⟩
  iframe

theorem TT_deal (d : Dev nD) : (TT d : sProp 𝕄) ⊢ iprop(TO d ∗ TY d ∗ TX d ∗ TZ d) := by
  unfold TT TO TY TX TZ
  rw [all_sems, BI.bigSep_sep' (Finset.range 16) (fun j => tokA d 1 j) (fun j => dutyTok ER (cC d) 0 j)]
  iintro ⟨HA, HW0, HW1, HS0, HS1, HD, HB, HC⟩
  ihave HA := (arr_toks d) $$ HA
  icases HA with ⟨HO, HY, HX, HZ⟩
  ihave HW := (pair_toks wsem wsem_mod d) $$ [HW0 HW1]
  · isplitl [HW0] <;> iassumption
  ihave HS := (pair_toks ssem ssem_mod d) $$ [HS0 HS1]
  · isplitl [HS0] <;> iassumption
  ihave HD := (TS_one d _) $$ HD
  ihave HB := (TS_three d _) $$ HB
  icases HB with ⟨HB0, HB1, HB2⟩
  ihave HC := (TS_first d _) $$ HC
  iframe

/-! ## The receive slots -/

theorem keys_sep (Φ : Dev nD × Fin 2 → sProp 𝕄) : bigSep keysS Φ = bigSep Finset.univ (fun d : Dev nD => iprop(Φ (key d 0) ∗ Φ (key d 1))) := by
  unfold keysS
  rw [bigSep_univ_prod]
  exact bigSep_congr (fun d _ => BI.bigSep_fin_two _)
theorem write_sep : (bigSep (keysS ×ˢ Finset.range 9) (fun x => writeTok ES x.1 (x.2 + 1)) : sProp 𝕄) ⊢ bigSep Finset.univ (fun d : Dev nD => iprop(WY d ∗ WO d)) := by
  rw [SparseCore.bigSep_product, keys_sep]
  refine bigSep_mono (fun d _ => ?_)
  show iprop(bigSep (Finset.range 9) (fun t => writeTok ES (key d 0) (t + 1)) ∗ bigSep (Finset.range 9) (fun t => writeTok ES (key d 1) (t + 1))) ⊢ iprop(WY d ∗ WO d)
  rw [Finset.range_add_one, bigSep_insert Finset.notMem_range_self, bigSep_insert Finset.notMem_range_self]
  unfold WY WO
  rw [parity]
  have e0 : (bigSep (Finset.range 8) (fun k => writeTok ES (key d (2 * k)) (2 * k / 2 + 1)) : sProp 𝕄) = bigSep (Finset.range 8) (fun t => writeTok ES (key d 0) (t + 1)) :=
    bigSep_congr (fun k _ => by rw [key_mod d (2 * k), show 2 * k % 2 = 0 by omega, show 2 * k / 2 = k by omega])
  have e1 : (bigSep (Finset.range 8) (fun k => writeTok ES (key d (2 * k + 1)) ((2 * k + 1) / 2 + 1)) : sProp 𝕄) = bigSep (Finset.range 8) (fun t => writeTok ES (key d 1) (t + 1)) :=
    bigSep_congr (fun k _ => by rw [key_mod d (2 * k + 1), show (2 * k + 1) % 2 = 1 by omega, show (2 * k + 1) / 2 = k by omega])
  rw [e0, e1]
  show iprop((writeTok ES (key d 0) 9 ∗ _) ∗ (writeTok ES (key d 1) 9 ∗ _)) ⊢ _
  iintro ⟨⟨H0, H1⟩, ⟨H2, H3⟩⟩
  isplitl [H1 H3]
  · isplitl [H1] <;> iassumption
  isplitl [H0] <;> iassumption

/-- The records without the levels. -/
noncomputable def recs0 : sProp 𝕄 :=
  iprop(bigSep Finset.univ (fun p : Dev nD × SemLoc sig => iprop(cellInv ER (Rd m) (K ((p.1 : Thread nD τ), p.2)) ((p.1 : Thread nD τ), p.2) ∗ reached ER ((p.1 : Thread nD τ), p.2) 0))
    ∗ bigSep Finset.univ (fun k : Dev nD × Fin 2 => slotInv ES (Ks k) k (yrAny k.1 k.2.val)))
instance recs0_persistent (K Ks) : BI.Persistent (recs0 m K Ks) := by unfold recs0; infer_instance

/-- The invariants of the receive slots. -/
noncomputable def slotsI : sProp 𝕄 := iprop(∃ Ks : Dev nD × Fin 2 → ℕ, bigSep Finset.univ (fun k : Dev nD × Fin 2 => slotInv ES (Ks k) k (yrAny k.1 k.2.val)))
instance slotsI_persistent : BI.Persistent (slotsI (F := F)) := by unfold slotsI; infer_instance

/-- What the launch element deals a device, before its semaphores are under their invariants. -/
noncomputable def G (d : Dev nD) : sProp 𝕄 :=
  iprop(bigSep Finset.univ (fun sm : SemLoc sig => roundState ER (Rd m) ((d : Thread nD τ), sm) 0) ∗ bigSep Finset.univ (fun sm : SemLoc sig => reached ER ((d : Thread nD τ), sm) 0)
    ∗ bigSep Finset.univ (fun sm : SemLoc sig => atPos ER ((d : Thread nD τ), sm) 0 ∅ 0) ∗ TT d ∗ RO d ∗ (WY d ∗ WO d) ∗ slotsI)

noncomputable def u₀ : UU :=
  (initOf (Pipeline.cells cfgs cellOf_inj) (Pipeline.launchToks cfgs cellOf_inj), (initOf cellsS toksS, initSlots keysS 9))

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb _ _ _) $$ HX
  icases H with ⟨HC, HS⟩
  imod (Rounds.fund ER (Rd m) cellsS toksS) $$ HC with ⟨Hst, Hr, Hat, Htok⟩
  imod (slots_init ES keysS 9 (fun k => yrAny k.1 k.2.val)) $$ HS with ⟨%Ks, -, HI, Hrd, Hwt⟩
  imodintro
  isplitl [HP]; · iexact HP
  ihave Hst := (Entails.of_eq (cells_sep _)) $$ Hst
  ihave Hr := (Entails.of_eq (cells_sep _)) $$ Hr
  ihave Hat := (Entails.of_eq (cells_sep _)) $$ Hat
  ihave Htok := (Entails.of_eq toks_sep) $$ Htok
  ihave Hrd := (Entails.of_eq (keys_sep _)) $$ Hrd
  ihave Hwt := write_sep $$ Hwt
  have hI : slotsI (F := F) ⊢ bigSep Finset.univ (fun _ : Dev nD => slotsI (F := F)) := BI.bigSep_of_persistent Finset.univ _
  ihave HI := hI $$ [HI]
  · unfold slotsI
    iexists Ks
    iexact HI
  unfold G RO
  simp only [BI.bigSep_sep']
  icases Hrd with ⟨Hrd0, Hrd1⟩
  icases Hwt with ⟨Hw0, Hw1⟩
  iframe

end Cert.KernelIdeal.Hand

end
-- ==== Proof.Glob.lean ====
/-
# The semaphores under their schedules

All devices' semaphores, at zero, are put under their invariants, and the rights dealt to the devices that use them.
-/
module

public import proofs.«01_k».proof.Proof.Deal

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-- The kernel's own semaphores: all but the barrier's. -/
noncomputable def osem : {s : SemLoc sig // s.isScoped .tc = true} → SemLoc sig := Subtype.val

theorem sems_all (d : Dev nD) :
    iprop(Pipeline.ownSems0 (Ix := ℕ) (Name := ℕ) (U := UU) (Lvl := ℕ) (Val := Elt F) (τ := τ) osem d ∗ unscopedSems0 d)
      = (bigSep Finset.univ (fun sm : SemLoc sig => semVal ((d : Thread nD τ), sm) 0) : sProp 𝕄) := by
  rw [bigSep_filter_split Finset.univ (fun s : SemLoc sig => s.isScoped .tc = true)]
  unfold Pipeline.ownSems0 unscopedSems0 osem
  rw [← BI.bigSep_subtype (fun s : SemLoc sig => s.isScoped .tc = true) (fun s => (semVal ((d : Thread nD τ), s) 0 : sProp 𝕄))]
  rfl

/-- What a device has of its own when the semaphores are under their invariants. -/
noncomputable def Rest (d : Dev nD) : sProp 𝕄 :=
  iprop(bigSep Finset.univ (fun sm : SemLoc sig => reached ER ((d : Thread nD τ), sm) 0)
    ∗ bigSep Finset.univ (fun sm : SemLoc sig => atPos ER ((d : Thread nD τ), sm) 0 ∅ 0) ∗ TT d ∗ RO d ∗ (WY d ∗ WO d) ∗ slotsI)

theorem core_alloc (d : Dev nD) :
    iprop(Pipeline.ownSems0 (Ix := ℕ) (Name := ℕ) (U := UU) (Lvl := ℕ) (Val := Elt F) (τ := τ) osem d ∗ unscopedSems0 d ∗ G m d)
      ⊢ |={Set.univ}=> iprop(bigSep Finset.univ (fun sm : SemLoc sig => iprop(∃ κ : ℕ, cellInv ER (Rd m) κ ((d : Thread nD τ), sm))) ∗ Rest d) := by
  have hinv : iprop(bigSep Finset.univ (fun sm : SemLoc sig => semVal ((d : Thread nD τ), sm) 0) ∗ bigSep Finset.univ (fun sm : SemLoc sig => roundState ER (Rd m) ((d : Thread nD τ), sm) 0))
      ⊢ (|={Set.univ}=> bigSep Finset.univ (fun sm : SemLoc sig => iprop(∃ κ : ℕ, cellInv ER (Rd m) κ ((d : Thread nD τ), sm))) : sProp 𝕄) := by
    rw [← BI.bigSep_sep']
    exact (bigSep_mono fun sm _ => (Rounds.body_intro ER (Rd m) _).trans inv_alloc).trans (bigSep_fupd _ _)
  unfold G Rest
  iintro ⟨Ho, Hu, Hst, Hr⟩
  ihave Hv := (Entails.of_eq (sems_all d)) $$ [Ho Hu]
  · isplitl [Ho] <;> iassumption
  imod hinv $$ [Hv Hst] with HI
  · isplitl [Hv] <;> iassumption
  imodintro
  isplitl [HI]; · iexact HI
  iexact Hr

/-- What a device starts with of the ghost state: its positions, its tokens and its neighbours' tokens it uses. -/
noncomputable def Mine (d : Dev nD) : sProp 𝕄 :=
  iprop(bigSep Finset.univ (fun sm : SemLoc sig => atPos ER ((d : Thread nD τ), sm) 0 ∅ 0) ∗ TO d ∗ TY (yn d) ∗ WY (yn d) ∗ TX (xn d) ∗ TZ (zn d) ∗ RO d ∗ WO d)
noncomputable def G' (d : Dev nD) : sProp 𝕄 := iprop(∃ K Ks, recs0 m K Ks ∗ Mine d)

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← BI.bigSep_sep']
  exact bigSep_mono h

theorem mine_all :
    iprop(bigSep Finset.univ (fun d : Dev nD => bigSep Finset.univ (fun sm : SemLoc sig => atPos ER ((d : Thread nD τ), sm) 0 ∅ 0)) ∗ bigSep Finset.univ (fun d : Dev nD => TT d)
      ∗ bigSep Finset.univ (fun d : Dev nD => RO d) ∗ bigSep Finset.univ (fun d : Dev nD => WY d) ∗ bigSep Finset.univ (fun d : Dev nD => WO d))
      ⊢ (bigSep Finset.univ (fun d : Dev nD => Mine d) : sProp 𝕄) := by
  have hT : (bigSep Finset.univ (fun d : Dev nD => TT d) : sProp 𝕄) ⊢ bigSep Finset.univ (fun d : Dev nD => iprop(TO d ∗ TY d ∗ TX d ∗ TZ d)) :=
    bigSep_mono (fun d _ => TT_deal d)
  have eY : (bigSep Finset.univ (fun d : Dev nD => TY d) : sProp 𝕄) = bigSep Finset.univ (fun d : Dev nD => TY (yn d)) := bigSep_univ_equiv yE _
  have eX : (bigSep Finset.univ (fun d : Dev nD => TX d) : sProp 𝕄) = bigSep Finset.univ (fun d : Dev nD => TX (xn d)) := bigSep_univ_equiv xE _
  have eZ : (bigSep Finset.univ (fun d : Dev nD => TZ d) : sProp 𝕄) = bigSep Finset.univ (fun d : Dev nD => TZ (zn d)) := bigSep_univ_equiv zE _
  have eW : (bigSep Finset.univ (fun d : Dev nD => WY d) : sProp 𝕄) = bigSep Finset.univ (fun d : Dev nD => WY (yn d)) := bigSep_univ_equiv yE _
  unfold Mine
  rw [eW]
  rw [BI.bigSep_sep', BI.bigSep_sep', BI.bigSep_sep', BI.bigSep_sep', BI.bigSep_sep', BI.bigSep_sep', BI.bigSep_sep']
  rw [BI.bigSep_sep', BI.bigSep_sep', BI.bigSep_sep', eY, eX, eZ] at hT
  iintro ⟨Hat, HT, HR, HW, HWO⟩
  ihave HT := hT $$ HT
  icases HT with ⟨HO, HY, HX, HZ⟩
  iframe

theorem regroup :
    (bigSep Finset.univ (fun d : Dev nD => iprop(bigSep Finset.univ (fun sm : SemLoc sig => iprop(∃ κ : ℕ, cellInv ER (Rd m) κ ((d : Thread nD τ), sm))) ∗ Rest d)) : sProp 𝕄)
      ⊢ bigSep Finset.univ (G' m) := by
  have hI : (bigSep Finset.univ (fun _ : Dev nD => slotsI) : sProp 𝕄) ⊢ slotsI := bigSep_elim (Φ := fun _ : Dev nD => (slotsI : sProp 𝕄)) (Finset.mem_univ (⟨0, by decide⟩ : Dev nD))
  unfold Rest
  rw [BI.bigSep_sep', BI.bigSep_sep', BI.bigSep_sep', BI.bigSep_sep', BI.bigSep_sep', BI.bigSep_sep', BI.bigSep_sep',
    ← bigSep_univ_prod (fun p : Dev nD × SemLoc sig => iprop(∃ κ : ℕ, cellInv ER (Rd m) κ ((p.1 : Thread nD τ), p.2))),
    ← bigSep_univ_prod (fun p : Dev nD × SemLoc sig => (reached ER ((p.1 : Thread nD τ), p.2) 0 : sProp 𝕄))]
  iintro ⟨HI, #HR, Hat, HT, HRO, ⟨HWY, HWO⟩, HS⟩
  ihave HS := hI $$ HS
  unfold slotsI
  icases HS with ⟨%Ks, #HS⟩
  ihave HK := (BI.bigSep_exists_pi Finset.univ (fun (p : Dev nD × SemLoc sig) (κ : ℕ) => (cellInv ER (Rd m) κ ((p.1 : Thread nD τ), p.2) : sProp 𝕄))) $$ HI
  icases HK with ⟨%κ, #HI⟩
  have hG (d : Dev nD) : iprop(recs0 m (fun g => κ (g.1.1, g.2)) Ks ∗ Mine d) ⊢ G' m d := by
    unfold G'
    iintro ⟨H1, H2⟩
    iexists (fun g => κ (g.1.1, g.2))
    iexists Ks
    isplitl [H1] <;> iassumption
  iapply (with_records (R := recs0 m (fun g => κ (g.1.1, g.2)) Ks) (fun d _ => hG d))
  isplitr
  · unfold recs0
    rw [BI.bigSep_sep']
    isplitl
    · isplitl; · iexact HI
      iexact HR
    iexact HS
  iapply (mine_all (F := F))
  isplitl [Hat]; · iexact Hat
  isplitl [HT]; · iexact HT
  isplitl [HRO]; · iexact HRO
  isplitl [HWY] <;> iassumption

/-- Every device's semaphores, all at once. -/
theorem glob : (bigSep Finset.univ (fun d : Dev nD => iprop(Pipeline.ownSems0 (Ix := ℕ) (Name := ℕ) (U := UU) (Lvl := ℕ) (Val := Elt F) (τ := τ) osem d ∗ unscopedSems0 d ∗ G m d)) : sProp 𝕄)
    ⊢ |={Set.univ}=> bigSep Finset.univ (G' m) :=
  ((bigSep_mono fun d _ => core_alloc m d).trans (bigSep_fupd _ _)).trans (BI.fupd_mono (regroup m))

end Cert.KernelIdeal.Hand

end
-- ==== Proof.Start.lean ====
/-
# The start

From what the launch deals a device to what the kernel's body starts with.
-/
module

public import proofs.«01_k».proof.Proof.Glob

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-! ## The credits -/

/-- What the other devices owe device `d`: its credits at the start. -/
noncomputable def crA (d : Dev nD) (j : ℕ) : sProp 𝕄 :=
  iprop(crN d 1 j NY ∗ crN d 3 j NY ∗ crN d 5 j NY ∗ crN d 7 j NH ∗ crN d 9 j NH)
noncomputable def Creds (d : Dev nD) : sProp 𝕄 :=
  iprop(cred (tallyAt (cB d) 0 3) ∗ bigSep (Finset.range 16) (fun j => crA d j)
    ∗ bigSep (Finset.Ico 0 14) (fun i => cred (tallyAt (cC d) i 1)) ∗ cred (tallyAt (cC d) 14 2))

theorem cred_chunk (d : Dev nD) (j : ℕ) :
    (Pipeline.launchCred (fun d => ow d 0 j) d : sProp 𝕄) ⊢ iprop(crA d j ∗ cred (tallyAt (cC d) (min j 14) 1)) := by
  have e : (fun d : Dev nD => ow d 0 j) = fun d => tallyAt (cA (yn d) 1 j) 0 NY + tallyAt (cC (yn d)) (min j 14) 1 + tallyAt (cA (zn d) 3 j) 0 NY
      + tallyAt (cA (xn d) 5 j) 0 NY + tallyAt (cA (xn d) 7 j) 0 NH + tallyAt (cA (zn d) 9 j) 0 NH := by
    funext d
    unfold ow
    simp only [Nat.reduceLT, ↓reduceIte]
  rw [e, Pipeline.launchCred_add (fun d => tallyAt (cA (yn d) 1 j) 0 NY + tallyAt (cC (yn d)) (min j 14) 1 + tallyAt (cA (zn d) 3 j) 0 NY + tallyAt (cA (xn d) 5 j) 0 NY + tallyAt (cA (xn d) 7 j) 0 NH),
    Pipeline.launchCred_add (fun d => tallyAt (cA (yn d) 1 j) 0 NY + tallyAt (cC (yn d)) (min j 14) 1 + tallyAt (cA (zn d) 3 j) 0 NY + tallyAt (cA (xn d) 5 j) 0 NY),
    Pipeline.launchCred_add (fun d => tallyAt (cA (yn d) 1 j) 0 NY + tallyAt (cC (yn d)) (min j 14) 1 + tallyAt (cA (zn d) 3 j) 0 NY),
    Pipeline.launchCred_add (fun d => tallyAt (cA (yn d) 1 j) 0 NY + tallyAt (cC (yn d)) (min j 14) 1),
    Pipeline.launchCred_add (fun d => tallyAt (cA (yn d) 1 j) 0 NY)]
  unfold crA
  iintro ⟨⟨⟨⟨⟨H1, HC⟩, H3⟩, H5⟩, H7⟩, H9⟩
  ihave H1 := (Pipeline.launchCred_tallyAt (.dma (dsem 1 j)) yn yn yn_yn yn_yn 0 NY d) $$ H1
  ihave HC := (Pipeline.launchCred_tallyAt (.reg crsem) yn yn yn_yn yn_yn (min j 14) 1 d) $$ HC
  ihave H3 := (Pipeline.launchCred_tallyAt (.dma (dsem 3 j)) zn zn zn_zn zn_zn 0 NY d) $$ H3
  ihave H5 := (Pipeline.launchCred_tallyAt (.dma (dsem 5 j)) xn xn xn_xn xn_xn 0 NY d) $$ H5
  ihave H7 := (Pipeline.launchCred_tallyAt (.dma (dsem 7 j)) xn xn xn_xn xn_xn 0 NH d) $$ H7
  ihave H9 := (Pipeline.launchCred_tallyAt (.dma (dsem 9 j)) zn zn zn_zn zn_zn 0 NH d) $$ H9
  iframe

theorem cred_slots (d : Dev nD) : (bigSep (Finset.range 16) (fun j => cred (tallyAt (cC d) (min j 14) 1)) : sProp 𝕄)
    ⊢ iprop(bigSep (Finset.Ico 0 14) (fun i => cred (tallyAt (cC d) i 1)) ∗ cred (tallyAt (cC d) 14 2)) := by
  have e : (bigSep (Finset.range 14) (fun j => cred (tallyAt (cC d) (min j 14) 1)) : sProp 𝕄) = bigSep (Finset.Ico 0 14) (fun i => cred (tallyAt (cC d) i 1)) := by
    rw [Finset.range_eq_Ico]
    exact bigSep_congr (fun j hj => by rw [min_eq_left (by have := (Finset.mem_Ico.mp hj).2; omega)])
  have h2 : iprop(cred (tallyAt (cC d) 14 1) ∗ cred (tallyAt (cC d) 14 1)) ⊢ (cred (tallyAt (cC d) 14 2) : sProp 𝕄) := by
    refine (cred_add _ _).2.trans (Entails.of_eq ?_)
    rw [tallyAt_add]
  rw [Finset.range_add_one, bigSep_insert Finset.notMem_range_self, Finset.range_add_one, bigSep_insert Finset.notMem_range_self, e]
  show iprop(cred (tallyAt (cC d) 14 1) ∗ cred (tallyAt (cC d) 14 1) ∗ bigSep (Finset.Ico 0 14) (fun i => cred (tallyAt (cC d) i 1))) ⊢ _
  iintro ⟨H0, H1, H⟩
  isplitl [H]; · iexact H
  iapply h2
  isplitl [H0] <;> iassumption

theorem creds (d : Dev nD) : (Pipeline.launchCred O0 d : sProp 𝕄) ⊢ Creds d := by
  have e : (O0 : Dev nD → CellTallies nD τ sig ℕ) = fun d => (∑ j ∈ Finset.range 16, ow d 0 j) + tallyAt (cB (zn d)) 0 1 + tallyAt (cB (yn d)) 0 1 + tallyAt (cB (xn d)) 0 1 := rfl
  have h3 : iprop(cred (tallyAt (cB d) 0 1) ∗ cred (tallyAt (cB d) 0 1) ∗ cred (tallyAt (cB d) 0 1)) ⊢ (cred (tallyAt (cB d) 0 3) : sProp 𝕄) := by
    refine (BI.sep_mono_r (cred_add _ _).2).trans ((cred_add _ _).2.trans (Entails.of_eq ?_))
    rw [tallyAt_add, tallyAt_add]
  have hc : (bigSep (Finset.range 16) (fun j => Pipeline.launchCred (fun d => ow d 0 j) d) : sProp 𝕄) ⊢ bigSep (Finset.range 16) (fun j => iprop(crA d j ∗ cred (tallyAt (cC d) (min j 14) 1))) :=
    bigSep_mono (fun j _ => cred_chunk d j)
  rw [BI.bigSep_sep'] at hc
  rw [e, Pipeline.launchCred_add (fun d => (∑ j ∈ Finset.range 16, ow d 0 j) + tallyAt (cB (zn d)) 0 1 + tallyAt (cB (yn d)) 0 1),
    Pipeline.launchCred_add (fun d => (∑ j ∈ Finset.range 16, ow d 0 j) + tallyAt (cB (zn d)) 0 1), Pipeline.launchCred_add (fun d => ∑ j ∈ Finset.range 16, ow d 0 j),
    Pipeline.launchCred_sum (Finset.range 16) (fun j d => ow d 0 j)]
  unfold Creds
  iintro ⟨⟨⟨H, Hz⟩, Hy⟩, Hx⟩
  ihave Hz := (Pipeline.launchCred_tallyAt (.reg basem) zn zn zn_zn zn_zn 0 1 d) $$ Hz
  ihave Hy := (Pipeline.launchCred_tallyAt (.reg basem) yn yn yn_yn yn_yn 0 1 d) $$ Hy
  ihave Hx := (Pipeline.launchCred_tallyAt (.reg basem) xn xn xn_xn xn_xn 0 1 d) $$ Hx
  ihave H := hc $$ H
  icases H with ⟨HA, HC⟩
  isplitl [Hx Hy Hz]
  · iapply h3
    isplitl [Hx]; · iexact Hx
    isplitl [Hy] <;> iassumption
  isplitl [HA]; · iexact HA
  iapply (cred_slots d)
  iexact HC

/-! ## The buffers -/

/-- The operands and the result as the body takes them. -/
noncomputable def Args (d : Dev nD) : sProp 𝕄 :=
  iprop(dyArg m d ∗ bigSep (Finset.range 16) (fun j => wArg m d j) ∗ bigSep (Finset.range 16) (fun j => outAny d (bown d) j) ∗ give d)
/-- The gradient rows of the other row blocks, which the kernel does not touch. -/
noncomputable def Far (d : Dev nD) : sProp 𝕄 :=
  iprop((d : Thread nD τ).loc main_arg0 ↦[Finset.univ \ (dyV (bown d)).view.set]{fullShare} m ((d : Thread nD τ).loc main_arg0))
theorem dy_split (d : Dev nD) : (iprop((d : Thread nD τ).loc main_arg0 ↦{fullShare} m ((d : Thread nD τ).loc main_arg0)) : sProp 𝕄) ⊣⊢ iprop(dyArg m d ∗ Far m d) := by
  unfold dyArg Far
  exact pointsTo_split_subset (Finset.subset_univ _)
theorem args (d : Dev nD) :
    iprop(((d : Thread nD τ).loc main_arg0 ↦{fullShare} m ((d : Thread nD τ).loc main_arg0)) ∗ ((d : Thread nD τ).loc main_arg1 ↦{fullShare} m ((d : Thread nD τ).loc main_arg1))
      ∗ ((d : Thread nD τ).loc main_v1 ↦{fullShare} m ((d : Thread nD τ).loc main_v1))) ⊢ (iprop(Args m d ∗ Far m d) : sProp 𝕄) := by
  unfold Args
  rw [wArg_all]
  iintro ⟨H0, H1, H2⟩
  ihave H0 := (dy_split m d).1 $$ H0
  icases H0 with ⟨H0, HF⟩
  ihave H2 := (outAny_all d _) $$ H2
  iframe
/-- The scratch buffers. -/
noncomputable def Scr (d : Dev nD) : sProp 𝕄 :=
  iprop((∃ f, (d : Thread nD τ).loc cc0_scratch0 ↦{fullShare} f) ∗ (∃ f, (d : Thread nD τ).loc cc0_scratch1 ↦{fullShare} f)
    ∗ (∃ f, (d : Thread nD τ).loc cc0_scratch2 ↦{fullShare} f) ∗ (∃ f, (d : Thread nD τ).loc cc0_scratch3 ↦{fullShare} f))

/-! ## The entry -/

theorem pre_one (d : Dev nD) (j : ℕ) :
    iprop(bigSep (Finset.range 10) (fun a => at0 d a j) ∗ (tokA d 0 j ∗ tokA d 2 j ∗ tokA d 4 j ∗ tokA d 6 j ∗ tokA d 8 j)
      ∗ (tokA (yn d) 1 j ∗ dutyTok ER (cC (yn d)) 0 j) ∗ writeTok ES (key (yn d) j) (j / 2 + 1) ∗ (tokA (xn d) 5 j ∗ tokA (xn d) 7 j) ∗ (tokA (zn d) 3 j ∗ tokA (zn d) 9 j)
      ∗ dutyTok ER (cS d j) (j / 2) 0 ∗ crA d j ∗ outAny d (bown d) j) ⊢ (iprop(Pre d j ∗ Gd m d 0 j) : sProp 𝕄) := by
  simp only [ten, Pre, Gd, crA, Nat.reduceLT, ↓reduceIte]
  iintro ⟨⟨A0, A1, A2, A3, A4, A5, A6, A7, A8, A9⟩, ⟨T0, T2, T4, T6, T8⟩, ⟨T1, TC⟩, TW, ⟨T5, T7⟩, ⟨T3, T9⟩, TS, ⟨C1, C3, C5, C7, C9⟩, HO⟩
  isplitr [A2 A4]
  · isplitl [A0 T0 T1 TW]; · iframe
    isplitl [A1 C1]; · iframe
    iframe
  isplitl [A2]; · iexact A2
  isplitl [A4]; · iexact A4
  iempintro
theorem pre_all (d : Dev nD) :
    iprop(bigSep (Finset.range 16) (fun j => bigSep (Finset.range 10) (fun a => at0 d a j)) ∗ bigSep (Finset.range 16) (fun j => iprop(tokA d 0 j ∗ tokA d 2 j ∗ tokA d 4 j ∗ tokA d 6 j ∗ tokA d 8 j))
      ∗ bigSep (Finset.range 16) (fun j => iprop(tokA (yn d) 1 j ∗ dutyTok ER (cC (yn d)) 0 j)) ∗ WY (yn d) ∗ bigSep (Finset.range 16) (fun j => iprop(tokA (xn d) 5 j ∗ tokA (xn d) 7 j))
      ∗ bigSep (Finset.range 16) (fun j => iprop(tokA (zn d) 3 j ∗ tokA (zn d) 9 j)) ∗ bigSep (Finset.range 16) (fun j => dutyTok ER (cS d j) (j / 2) 0)
      ∗ bigSep (Finset.range 16) (fun j => crA d j) ∗ bigSep (Finset.range 16) (fun j => outAny d (bown d) j))
      ⊢ (iprop(bigSep (Finset.range 16) (fun j => Pre d j) ∗ Gs m d (fun _ => 0)) : sProp 𝕄) := by
  unfold WY Gs
  rw [← BI.bigSep_sep', ← BI.bigSep_sep', ← BI.bigSep_sep', ← BI.bigSep_sep', ← BI.bigSep_sep', ← BI.bigSep_sep', ← BI.bigSep_sep', ← BI.bigSep_sep', ← BI.bigSep_sep']
  exact bigSep_mono (fun j _ => pre_one m d j)

theorem wch_start (d : Dev nD) : iprop(bigSep (Finset.range 16) (fun j => dutyTok ER (cW d j) (j / 2) 0) ∗ bigSep (Finset.range 16) (fun j => wArg m d j)) = (Wch m d 0 0 : sProp 𝕄) := by
  rw [← BI.bigSep_sep']
  unfold Wch
  exact bigSep_congr (fun j _ => by rw [if_neg (by omega), if_neg (by omega)])
theorem pos_start (q : ℕ → DmaSem sig) (d : Dev nD) :
    iprop(recs m K Ks ∗ atPos ER (cD d (q 0)) 0 ∅ 0 ∗ atPos ER (cD d (q 1)) 0 ∅ 0) ⊢ (Pos q d 0 : sProp 𝕄) := by
  unfold Pos
  iintro ⟨#HR, H0, H1⟩
  ihave R0 := (recs_cell m K Ks d (.dma (q 0))) $$ HR
  ihave R1 := (recs_cell m K Ks d (.dma (q 1))) $$ HR
  icases R0 with ⟨-, R0⟩
  icases R1 with ⟨-, R1⟩
  isplitl [H0 R0]
  · isplitl [H0] <;> iassumption
  isplitl [H1] <;> iassumption

/-- What a device has when it enters the kernel. -/
noncomputable def Begin (d : Dev nD) : sProp 𝕄 := iprop(recs m K Ks ∗ Mine d ∗ Creds d ∗ Args m d ∗ Scr d)
theorem begin_entry (d : Dev nD) : iprop(Begin m K Ks d ∗ Ow d (O0 d)) ⊢ (iprop(Entry m K Ks d ∗ WO d) : sProp 𝕄) := by
  unfold Begin Mine Creds Args Scr TO TY TX TZ RO
  rw [all_sems]
  iintro ⟨⟨#HR, ⟨⟨HA, Aw0, Aw1, As0, As1, Ad, Ab, Ac⟩, ⟨T0, TW, TS, TD⟩, ⟨TY, TB1⟩, HWY, ⟨TX, TB0⟩, ⟨TZ, TB2⟩, HRO, HWO⟩, ⟨CB, CA, CI, CL⟩, ⟨Hdy, Hwa, Hout, Hgive⟩, ⟨S0, S1, S2, S3⟩⟩, HO⟩
  ihave HP := (pre_all m d) $$ [HA T0 TY HWY TX TZ TS CA Hout]
  · isplitl [HA]; · iexact HA
    isplitl [T0]; · iexact T0
    isplitl [TY]; · iexact TY
    isplitl [HWY]; · iexact HWY
    isplitl [TX]; · iexact TX
    isplitl [TZ]; · iexact TZ
    isplitl [TS]; · iexact TS
    isplitl [CA] <;> iassumption
  icases HP with ⟨HP, HG⟩
  ihave HW := (Entails.of_eq (wch_start m d)) $$ [TW Hwa]
  · isplitl [TW] <;> iassumption
  ihave HPw := (pos_start m K Ks wsem d) $$ [Aw0 Aw1]
  · isplitr; · iexact HR
    isplitl [Aw0] <;> iassumption
  ihave HPs := (pos_start m K Ks ssem d) $$ [As0 As1]
  · isplitr; · iexact HR
    isplitl [As0] <;> iassumption
  ihave S1 := (wv_split d) $$ S1
  ihave S2 := (pc_split d) $$ S2
  ihave S3 := (yr_split d) $$ S3
  icases S1 with ⟨W0, W1⟩
  icases S2 with ⟨P0, P1⟩
  isplitr [HWO]; swap; · iexact HWO
  unfold Entry barS yrS locS crS
  isplitr; · iexact HR
  isplitl [HO]; · iexact HO
  isplitl [Ab CB TB0 TB1 TB2]; · iframe
  isplitl [HRO S3]
  · isplitl [HRO]; · iexact HRO
    iexact S3
  isplitl [HP]; · iexact HP
  isplitl [HG]; · iexact HG
  isplitl [Hgive]; · iexact Hgive
  isplitr [Ac CI CL]
  · isplitl [Ad TD Hdy S0]; · iframe
    iframe
  iframe

end Cert.KernelIdeal.Hand

end
-- ==== Proof.Body.lean ====
/-
# A device's run

The parts put together: from what a device starts with to what it is left with.
-/
module

public import proofs.«01_k».proof.Proof.Entry

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-- What is left when every chunk is round and the credits are still out. -/
noncomputable def Late (d : Dev nD) : sProp 𝕄 :=
  iprop(recs m K Ks ∗ St m d (sg 16 1 16 16 16) ∗ Gs m d (gm 16 4 3) ∗ Pos wsem d 16 ∗ Wch m d 17 16 ∗ wvAny d 17 ∗ wx d 16 ∗ Pos ssem d 15 ∗ pcAny d 14
    ∗ dvP m d ∗ Cr d 14 ∗ Rdr d 16 ∗ semVal (cD d dysem) 0 ∗ semVal (cB d) 0 ∗ dyArg m d)
/-- What is left at the end. -/
noncomputable def Exit (d : Dev nD) : sProp 𝕄 :=
  iprop(recs m K Ks ∗ St m d (sg 16 1 16 16 16) ∗ Gs m d (gm 16 4 4) ∗ Pos wsem d 16 ∗ Wch m d 17 16 ∗ wvAny d 17 ∗ wx d 16 ∗ Pos ssem d 16 ∗ (pcAny d 14 ∗ pcAny d 15)
    ∗ dvP m d ∗ semVal (cC d) 0 ∗ Rdr d 16 ∗ semVal (cD d dysem) 0 ∗ semVal (cB d) 0 ∗ dyArg m d)

theorem St_tail (d : Dev nD) : St m d (sg 16 0 1 8 12) = St m d (sg 16 1 1 8 12) := St_congr m d _ _ (fun j _ => by unfold sg; split_ifs <;> omega)

/-- After the loop, up to the last guards. -/
theorem part16 (d : Dev nD) :
    Entry m K Ks d ⊢ WP d (k0_part16 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) (fun r => iprop(⌜r = d⌝ ∗ Late m K Ks d)) := by
  rw [k0_part16_eq_skeleton]
  unfold k0_part16_skel
  simp only [semSignalWord, semWaitWord, Prog.lift, Prog.bind_op, Prog.bind_ret, Prog.pure_eq_ret]
  iintro HE
  iapply (WP_bind (part6 m K Ks d)) $$ HE
  iintro %r ⟨%h, HM⟩
  obtain ⟨v2, v5, v8, v17, v18, v19, v31, c2, rfl⟩ := h
  iapply (WP_then (part7 m K Ks d v2 v5 v8 v17 v18 v19 v31 c2)) $$ HM
  iintro %_ HA
  unfold After Inv
  icases HA with ⟨⟨#HR, HS, HG, HPw, HW, Hwv, Hwx, HPs, -, Hdv, HC, HRd⟩, Hdz, Hbz, Hdy⟩
  ihave HS := (Entails.of_eq (St_tail m d)) $$ HS
  ihave HPs := (Pos_reached ssem ssem_mod d 14) $$ HPs
  icases HPs with ⟨⟨-, #Hre⟩, HPs⟩
  iapply (WP_then (tail8 m K Ks d v2 v8 v17)) $$ [HS HRd]
  · isplitr; · iexact HR
    isplitl [HS]; · iexact HS
    iexact HRd
  iintro %_ ⟨HS, HRd⟩
  iapply (WP_then (tail9 m K Ks d v2 v5 v8 v18 v19)) $$ [HS HG]
  · isplitr; · iexact HR
    isplitl [HS]; · iexact HS
    isplitr; · iexact Hre
    iexact HG
  iintro %v113 ⟨HS, HG⟩
  iapply (WP_then (tail10 m K Ks d v5 v8 v18 v19 v113)) $$ [HS]
  · isplitr; · iexact HR
    iexact HS
  iintro %_ HS
  iapply (WP_then (tail11 m K Ks d v2 v5 v8 v18 v19)) $$ [HS]
  · isplitr; · iexact HR
    iexact HS
  iintro %_ HS
  iapply (WP_then (tail12 m K Ks d v2 v5 v8 v18 v19)) $$ [HS]
  · isplitr; · iexact HR
    iexact HS
  iintro %_ HS
  iapply (WP_then (tail13 m K Ks d v2 v5 v8 v18 v19)) $$ [HS]
  · isplitr; · iexact HR
    iexact HS
  iintro %_ HS
  iapply (WP_then (tail14 m K Ks d v2 v5 v8 v18 v19)) $$ [HS]
  · isplitr; · iexact HR
    iexact HS
  iintro %_ HS
  iapply (WP_then (tail15 m K Ks d v2 v5 v18)) $$ [HS HG]
  · isplitr; · iexact HR
    isplitl [HS]; · iexact HS
    iexact HG
  iintro %_ ⟨HS, HG⟩
  iapply (Gs_x1sd m K Ks 14 (by omega) (gmX rfl) (gmX' rfl) (x1sd_at 14 rfl _) (crY _)) $$ [HS HG]
  · isplitr [HG]
    · isplitr; · iexact HR
      iexact HS
    iexact HG
  iintro ⟨HS, HG⟩
  iapply (Gs_store m K Ks 14 (by omega) (gmX rfl) (gmX' rfl) (ssem_at 14 rfl _) (crO _)) $$ [HS HG HPs]
  · isplitr [HG]
    · isplitr; · iexact HR
      isplitl [HS] <;> iassumption
    iexact HG
  iintro ⟨⟨HS, HPs, Hp14⟩, HG⟩
  iapply (Gs_z1sd m K Ks 15 (by omega) (gmY rfl) (gmY' rfl) (z1sd_at 15 rfl _) (crY _)) $$ [HS HG]
  · isplitr [HG]
    · isplitr; · iexact HR
      iexact HS
    iexact HG
  iintro ⟨HS, HG⟩
  iapply (Gs_x1sd m K Ks 15 (by omega) (gmY rfl) (gmY' rfl) (x1sd_at 15 rfl _) (crY _)) $$ [HS HG]
  · isplitr [HG]
    · isplitr; · iexact HR
      iexact HS
    iexact HG
  iintro ⟨HS, HG⟩
  unfold WP
  rw [wp_ret]
  imodintro
  isplitr; · ipureintro; rfl
  unfold Late
  isplitr; · iexact HR
  iframe

/-- The whole body. -/
theorem body (d : Dev nD) : Entry m K Ks d ⊢ WP d (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) (fun _ => Exit m K Ks d) := by
  rw [cc0_body_eq_skeleton]
  unfold cc0_body_skel
  simp only [semSignalWord, semWaitWord, Prog.lift, Prog.bind_op, Prog.bind_ret, Prog.pure_eq_ret]
  iintro HE
  iapply (WP_bind (part16 m K Ks d)) $$ HE
  iintro %r ⟨%h, HL⟩
  subst h
  unfold Late
  icases HL with ⟨#HR, HS, HG, HPw, HW, Hwv, Hwx, HPs, Hp14, Hdv, HC, HRd, Hdz, Hbz, Hdy⟩
  iapply (Gs_store m K Ks 15 (by omega) (gmY rfl) (gmY' rfl) (ssem_at 15 rfl _) (crO _)) $$ [HS HG HPs]
  · isplitr [HG]
    · isplitr; · iexact HR
      isplitl [HS] <;> iassumption
    iexact HG
  iintro ⟨⟨HS, HPs, Hp15⟩, HG⟩
  iapply (Cr_last m K Ks (ok_end (b := 16) (e := 16) (f := 16) _ (by omega) (by omega) (by omega)) rfl) $$ [HS HC]
  · isplitr; · iexact HR
    isplitl [HS] <;> iassumption
  iintro ⟨HS, Hcz⟩
  unfold WP
  rw [wp_ret]
  imodintro
  unfold Exit
  isplitr; · iexact HR
  iframe

end Cert.KernelIdeal.Hand

end
-- ==== Proof.Leave.lean ====
/-
# Leaving

A device that has run its body takes its receive slots back and closes its semaphores: every semaphore is at zero, the
operands are as they were, the result holds its contents and the scratch buffers are whole.
-/
module

public import proofs.«01_k».proof.Proof.Body
public import proofs.«01_k».proof.Proof.Pieces

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

/-- A semaphore of which every round has been waited for is at zero. -/
theorem close_cell (d : Dev nD) (sm : SemLoc sig) {R : ℕ} (hR : ∀ r, R ≤ r → (Rd m).duties ((d : Thread nD τ), sm) r = ∅) :
    iprop(recs m K Ks ∗ atPos ER ((d : Thread nD τ), sm) R ∅ 0) ⊢ (|={Set.univ}=> semVal ((d : Thread nD τ), sm) 0 : sProp 𝕄) := by
  iintro ⟨#HR, Hat⟩
  ihave H := (recs_cell m K Ks d sm) $$ HR
  icases H with ⟨H, -⟩
  iapply (Rounds.cell_close ER (Rd m) (Set.mem_univ (K ((d : Thread nD τ), sm))) (fun h => h) hR) $$ [Hat]
  isplitr; · iexact H
  iexact Hat
/-- A receive slot freed for the ninth time is the device's again. -/
theorem take_slot (d : Dev nD) (j : ℕ) :
    iprop(recs m K Ks ∗ released ES (key d j) 9 ∗ writeTok ES (key d j) 9) ⊢ (|={Set.univ}=> yrAny d j : sProp 𝕄) := by
  iintro ⟨#HR, Hr, Hw⟩
  ihave H := (recs_slot m K Ks d j) $$ HR
  iapply (slot_take ES (Set.mem_univ _) 9) $$ [Hr Hw]
  isplitr; · iexact H
  isplitl [Hr] <;> iassumption

/-- A chunk at its end: its semaphores at zero but those of the two sends of the reduced slot, and its windows of the
    result but the device's own. -/
theorem Stg_end (d : Dev nD) (j : ℕ) : (Stg m d 16 j : sProp 𝕄) ⊢ iprop((done d 0 j ∗ done d 1 j ∗ done d 3 j ∗ done d 5 j ∗ done d 6 j ∗ done d 7 j ∗ done d 8 j ∗ done d 9 j)
      ∗ outP m d (bz d) j ∗ outP m d (bx d) j ∗ outP m d (bd d) j) := by
  have h := (outP_halves m d (bd d) j).2
  simp only [Stg, Nat.reduceLT, ↓reduceIte]
  iintro ⟨H0, H1, -, -, -, -, -, H3, H6, Hz, H5, H8, Hx, ⟨H7, Ha⟩, ⟨H9, Hb⟩⟩
  ihave Hd := h $$ [Ha Hb]
  · isplitl [Ha] <;> iassumption
  iframe
theorem Gd_end (d : Dev nD) (j : ℕ) : (Gd m d 4 j : sProp 𝕄) ⊢ iprop((done d 2 j ∗ done d 4 j) ∗ outP m d (bown d) j) := by
  simp only [Gd, Nat.reduceLT, ↓reduceIte]
  iintro ⟨H2, H4, H⟩
  iframe

/-- All chunks at their end: the entries of the arrays at zero, and the whole result. -/
theorem chunks_end (d : Dev nD) :
    iprop(bigSep (Finset.range 16) (fun j => Stg m d 16 j) ∗ bigSep (Finset.range 16) (fun j => Gd m d 4 j))
      ⊢ (iprop(bigSep (Finset.range 16) (fun j => bigSep (Finset.range 10) (fun a => semVal (cA d a j) 0))
        ∗ (d : Thread nD τ).loc main_v1 ↦{fullShare} outBuf m (yy d)) : sProp 𝕄) := by
  rw [← outP_all m d, ← BI.bigSep_sep', ← BI.bigSep_sep', ← BI.bigSep_sep', ← BI.bigSep_sep', ← BI.bigSep_sep']
  refine bigSep_mono (fun j _ => ?_)
  show iprop(Stg m d 16 j ∗ Gd m d 4 j) ⊢ _
  rw [ten]
  iintro ⟨HS, HG⟩
  ihave HS := (Stg_end m d j) $$ HS
  ihave HG := (Gd_end m d j) $$ HG
  icases HS with ⟨⟨H0, H1, H3, H5, H6, H7, H8, H9⟩, Hz, Hx, Hd⟩
  icases HG with ⟨⟨H2, H4⟩, Ho⟩
  iframe

/-- What a device leaves with. -/
noncomputable def Final (d : Dev nD) : sProp 𝕄 :=
  iprop(bigSep Finset.univ (fun sm : SemLoc sig => semVal ((d : Thread nD τ), sm) 0) ∗ Ow d 0 ∗ dyArg m d
    ∗ ((d : Thread nD τ).loc main_arg1 ↦{fullShare} m ((d : Thread nD τ).loc main_arg1))
    ∗ ((d : Thread nD τ).loc main_v1 ↦{fullShare} outBuf m (yy d))
    ∗ (∃ f, (d : Thread nD τ).loc cc0_scratch0 ↦{fullShare} f) ∗ (∃ f, (d : Thread nD τ).loc cc0_scratch1 ↦{fullShare} f)
    ∗ (∃ f, (d : Thread nD τ).loc cc0_scratch2 ↦{fullShare} f) ∗ (∃ f, (d : Thread nD τ).loc cc0_scratch3 ↦{fullShare} f))

theorem St_final (d : Dev nD) : (St m d (sg 16 1 16 16 16) : sProp 𝕄) = iprop(bigSep (Finset.range 16) (fun j => Stg m d 16 j) ∗ Ow d 0) := by
  rw [St_congr m d _ (fun _ => 16) (fun j hj => by unfold sg; split_ifs <;> omega)]
  unfold St
  congr 2
  unfold owS ow
  simp only [Nat.reduceLT, ↓reduceIte, add_zero, Finset.sum_const_zero]
theorem Gs_final (d : Dev nD) : (Gs m d (gm 16 4 4) : sProp 𝕄) = bigSep (Finset.range 16) (fun j => Gd m d 4 j) := by
  rw [Gs_congr m d _ (fun _ => 4) (fun j hj => by unfold gm; split_ifs <;> omega)]
  rfl
theorem Wch_final (d : Dev nD) : (Wch m d 17 16 : sProp 𝕄) = iprop((d : Thread nD τ).loc main_arg1 ↦{fullShare} m ((d : Thread nD τ).loc main_arg1)) := by
  rw [← wArg_all]
  unfold Wch
  exact bigSep_congr (fun j hj => by rw [if_pos (Finset.mem_range.mp hj)])

/-- A device that has run its body can leave. -/
theorem leave (d : Dev nD) :
    iprop(Exit m K Ks d ∗ writeTok ES (key d 0) 9 ∗ writeTok ES (key d 1) 9) ⊢ (|={Set.univ}=> Final m d : sProp 𝕄) := by
  unfold Exit Pos Rdr dvP
  rw [St_final, Gs_final, Wch_final]
  iintro ⟨⟨#HR, ⟨HS, HO⟩, HG, ⟨⟨Hw0, -⟩, ⟨Hw1, -⟩⟩, HW, Hwv, Hwx, ⟨⟨Hs0, -⟩, ⟨Hs1, -⟩⟩, ⟨Hp0, Hp1⟩, Hdv, Hcz, ⟨⟨-, Hl0⟩, ⟨-, Hl1⟩⟩, Hdz, Hbz, Hdy⟩, Ht0, Ht1⟩
  imod (close_cell m K Ks d (.dma (wsem 0)) (R := 8) (dut_later m _)) $$ [Hw0] with Hw0
  · isplitr; · iexact HR
    iexact Hw0
  imod (close_cell m K Ks d (.dma (wsem 1)) (R := 8) (dut_later m _)) $$ [Hw1] with Hw1
  · isplitr; · iexact HR
    iexact Hw1
  imod (close_cell m K Ks d (.dma (ssem 0)) (R := 8) (dut_later m _)) $$ [Hs0] with Hs0
  · isplitr; · iexact HR
    iexact Hs0
  imod (close_cell m K Ks d (.dma (ssem 1)) (R := 8) (dut_later m _)) $$ [Hs1] with Hs1
  · isplitr; · iexact HR
    iexact Hs1
  imod (take_slot m K Ks d 0) $$ [Hl0 Ht0] with Hy0
  · isplitr; · iexact HR
    isplitl [Hl0] <;> iassumption
  imod (take_slot m K Ks d 1) $$ [Hl1 Ht1] with Hy1
  · isplitr; · iexact HR
    isplitl [Hl1] <;> iassumption
  imodintro
  ihave H := (chunks_end m d) $$ [HS HG]
  · isplitl [HS] <;> iassumption
  icases H with ⟨HA, Hout⟩
  unfold wx
  ihave Hwx := (Entails.of_eq (if_neg (show ¬ 16 < 16 by omega))) $$ Hwx
  ihave Hwx := (Entails.of_eq (wvAny_mod d 16)) $$ Hwx
  ihave Hwv := (Entails.of_eq (wvAny_mod d 17)) $$ Hwv
  ihave Hp0 := (Entails.of_eq (pcAny_mod d 14)) $$ Hp0
  ihave Hp1 := (Entails.of_eq (pcAny_mod d 15)) $$ Hp1
  ihave HWv := (wv_join d) $$ [Hwx Hwv]
  · isplitl [Hwx] <;> iassumption
  ihave HPc := (pc_join d) $$ [Hp0 Hp1]
  · isplitl [Hp0] <;> iassumption
  ihave HYr := (yr_join d) $$ [Hy0 Hy1]
  · isplitl [Hy0] <;> iassumption
  unfold Final
  isplitl [HA Hw0 Hw1 Hs0 Hs1 Hdz Hbz Hcz]
  · iapply (Entails.of_eq (all_sems (fun sm : SemLoc sig => (semVal ((d : Thread nD τ), sm) 0 : sProp 𝕄))).symm)
    iframe
  isplitl [HO]; · iexact HO
  isplitl [Hdy]; · iexact Hdy
  isplitl [HW]; · iexact HW
  isplitl [Hout]; · iexact Hout
  isplitl [Hdv]; · iexists (dyR m d); iexact Hdv
  isplitl [HWv]; · iexact HWv
  isplitl [HPc]; · iexact HPc
  iexact HYr

end Cert.KernelIdeal.Hand

end
-- ==== Proof.Run.lean ====
/-
# The run

Every device launched, run and left: the program terminates with its arguments unchanged, its result at `outBuf` and
every counter at zero.
-/
module

public import proofs.«01_k».proof.Proof.Start
public import proofs.«01_k».proof.Proof.Leave
public import proofs.«01_k».proof.Proof.Body
public import proofs.«01_k».proof.Proof.Gen.KernelIdeal.Points
public import Idealize.ShloMosaic.Lib.Pipeline.Launch
public import Idealize.ShloMosaic.Lib.Pipeline.CollectiveSegs

@[expose] public section

set_option maxRecDepth 16384
set_option maxHeartbeats 1000000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]
local notation "𝕄" => MT nD τ sig ℕ (Elt F) ℕ UU ℕ
variable (m : (ℓ : Loc nD τ sig) → Buf (Elt F) ℓ)
variable (K : GSem nD τ sig → ℕ) (Ks : Dev nD × Fin 2 → ℕ)

variable (ρ : Dev nD → PrngReg)
open Idealize.ShloMosaic.Pipeline (Dat Cfg Window BodyObligation)

/-! ## The body's obligation -/

/-- What device `d` has at its launch, the scratch buffers and the debt apart. -/
noncomputable def X₀ (d : Dev nD) : sProp 𝕄 := iprop(∃ K Ks, recs m K Ks ∗ Mine d ∗ Creds d ∗ Args m d)
/-- What it hands back, the scratch buffers and the kernel's own counters apart: its part of the gradient and its weights
as they were, the whole result, and the unscoped counters at zero. -/
noncomputable def Y₁ (d : Dev nD) : sProp 𝕄 :=
  iprop((dyArg m d ∗ ((d : Thread nD τ).loc main_arg1 ↦{fullShare} m ((d : Thread nD τ).loc main_arg1))
    ∗ ((d : Thread nD τ).loc main_v1 ↦{fullShare} outBuf m (yy d))) ∗ unscopedSems0 d)
noncomputable def Φ₀ (d : Dev nD) : sProp 𝕄 := iprop(X₀ m d ∗ Scr d)
noncomputable def Φ₁ (d : Dev nD) : sProp 𝕄 :=
  iprop(Y₁ m d ∗ Pipeline.ownSems0 (Ix := ℕ) (Name := ℕ) (U := UU) (Lvl := ℕ) (Val := Elt F) (τ := τ) osem d ∗ Scr d)

noncomputable def dats (_ : Fin 1) (c : Dev nD) : Dat τ (Elt F) ℕ ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O0 c
    | ⟨_ + 1, _⟩ => 0

theorem final_split (d : Dev nD) : (Final m d : sProp 𝕄) ⊢ iprop(Φ₁ m d ∗ Ow d 0) := by
  unfold Final Φ₁ Y₁ Scr
  rw [← sems_all]
  iintro ⟨⟨HS, HU⟩, HO, H0, H1, H2, S0, S1, S2, S3⟩
  isplitr [HO]; swap; · iexact HO
  isplitl [H0 H1 H2 HU]
  · isplitr [HU]; swap; · iexact HU
    isplitl [H0]; · iexact H0
    isplitl [H1] <;> iassumption
  isplitl [HS]; · iexact HS
  isplitl [S0]; · iexact S0
  isplitl [S1]; · iexact S1
  isplitl [S2] <;> iassumption

/-- The kernel's body takes a device from its launch to its end. -/
theorem whole_body (d : Dev nD) : iprop(Φ₀ m d ∗ Ow d (O0 d)) ⊢ (WP d (cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) (fun _ => iprop(Φ₁ m d ∗ Ow d 0)) : sProp 𝕄) := by
  unfold Φ₀ X₀
  iintro ⟨⟨⟨%K, %Ks, HR, HM, HC, HA⟩, HS⟩, HO⟩
  ihave H := (begin_entry m K Ks d) $$ [HR HM HC HA HS HO]
  · isplitr [HO]; swap; · iexact HO
    unfold Begin
    isplitl [HR]; · iexact HR
    isplitl [HM]; · iexact HM
    isplitl [HC]; · iexact HC
    isplitl [HA] <;> iassumption
  icases H with ⟨HE, HW⟩
  ihave HB := (body m K Ks d) $$ HE
  unfold WP
  iapply wp_fupd
  iapply (wp_wand _ _ _) $$ HB
  iintro %r HX
  unfold WO
  imod (leave m K Ks d) $$ [HX HW] with HF
  · isplitl [HX] <;> iassumption
  imodintro
  iapply (final_split m d)
  iexact HF

theorem body_obligation (c : Dev nD) : BodyObligation (dats (F := F) m 0 c) (defs₀ (F := F)) 𝒱₀ 0 Set.univ := fun t => by
  rw [fin_N0 t]
  have hpre : iprop(Φ₀ m c ∗ (dats (F := F) m 0 c).owesAt 0 t0_0.castSucc) ⊢ (iprop(Φ₀ m c ∗ Ow c (O0 c)) : sProp 𝕄) := by
    unfold Dat.owesAt Pipeline.owesWithin Ow
    iintro ⟨HΦ, %W, -, HO⟩
    isplitl [HΦ]; · iexact HΦ
    iexists W
    iexact HO
  have hpost : iprop(Φ₁ m c ∗ Ow c 0) ⊢ (iprop(Φ₁ m c ∗ (dats (F := F) m 0 c).owesAt 0 t0_0.succ) : sProp 𝕄) := by
    unfold Dat.owesAt Pipeline.owesWithin Ow
    iintro ⟨HΦ, %W, HO⟩
    isplitl [HΦ]; · iexact HΦ
    iexists W
    isplitr; · ipureintro; exact fun _ _ => Or.inl trivial
    iexact HO
  show iprop(Φ₀ m c ∗ (dats (F := F) m 0 c).owesAt 0 t0_0.castSucc ∗ bigSep (Finset.univ : Finset (Fin 0)) _)
    ⊢ wp frame (wpE (defs₀ (F := F)) 𝒱₀ c none) Set.univ (bodyAt0 t0_0) (fun _ => iprop(Φ₁ m c ∗ (dats (F := F) m 0 c).owesAt 0 t0_0.succ ∗ bigSep (Finset.univ : Finset (Fin 0)) _))
  iintro ⟨HΦ, HO, -⟩
  ihave H := hpre $$ [HΦ HO]
  · isplitl [HΦ] <;> iassumption
  ihave HB := (whole_body m c) $$ H
  unfold WP
  iapply (wp_wand _ _ _) $$ HB
  iintro %r H
  ihave H := hpost $$ H
  icases H with ⟨HΦ, HO⟩
  isplitl [HΦ]; · iexact HΦ
  isplitl [HO]; · iexact HO
  rw [Finset.univ_eq_empty, bigSep_empty]
  iempintro

/-! ## The launch's side conditions -/

theorem ownSemFacts : Pipeline.OwnSemFacts cfg0.spec osem := ⟨fun k => k.2, Subtype.val_injective, fun k w => w.elim0⟩

theorem launch_in (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ (|={Set.univ}=> iprop(X₀ m c ∗ Far m c) : sProp 𝕄) := by
  rw [Pipeline.unscopedRestP_none, unscopedRest0_eq]
  unfold G' X₀
  iintro ⟨HA, HL, HC, -, ⟨%K, %Ks, HR, HM⟩⟩
  ihave HC := (creds c) $$ HC
  ihave HA := (args m c) $$ HA
  icases HA with ⟨HA, HF⟩
  imodintro
  isplitr [HF]; swap; · iexact HF
  iexists K, Ks
  isplitl [HR HL]
  · unfold recs0 recs
    icases HR with ⟨HR, HK⟩
    isplitl [HR]; · iexact HR
    isplitl [HK] <;> iassumption
  isplitl [HM]; · iexact HM
  isplitl [HC] <;> iassumption

theorem body_in (c : Dev nD) :
    iprop(X₀ m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ Scr
  iintro ⟨HX, -, HS⟩
  isplitl [HX] <;> iassumption

theorem body_out (c : Dev nD) :
    (dats (F := F) m 0 c).Φ (Fin.last cfg0.N) ⊢ iprop(Y₁ m c ∗ Pipeline.ownSems0 osem c ∗ Pipeline.scopedRest cfg0.spec c) := by
  rw [show (dats (F := F) m 0 c).Φ (Fin.last cfg0.N) = Φ₁ m c from rfl, scopedRest0_eq]
  unfold Φ₁ Scr
  exact Entails.refl _

/-- What a final state has on device `c`. -/
def QY (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = outBuf m (yy c)) ∧ ∀ sm : SemLoc sig, sm.isScoped .tc = false → s.sem ((c.tc : Thread nD τ), sm) = 0

theorem read_one (ℓ : Loc nD τ sig) (f : Buf (Elt F) ℓ) (s' : Phys nD τ sig (Elt F)) : iprop((ℓ ↦{fullShare} f) ∗ SI s') ⊢ (iprop(⌜s'.mem.mem ℓ = f⌝ ∗ SI s') : sProp 𝕄) := by
  have h := pointsTo_read_all (Ix := ℕ) (Name := ℕ) (U := UU) (Lvl := ℕ) (Finset.univ : Finset (Fin 1)) (fun _ => ℓ) (fun _ => f) s'
  rw [Finset.univ_unique, bigSep_singleton] at h
  iintro ⟨H, HS⟩
  ihave H := h $$ [H HS]
  · isplitl [H] <;> iassumption
  icases H with ⟨%H, HS⟩
  isplitr; · ipureintro; exact H 0 (Finset.mem_singleton_self _)
  iexact HS

theorem read_out (c : Dev nD) (s' : Phys nD τ sig (Elt F)) : iprop(Y₁ m c ∗ Far m c ∗ SI s') ⊢ (|={Set.univ}=> iprop(⌜QY m c s'.mem⌝ ∗ SI s') : sProp 𝕄) := by
  unfold Y₁
  iintro ⟨⟨⟨H0, H1, H2⟩, HU⟩, HF, HS⟩
  ihave H0 := (dy_split m c).2 $$ [H0 HF]
  · isplitl [H0] <;> iassumption
  ihave HS := (read_one _ _ s') $$ [H0 HS]
  · isplitl [H0] <;> iassumption
  icases HS with ⟨%e0, HS⟩
  ihave HS := (read_one _ _ s') $$ [H1 HS]
  · isplitl [H1] <;> iassumption
  icases HS with ⟨%e1, HS⟩
  ihave HS := (read_one _ _ s') $$ [H2 HS]
  · isplitl [H2] <;> iassumption
  icases HS with ⟨%e2, HS⟩
  imod (Pipeline.unscopedSems0_read (X := unscopedSems0 c) (c := c) fupd_intro s') $$ [HU HS] with ⟨%e3, HS⟩
  · isplitl [HU] <;> iassumption
  imodintro
  isplitr; · ipureintro; exact ⟨⟨e0, e1, e2⟩, e3⟩
  iexact HS

/-! ## The run -/

/-- From any memory with zero counters, for any float values, on the mesh of eight devices: every weakly fair execution
of the program terminates, and every final state has on each device its arguments unchanged, its result buffer at
`outBuf`, and every semaphore counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0) ∧ r.2.mem ((c : Thread nD τ).loc main_arg1) = m ((c : Thread nD τ).loc main_arg1))
      ∧ r.2.mem ((c : Thread nD τ).loc main_v1) = outBuf m (yy c)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O0) (howed₀ := fun _ => rfl) (howedN := fun _ => rfl)
    (L := L) (lv := lv) (hL := L_of_ne) (hwaits := fun c => Pipeline.cellsWaits_intro cfgs (dats m) 0 0 c fun w => w.elim0)
    (G := G m) (G' := G' m) (u₀ := u₀) (hu₀ := fund_all m) (hglob := glob m)
    (hA := fun _ w => w.elim0) (hpf := fun _ k => k.elim0)
    (X := X₀ m) (Y := Y₁ m) (Z := Far m)
    (hX := launch_in m ρ) (hin := body_in m) (hout := body_out m)
    (QY := QY m) (hY := read_out m)
    (hQ := fun _ h hs => ⟨fun c => ⟨⟨(h c).2.2.1.1, (h c).2.2.1.2.1⟩, (h c).2.2.1.2.2⟩, sem_eq_zero hs fun c => (h c).2.2.2⟩)

end Cert.KernelIdeal.Hand

end
-- ==== Proof.Value.lean ====
/-
# The value

At the ideal values the result buffer of every device holds the product of the whole operands: the two devices across
the `y` axis sum the two halves of the contracted positions.
-/
module

public import proofs.«01_k».proof.Proof.Spec
public import Idealize.ShloMosaic.Lib.MatmulPlain
public import Idealize.ShloMosaic.Lib.Layout

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

open Idealize.ShloMosaic.ValueIdx

/-! ## The reference's product -/

/-- Row `r`, column `k` of a whole operand. -/
def ixR (r k : ℕ) : (⟨2, ![4096, 16384]⟩ : Shape).Idx := ix2 (n0 := 4096) (n1 := 16384) ⟨r % 4096, Nat.mod_lt _ (by decide)⟩ ⟨k % 16384, Nat.mod_lt _ (by decide)⟩
/-- The term `k` of entry `(r, c)` of the product `A · Bᵀ`. -/
def term (A B : (⟨2, ![4096, 16384]⟩ : Shape).Idx → EReal) (r c k : ℕ) : EReal := A (ixR r k) * B (ixR c k)
/-- The product `A · Bᵀ`. -/
def prod (A B : (⟨2, ![4096, 16384]⟩ : Shape).Idx → EReal) : S4096x4096.Idx → EReal := fun i =>
  ∑ k : Fin 16384, term A B (i 0).val (i 1).val k.val

variable (A B : (⟨2, ![4096, 16384]⟩ : Shape).Idx → EReal)
variable (mI : (ℓ : Loc nD τ sig) → Buf (Elt Ideal) ℓ)

/-- Every device's operands are its part of the whole operands. -/
def Holds : Prop := ∀ c : Dev nD,
  mI ((c : Thread nD τ).loc main_arg0) = Layout.blockN ⟨2, ![4096, 8192]⟩ ⟨2, ![4096, 16384]⟩ (Layout.meshBlock [2, 2, 2] ![[], [1]] c) A
  ∧ mI ((c : Thread nD τ).loc main_arg1) = Layout.blockN ⟨2, ![4096, 8192]⟩ ⟨2, ![4096, 16384]⟩ (Layout.meshBlock [2, 2, 2] ![[], [1]] c) B

/-- A device's part of a whole operand: all rows, the columns of its half. -/
theorem part_apply (c : Dev nD) (i : S4096x8192.Idx) :
    (Layout.blockN ⟨2, ![4096, 8192]⟩ ⟨2, ![4096, 16384]⟩ (Layout.meshBlock [2, 2, 2] ![[], [1]] c) A : S4096x8192.Idx → EReal) i = A (ixR (i 0).val (8192 * yy c + (i 1).val)) := by
  rw [Layout.blockN_apply]
  congr 1
  have h0 : (i 0).val < 4096 := (i 0).isLt
  have h1 : (i 1).val < 8192 := (i 1).isLt
  have hy : yy c < 2 := Nat.mod_lt _ (by decide)
  have hm : Layout.meshLin [2, 2, 2] c.val [1] = yy c := by
    show c.val / (2 * 1) % 2 * 1 + 0 = c.val / 2 % 2
    omega
  funext a
  apply Fin.ext
  match a with
  | ⟨0, _⟩ =>
    show 0 * 4096 + (i 0).val = (i 0).val % 4096
    omega
  | ⟨1, _⟩ =>
    show Layout.meshLin [2, 2, 2] c.val [1] * 8192 + (i 1).val = (8192 * yy c + (i 1).val) % 16384
    rw [hm]
    omega

/-! ## A device's partial products -/

theorem dyR_apply (h : Holds A B mI) (d : Dev nD) (r : Fin 1024) (k : Fin 8192) :
    dyR mI d (ix2 r k) = A (ixR (1024 * (bown d).val + r.val) (8192 * yy d + k.val)) := by
  have e : dyR mI d (ix2 r k) = mI ((d : Thread nD τ).loc main_arg0) ((dyV (bown d)).view.emb (ix2 r k)) := rfl
  rw [e, (h d).1, part_apply]
  have h0 : (((dyV (bown d)).view.emb (ix2 r k) : S4096x8192.Idx) 0 : ℕ) = 1024 * (bown d).val + 1 * r.val := rfl
  have h1 : (((dyV (bown d)).view.emb (ix2 r k) : S4096x8192.Idx) 1 : ℕ) = 0 + 1 * k.val := rfl
  rw [h0, h1, Nat.one_mul, Nat.one_mul, Nat.zero_add]
theorem waR_apply (h : Holds A B mI) (d : Dev nD) (j : ℕ) (c : Fin 256) (k : Fin 8192) :
    waR mI d j (ix2 c k) = B (ixR (256 * (j % 16) + c.val) (8192 * yy d + k.val)) := by
  have e : waR mI d j (ix2 c k) = mI ((d : Thread nD τ).loc main_arg1) ((waV j).view.emb (ix2 c k)) := rfl
  rw [e, (h d).2, part_apply]
  have h0 : (((waV j).view.emb (ix2 c k) : S4096x8192.Idx) 0 : ℕ) = 256 * (j % 16) + 1 * c.val := rfl
  have h1 : (((waV j).view.emb (ix2 c k) : S4096x8192.Idx) 1 : ℕ) = 0 + 1 * k.val := rfl
  rw [h0, h1, Nat.one_mul, Nat.one_mul, Nat.zero_add]

/-- A device's partial product sums the terms of its half. -/
theorem mm_apply (h : Holds A B mI) (d : Dev nD) (j : ℕ) (r : Fin 1024) (c : Fin 256) :
    mm mI d j (ix2 r c) = ∑ k : Fin 8192, term A B (1024 * (bown d).val + r.val) (256 * (j % 16) + c.val) (8192 * yy d + k.val) := by
  have e : mm mI d j (ix2 r c) = FloatOps.matmul (DotDims.transposedRhs 1024 8192 256) none (dyR mI d) (waR mI d j) (constant S1024x256 .f32 0x00000000#32) (ix2 r c) := rfl
  rw [e, Ideal.matmul_transposedRhs_apply]
  have z : (constant (F := Ideal) S1024x256 .f32 0x00000000#32 : FVec Ideal S1024x256 .f32) (ix2 r c) = (0 : EReal) := Ideal.ofBits_zero_f32
  rw [z, zero_add]
  refine Finset.sum_congr rfl fun k _ => ?_
  rw [dyR_apply A B mI h, waR_apply A B mI h]
  rfl

theorem bown_yn (d : Dev nD) : bown (yn d) = bown d := by revert d; decide
theorem yy_yn (d : Dev nD) : yy (yn d) = 1 - yy d := by revert d; decide
theorem bown_devOf (y : ℕ) (b : Fin 4) : bown (devOf y b) = b := by
  apply Fin.ext
  have := b.isLt
  show 2 * ((4 * (b.val / 2) + 2 * (y % 2) + b.val % 2) / 4) + (4 * (b.val / 2) + 2 * (y % 2) + b.val % 2) % 2 = b.val
  omega

/-- The two halves of the contracted positions, in either order. -/
theorem two_halves (f : ℕ → EReal) (y : ℕ) (hy : y < 2) :
    (∑ k : Fin 8192, f (8192 * y + k.val)) + ∑ k : Fin 8192, f (8192 * (1 - y) + k.val) = ∑ k : Fin 16384, f k.val := by
  have e : ∑ k : Fin 16384, f k.val = (∑ k : Fin 8192, f (8192 * 0 + k.val)) + ∑ k : Fin 8192, f (8192 * 1 + k.val) := by
    rw [show (16384 : ℕ) = 8192 + 8192 from rfl, Fin.sum_univ_add]
    simp only [Fin.val_castAdd, Fin.val_natAdd, Nat.mul_zero, Nat.zero_add, Nat.mul_one]
  rw [e]
  obtain rfl | rfl : y = 0 ∨ y = 1 := by omega
  · rfl
  · exact add_comm _ _

/-- An entry of the result. -/
theorem entry_eq (h : Holds A B mI) (y r c : ℕ) (h0 : r < 4096) (h1 : c < 4096) :
    red mI (devOf y ⟨r / 1024 % 4, Nat.mod_lt _ (by decide)⟩) (c / 256) (ixW r c) = (∑ k : Fin 16384, term A B r c k.val : EReal) := by
  generalize hd : devOf y ⟨r / 1024 % 4, Nat.mod_lt _ (by decide)⟩ = d
  have hb : (bown d).val = r / 1024 % 4 := by rw [← hd, bown_devOf]
  have hi : ixW r c = ix2 (n0 := 1024) (n1 := 256) ⟨r % 1024, Nat.mod_lt _ (by decide)⟩ ⟨c % 256, Nat.mod_lt _ (by decide)⟩ := by
    funext a
    apply Fin.ext
    match a with
    | ⟨0, _⟩ => rfl
    | ⟨1, _⟩ => rfl
  have ea : red mI d (c / 256) (ixW r c) = (mm mI d (c / 256) (ixW r c) + mm mI (yn d) (c / 256) (ixW r c) : EReal) := rfl
  rw [ea, hi, mm_apply A B mI h, mm_apply A B mI h, bown_yn, yy_yn, hb]
  have er : 1024 * (r / 1024 % 4) + r % 1024 = r := by omega
  have ec : 256 * (c / 256 % 16) + c % 256 = c := by omega
  simp only [er, ec]
  exact two_halves (fun k => term A B r c k) (yy d) (Nat.mod_lt _ (by decide))
/-- The result is the product of the whole operands, whichever half a device holds. -/
theorem outBuf_eq (h : Holds A B mI) (y : ℕ) : outBuf mI y = (prod A B : S4096x4096.Idx → EReal) :=
  funext fun (i : S4096x4096.Idx) => entry_eq A B mI h y (i 0).val (i 1).val (i 0).isLt (i 1).isLt

end Cert.KernelIdeal.Hand

end
-- ==== Proof.Ref.lean ====
/-
# The reference's result

At the ideal values the reference's product, of the gradient with the transposed weights, is the product `prod` that the
kernel's result was shown to be.
-/
module

public import proofs.«01_k».proof.Proof.Value
public import proofs.«01_k».proof.Proof.Gen.ReferenceIdeal.Run
public import Idealize.ShloMosaic.Lib.StackMember

@[expose] public section

noncomputable section

namespace Cert.ReferenceIdeal.Hand

open Cert.ReferenceIdeal Cert.ReferenceIdeal.Gen
open Idealize.ShloMosaic Idealize.ShloMosaic.TcCoe Idealize.ShloMosaic.ValueIdx Idealize.SL.Sem
open Cert.KernelIdeal.Hand (prod term ixR)

/-- Entry `(r, c)` of the reference's result sums the products of row `r` of the gradient and row `c` of the weights. -/
theorem result_eq (A B : FVec Ideal S4096x16384 .f32) :
    Host.dotGeneral dot_S4096x16384_S16384x4096_S4096x4096_1_0_0_1_n_n none A (transpose S16384x4096 [1, 0] B transposes_S4096x16384_S16384x4096_1_0)
      = (prod A B : S4096x4096.Idx → EReal) := by
  funext i
  obtain ⟨r, c, rfl⟩ : ∃ r c, i = ix2 (n0 := 4096) (n1 := 4096) r c := ⟨i 0, i 1, eq_ix2 i⟩
  refine (StackMember.dotGeneral_plain_apply (m := 4096) (n := 4096) (k := 16384) none A _ r c).trans ?_
  refine Finset.sum_congr rfl fun k _ => ?_
  have hA : ixR r.val k.val = ix2 (n0 := 4096) (n1 := 16384) r k := by
    unfold ixR
    congr 1
    · exact Fin.ext (Nat.mod_eq_of_lt r.isLt)
    · exact Fin.ext (Nat.mod_eq_of_lt k.isLt)
  have hB : ixR c.val k.val = ix2 (n0 := 4096) (n1 := 16384) c k := by
    unfold ixR
    congr 1
    · exact Fin.ext (Nat.mod_eq_of_lt c.isLt)
    · exact Fin.ext (Nat.mod_eq_of_lt k.isLt)
  show A (ix2 r k) * _ = A (ixR r.val k.val) * B (ixR c.val k.val)
  rw [hA, hB]
  congr 1
  show B _ = B _
  congr 1
  funext a
  apply Fin.ext
  match a with
  | ⟨0, _⟩ => rfl
  | ⟨1, _⟩ => rfl

end Cert.ReferenceIdeal.Hand

end
-- ==== Proof.lean ====
/-
# The certificate

Five claims about the matrix product on a mesh of eight devices, each holding half of the contracted columns of the
gradient and of the weights: the kernel, read at the machine's floats and at the ideal values, and the reference
terminate with their arguments unchanged and every semaphore counter at zero; the ideal program is the kernel's own text;
and at the ideal values every device ends with the reference's whole result.

The protocol, the body and the launch are in `Proof/` for the ideal program's text (`Proof/Run.lean` states the run,
at any float values) and in `Proof/K/` for the kernel's; `Proof/Value.lean` and `Proof/Ref.lean` give the value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.K.Run
public import proofs.«01_k».proof.Proof.Value
public import proofs.«01_k».proof.Proof.Ref

@[expose] public section

noncomputable section

namespace Cert.Proof

open Idealize.ShloMosaic Idealize.ShloMosaic.TcCoe Idealize.SL.Sem

/-- The kernel runs, leaves its arguments unchanged, and ends with every counter at zero. -/
theorem kernel_quiescent : quiescent_Kernel (hKernel := Cert.Kernel.Gen.facts) := fun m ρ _ =>
  (θ_run Cert.Kernel.defs _ _).mono (fun _ h => ⟨fun c => (h.1 c).1, h.2⟩) (Cert.Kernel.Hand.run_main m ρ)

/-- So does the ideal program. -/
theorem ideal_quiescent : quiescent_KernelIdeal (hKernelIdeal := Cert.KernelIdeal.Gen.facts) := fun m ρ _ =>
  (θ_run Cert.KernelIdeal.defs _ _).mono (fun _ h => ⟨fun c => (h.1 c).1, h.2⟩) (Cert.KernelIdeal.Hand.run_main m ρ)

/-- So does the reference, which has no semaphores. -/
theorem reference_quiescent : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- Every device's result is the reference's. -/
theorem same_product : algebraic_KernelIdeal_ReferenceIdeal (hKernelIdeal := Cert.KernelIdeal.Gen.facts) (hReferenceIdeal := Cert.ReferenceIdeal.Gen.facts) :=
  fun m g m' g' _ hparts => by
    refine ⟨(Cert.KernelIdeal.Hand.prod (m' (((0 : Dev Cert.ReferenceIdeal.nD) : Thread Cert.ReferenceIdeal.nD Cert.ReferenceIdeal.τ).loc Cert.ReferenceIdeal.main_arg0))
        (m' (((0 : Dev Cert.ReferenceIdeal.nD) : Thread Cert.ReferenceIdeal.nD Cert.ReferenceIdeal.τ).loc Cert.ReferenceIdeal.main_arg1)) :
          Cert.ReferenceIdeal.S4096x4096.Idx → EReal), (θ_run Cert.KernelIdeal.defs _ _).mono (fun r h c => ?_) (Cert.KernelIdeal.Hand.run_main m g),
      (θ_run Cert.ReferenceIdeal.defs _ _).mono (fun r h => ?_) (Cert.ReferenceIdeal.Value.run m' g')⟩
    · exact ⟨(h.1 c).2.trans (Cert.KernelIdeal.Hand.outBuf_eq _ _ m hparts _), (h.1 c).1⟩
    · exact ⟨(h 0).1.trans (Cert.ReferenceIdeal.Hand.result_eq _ _), (h 0).2⟩

theorem claim : Cert.Claim :=
  ⟨Cert.Kernel.Gen.facts, Cert.KernelIdeal.Gen.facts, Cert.ReferenceIdeal.Gen.facts,
    kernel_quiescent, ideal_quiescent, reference_quiescent, trivial, same_product⟩

end Cert.Proof

end
